-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_v74) = v2 c
          ∧ r.2.mem ((c.tc : Thread Cert.ReferenceIdeal.nD Cert.ReferenceIdeal.τ).loc Cert.ReferenceIdeal.main_v75) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernelIdeal : Cert.KernelIdeal.Facts) (hReferenceIdeal : Cert.ReferenceIdeal.Facts),
    quiescent_KernelIdeal (hKernelIdeal := hKernelIdeal)
    ∧ quiescent_ReferenceIdeal (hReferenceIdeal := hReferenceIdeal)
    ∧ algebraic_KernelIdeal_ReferenceIdeal (hKernelIdeal := hKernelIdeal) (hReferenceIdeal := hReferenceIdeal)
-- ==== KernelIdeal.lean ====
abbrev S32768x4096 : Shape := ⟨2, ![32768, 4096]⟩
abbrev S512x4096 : Shape := ⟨2, ![512, 4096]⟩
abbrev S64x512 : Shape := ⟨2, ![64, 512]⟩
abbrev S1 : Shape := ⟨1, ![1]⟩
abbrev S1x1 : Shape := ⟨2, ![1, 1]⟩
abbrev S32x8x128 : Shape := ⟨3, ![32, 8, 128]⟩
abbrev S32x1x64 : Shape := ⟨3, ![32, 1, 64]⟩
abbrev S1x64 : Shape := ⟨2, ![1, 64]⟩
abbrev S1024x4096 : Shape := ⟨2, ![1024, 4096]⟩
abbrev S1x8x128 : Shape := ⟨3, ![1, 8, 128]⟩
abbrev S1x1x64 : Shape := ⟨3, ![1, 1, 64]⟩
abbrev S1024x512 : Shape := ⟨2, ![1024, 512]⟩
abbrev S1024 : Shape := ⟨1, ![1024]⟩
abbrev S1024x1 : Shape := ⟨2, ![1024, 1]⟩
abbrev S64 : Shape := ⟨1, ![64]⟩
abbrev S64x1 : Shape := ⟨2, ![64, 1]⟩
abbrev S1024x64 : Shape := ⟨2, ![1024, 64]⟩
abbrev S64x64 : Shape := ⟨2, ![64, 64]⟩
abbrev S1x1x1 : Shape := ⟨3, ![1, 1, 1]⟩
abbrev S256x128 : Shape := ⟨2, ![256, 128]⟩
abbrev S32x64 : Shape := ⟨2, ![32, 64]⟩
abbrev S_ : Shape := ⟨0, ![]⟩
abbrev S32x128 : Shape := ⟨2, ![32, 128]⟩
abbrev S32768 : Shape := ⟨1, ![32768]⟩
abbrev S8x128 : Shape := ⟨2, ![8, 128]⟩
abbrev S128 : Shape := ⟨1, ![128]⟩
abbrev S1x128 : Shape := ⟨2, ![1, 128]⟩
abbrev S16 : Shape := ⟨1, ![16]⟩
abbrev S1x16 : Shape := ⟨2, ![1, 16]⟩

abbrev nBuf : Table → Nat
  | .hbm => 21
  | .local .tc .vmem => 13
  | .local .scVector .vmem => 5
  | _ => 0

abbrev bufTy : (tb : Table) → Fin (nBuf tb) → BufTy
  | .hbm, ⟨0, _⟩ => ⟨S32768x4096, .f32⟩
  | .hbm, ⟨1, _⟩ => ⟨S512x4096, .f32⟩
  | .hbm, ⟨2, _⟩ => ⟨S64x512, .f32⟩
  | .hbm, ⟨3, _⟩ => ⟨S1, .f32⟩
  | .hbm, ⟨4, _⟩ => ⟨S1x1, .f32⟩
  | .hbm, ⟨5, _⟩ => ⟨S32x8x128, .i32⟩
  | .hbm, ⟨6, _⟩ => ⟨S32x1x64, .i32⟩
  | .hbm, ⟨7, _⟩ => ⟨S1x64, .i32⟩
  | .hbm, ⟨8, _⟩ => ⟨S1x64, .i32⟩
  | .hbm, ⟨9, _⟩ => ⟨S1x1, .f32⟩
  | .hbm, ⟨10, _⟩ => ⟨S256x128, .i32⟩
  | .hbm, ⟨11, _⟩ => ⟨S32x64, .i32⟩
  | .hbm, ⟨12, _⟩ => ⟨S32x64, .i32⟩
  | .hbm, ⟨13, _⟩ => ⟨S32x64, .i32⟩
  | .hbm, ⟨14, _⟩ => ⟨S_, .i32⟩
  | .hbm, ⟨15, _⟩ => ⟨S32x128, .i32⟩
  | .hbm, ⟨16, _⟩ => ⟨S_, .i32⟩
  | .hbm, ⟨17, _⟩ => ⟨S1, .i32⟩
  | .hbm, ⟨18, _⟩ => ⟨S32x128, .i32⟩
  | .hbm, ⟨19, _⟩ => ⟨S32768, .i32⟩
  | .hbm, ⟨20, _⟩ => ⟨S_, .f32⟩
  | .local .tc .vmem, ⟨0, _⟩ => ⟨S1024x4096, .f32⟩
  | .local .tc .vmem, ⟨1, _⟩ => ⟨S1024x4096, .f32⟩
  | .local .tc .vmem, ⟨2, _⟩ => ⟨S512x4096, .f32⟩
  | .local .tc .vmem, ⟨3, _⟩ => ⟨S64x512, .f32⟩
  | .local .tc .vmem, ⟨4, _⟩ => ⟨S1x1, .f32⟩
  | .local .tc .vmem, ⟨5, _⟩ => ⟨S1x8x128, .i32⟩
  | .local .tc .vmem, ⟨6, _⟩ => ⟨S1x8x128, .i32⟩
  | .local .tc .vmem, ⟨7, _⟩ => ⟨S1x1x64, .i32⟩
  | .local .tc .vmem, ⟨8, _⟩ => ⟨S1x1x64, .i32⟩
  | .local .tc .vmem, ⟨9, _⟩ => ⟨S1x64, .i32⟩
  | .local .tc .vmem, ⟨10, _⟩ => ⟨S1x64, .i32⟩
  | .local .tc .vmem, ⟨11, _⟩ => ⟨S1x1, .f32⟩
  | .local .tc .vmem, ⟨12, _⟩ => ⟨S1x64, .f32⟩
  | .local .scVector .vmem, ⟨0, _⟩ => ⟨S8x128, .i32⟩
  | .local .scVector .vmem, ⟨1, _⟩ => ⟨S128, .i32⟩
  | .local .scVector .vmem, ⟨2, _⟩ => ⟨S64, .i32⟩
  | .local .scVector .vmem, ⟨3, _⟩ => ⟨S8x128, .i32⟩
  | .local .scVector .vmem, ⟨4, _⟩ => ⟨S8x128, .i32⟩
  | _, _ => ⟨S32768x4096, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => false
  | ⟨13, _⟩ => false
  | ⟨14, _⟩ => false
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v2_scv : Ref sig .scVector := ⟨.hbm, 10, rfl⟩
abbrev main_v8_scv : Ref sig .scVector := ⟨.hbm, 18, rfl⟩
abbrev main_v9_scv : Ref sig .scVector := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v73 : BitVec 1 := Scalar.cmpi .eq arg0 c31_i32
  let v74 : BitVec 32 := Scalar.extui v73
  let c0_i32_38 : BitVec 32 := 0#32
  let v75 : BitVec 1 := Scalar.cmpi .ne v74 c0_i32_38
  v75

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x8x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x64 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x64 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v3 : BitVec 32 := Scalar.muli v1 c8_i32
  let c0_i32 : BitVec 32 := 0#32
  ![v3.toNat, 0]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_1 : BitVec 32 := 0#32
  ![v1.toNat, 0]

def k1_chk1 (v33 : IVec S16 32) : Prop :=
  (∀ a x, ((![v33] : Fin 1 → IVec S16 32) a x).toNat < S64.size a) ∧
  (∀ a x, ((![v33] : Fin 1 → IVec S16 32) a x).toNat < S64.size a)
theorem k1_idx1_inb : ∀ (v33 : IVec S16 32) (k1_hw1 : k1_chk1 v33), ∀ a x, ((![v33] : Fin 1 → IVec S16 32) a x).toNat < S64.size a := fun v33 k1_hw1 => k1_hw1.1
theorem k1_idx2_inb : ∀ (v33 : IVec S16 32) (k1_hw1 : k1_chk1 v33), ∀ a x, ((![v33] : Fin 1 → IVec S16 32) a x).toNat < S64.size a := fun v33 k1_hw1 => k1_hw1.2

def k1_chk2 (v50 : IVec S16 32) : Prop :=
  (∀ a x, ((![v50] : Fin 1 → IVec S16 32) a x).toNat < S64.size a) ∧
  (∀ a x, ((![v50] : Fin 1 → IVec S16 32) a x).toNat < S64.size a)
theorem k1_idx3_inb : ∀ (v50 : IVec S16 32) (k1_hw2 : k1_chk2 v50), ∀ a x, ((![v50] : Fin 1 → IVec S16 32) a x).toNat < S64.size a := fun v50 k1_hw2 => k1_hw2.1
theorem k1_idx4_inb : ∀ (v50 : IVec S16 32) (k1_hw2 : k1_chk2 v50), ∀ a x, ((![v50] : Fin 1 → IVec S16 32) a x).toNat < S64.size a := fun v50 k1_hw2 => k1_hw2.2

def k1_chk3 (v67 : IVec S16 32) : Prop :=
  (∀ a x, ((![v67] : Fin 1 → IVec S16 32) a x).toNat < S64.size a) ∧
  (∀ a x, ((![v67] : Fin 1 → IVec S16 32) a x).toNat < S64.size a)
theorem k1_idx5_inb : ∀ (v67 : IVec S16 32) (k1_hw3 : k1_chk3 v67), ∀ a x, ((![v67] : Fin 1 → IVec S16 32) a x).toNat < S64.size a := fun v67 k1_hw3 => k1_hw3.1
theorem k1_idx6_inb : ∀ (v67 : IVec S16 32) (k1_hw3 : k1_chk3 v67), ∀ a x, ((![v67] : Fin 1 → IVec S16 32) a x).toNat < S64.size a := fun v67 k1_hw3 => k1_hw3.2

def k1_chk4 (v84 : IVec S16 32) : Prop :=
  (∀ a x, ((![v84] : Fin 1 → IVec S16 32) a x).toNat < S64.size a) ∧
  (∀ a x, ((![v84] : Fin 1 → IVec S16 32) a x).toNat < S64.size a)
theorem k1_idx7_inb : ∀ (v84 : IVec S16 32) (k1_hw4 : k1_chk4 v84), ∀ a x, ((![v84] : Fin 1 → IVec S16 32) a x).toNat < S64.size a := fun v84 k1_hw4 => k1_hw4.1
theorem k1_idx8_inb : ∀ (v84 : IVec S16 32) (k1_hw4 : k1_chk4 v84), ∀ a x, ((![v84] : Fin 1 → IVec S16 32) a x).toNat < S64.size a := fun v84 k1_hw4 => k1_hw4.2

def k1_chk5 (v101 : IVec S16 32) : Prop :=
  (∀ a x, ((![v101] : Fin 1 → IVec S16 32) a x).toNat < S64.size a) ∧
  (∀ a x, ((![v101] : Fin 1 → IVec S16 32) a x).toNat < S64.size a)
theorem k1_idx9_inb : ∀ (v101 : IVec S16 32) (k1_hw5 : k1_chk5 v101), ∀ a x, ((![v101] : Fin 1 → IVec S16 32) a x).toNat < S64.size a := fun v101 k1_hw5 => k1_hw5.1
theorem k1_idx10_inb : ∀ (v101 : IVec S16 32) (k1_hw5 : k1_chk5 v101), ∀ a x, ((![v101] : Fin 1 → IVec S16 32) a x).toNat < S64.size a := fun v101 k1_hw5 => k1_hw5.2

def k1_chk6 (v118 : IVec S16 32) : Prop :=
  (∀ a x, ((![v118] : Fin 1 → IVec S16 32) a x).toNat < S64.size a) ∧
  (∀ a x, ((![v118] : Fin 1 → IVec S16 32) a x).toNat < S64.size a)
theorem k1_idx11_inb : ∀ (v118 : IVec S16 32) (k1_hw6 : k1_chk6 v118), ∀ a x, ((![v118] : Fin 1 → IVec S16 32) a x).toNat < S64.size a := fun v118 k1_hw6 => k1_hw6.1
theorem k1_idx12_inb : ∀ (v118 : IVec S16 32) (k1_hw6 : k1_chk6 v118), ∀ a x, ((![v118] : Fin 1 → IVec S16 32) a x).toNat < S64.size a := fun v118 k1_hw6 => k1_hw6.2

def k1_chk7 (v135 : IVec S16 32) : Prop :=
  (∀ a x, ((![v135] : Fin 1 → IVec S16 32) a x).toNat < S64.size a) ∧
  (∀ a x, ((![v135] : Fin 1 → IVec S16 32) a x).toNat < S64.size a)
theorem k1_idx13_inb : ∀ (v135 : IVec S16 32) (k1_hw7 : k1_chk7 v135), ∀ a x, ((![v135] : Fin 1 → IVec S16 32) a x).toNat < S64.size a := fun v135 k1_hw7 => k1_hw7.1
theorem k1_idx14_inb : ∀ (v135 : IVec S16 32) (k1_hw7 : k1_chk7 v135), ∀ a x, ((![v135] : Fin 1 → IVec S16 32) a x).toNat < S64.size a := fun v135 k1_hw7 => k1_hw7.2

def k1_chk8 (v152 : IVec S16 32) : Prop :=
  (∀ a x, ((![v152] : Fin 1 → IVec S16 32) a x).toNat < S64.size a) ∧
  (∀ a x, ((![v152] : Fin 1 → IVec S16 32) a x).toNat < S64.size a)
theorem k1_idx15_inb : ∀ (v152 : IVec S16 32) (k1_hw8 : k1_chk8 v152), ∀ a x, ((![v152] : Fin 1 → IVec S16 32) a x).toNat < S64.size a := fun v152 k1_hw8 => k1_hw8.1
theorem k1_idx16_inb : ∀ (v152 : IVec S16 32) (k1_hw8 : k1_chk8 v152), ∀ a x, ((![v152] : Fin 1 → IVec S16 32) a x).toNat < S64.size a := fun v152 k1_hw8 => k1_hw8.2

def k1_chk9 (v174 : IVec S16 32) : Prop :=
  (∀ a x, ((![v174] : Fin 1 → IVec S16 32) a x).toNat < S64.size a) ∧
  (∀ a x, ((![v174] : Fin 1 → IVec S16 32) a x).toNat < S64.size a)
theorem k1_idx17_inb : ∀ (v174 : IVec S16 32) (k1_hw9 : k1_chk9 v174), ∀ a x, ((![v174] : Fin 1 → IVec S16 32) a x).toNat < S64.size a := fun v174 k1_hw9 => k1_hw9.1
theorem k1_idx18_inb : ∀ (v174 : IVec S16 32) (k1_hw9 : k1_chk9 v174), ∀ a x, ((![v174] : Fin 1 → IVec S16 32) a x).toNat < S64.size a := fun v174 k1_hw9 => k1_hw9.2

def k1_chk10 (v191 : IVec S16 32) : Prop :=
  (∀ a x, ((![v191] : Fin 1 → IVec S16 32) a x).toNat < S64.size a) ∧
  (∀ a x, ((![v191] : Fin 1 → IVec S16 32) a x).toNat < S64.size a)
theorem k1_idx19_inb : ∀ (v191 : IVec S16 32) (k1_hw10 : k1_chk10 v191), ∀ a x, ((![v191] : Fin 1 → IVec S16 32) a x).toNat < S64.size a := fun v191 k1_hw10 => k1_hw10.1
theorem k1_idx20_inb : ∀ (v191 : IVec S16 32) (k1_hw10 : k1_chk10 v191), ∀ a x, ((![v191] : Fin 1 → IVec S16 32) a x).toNat < S64.size a := fun v191 k1_hw10 => k1_hw10.2

def k1_chk11 (v208 : IVec S16 32) : Prop :=
  (∀ a x, ((![v208] : Fin 1 → IVec S16 32) a x).toNat < S64.size a) ∧
  (∀ a x, ((![v208] : Fin 1 → IVec S16 32) a x).toNat < S64.size a)
theorem k1_idx21_inb : ∀ (v208 : IVec S16 32) (k1_hw11 : k1_chk11 v208), ∀ a x, ((![v208] : Fin 1 → IVec S16 32) a x).toNat < S64.size a := fun v208 k1_hw11 => k1_hw11.1
theorem k1_idx22_inb : ∀ (v208 : IVec S16 32) (k1_hw11 : k1_chk11 v208), ∀ a x, ((![v208] : Fin 1 → IVec S16 32) a x).toNat < S64.size a := fun v208 k1_hw11 => k1_hw11.2

def k1_chk12 (v225 : IVec S16 32) : Prop :=
  (∀ a x, ((![v225] : Fin 1 → IVec S16 32) a x).toNat < S64.size a) ∧
  (∀ a x, ((![v225] : Fin 1 → IVec S16 32) a x).toNat < S64.size a)
theorem k1_idx23_inb : ∀ (v225 : IVec S16 32) (k1_hw12 : k1_chk12 v225), ∀ a x, ((![v225] : Fin 1 → IVec S16 32) a x).toNat < S64.size a := fun v225 k1_hw12 => k1_hw12.1
theorem k1_idx24_inb : ∀ (v225 : IVec S16 32) (k1_hw12 : k1_chk12 v225), ∀ a x, ((![v225] : Fin 1 → IVec S16 32) a x).toNat < S64.size a := fun v225 k1_hw12 => k1_hw12.2

def k1_chk13 (v242 : IVec S16 32) : Prop :=
  (∀ a x, ((![v242] : Fin 1 → IVec S16 32) a x).toNat < S64.size a) ∧
  (∀ a x, ((![v242] : Fin 1 → IVec S16 32) a x).toNat < S64.size a)
theorem k1_idx25_inb : ∀ (v242 : IVec S16 32) (k1_hw13 : k1_chk13 v242), ∀ a x, ((![v242] : Fin 1 → IVec S16 32) a x).toNat < S64.size a := fun v242 k1_hw13 => k1_hw13.1
theorem k1_idx26_inb : ∀ (v242 : IVec S16 32) (k1_hw13 : k1_chk13 v242), ∀ a x, ((![v242] : Fin 1 → IVec S16 32) a x).toNat < S64.size a := fun v242 k1_hw13 => k1_hw13.2

def k1_chk14 (v259 : IVec S16 32) : Prop :=
  (∀ a x, ((![v259] : Fin 1 → IVec S16 32) a x).toNat < S64.size a) ∧
  (∀ a x, ((![v259] : Fin 1 → IVec S16 32) a x).toNat < S64.size a)
theorem k1_idx27_inb : ∀ (v259 : IVec S16 32) (k1_hw14 : k1_chk14 v259), ∀ a x, ((![v259] : Fin 1 → IVec S16 32) a x).toNat < S64.size a := fun v259 k1_hw14 => k1_hw14.1
theorem k1_idx28_inb : ∀ (v259 : IVec S16 32) (k1_hw14 : k1_chk14 v259), ∀ a x, ((![v259] : Fin 1 → IVec S16 32) a x).toNat < S64.size a := fun v259 k1_hw14 => k1_hw14.2

def k1_chk15 (v276 : IVec S16 32) : Prop :=
  (∀ a x, ((![v276] : Fin 1 → IVec S16 32) a x).toNat < S64.size a) ∧
  (∀ a x, ((![v276] : Fin 1 → IVec S16 32) a x).toNat < S64.size a)
theorem k1_idx29_inb : ∀ (v276 : IVec S16 32) (k1_hw15 : k1_chk15 v276), ∀ a x, ((![v276] : Fin 1 → IVec S16 32) a x).toNat < S64.size a := fun v276 k1_hw15 => k1_hw15.1
theorem k1_idx30_inb : ∀ (v276 : IVec S16 32) (k1_hw15 : k1_chk15 v276), ∀ a x, ((![v276] : Fin 1 → IVec S16 32) a x).toNat < S64.size a := fun v276 k1_hw15 => k1_hw15.2

def k1_chk16 (v293 : IVec S16 32) : Prop :=
  (∀ a x, ((![v293] : Fin 1 → IVec S16 32) a x).toNat < S64.size a) ∧
  (∀ a x, ((![v293] : Fin 1 → IVec S16 32) a x).toNat < S64.size a)
theorem k1_idx31_inb : ∀ (v293 : IVec S16 32) (k1_hw16 : k1_chk16 v293), ∀ a x, ((![v293] : Fin 1 → IVec S16 32) a x).toNat < S64.size a := fun v293 k1_hw16 => k1_hw16.1
theorem k1_idx32_inb : ∀ (v293 : IVec S16 32) (k1_hw16 : k1_chk16 v293), ∀ a x, ((![v293] : Fin 1 → IVec S16 32) a x).toNat < S64.size a := fun v293 k1_hw16 => k1_hw16.2

def k1_chk17 (v315 : IVec S16 32) : Prop :=
  (∀ a x, ((![v315] : Fin 1 → IVec S16 32) a x).toNat < S64.size a) ∧
  (∀ a x, ((![v315] : Fin 1 → IVec S16 32) a x).toNat < S64.size a)
theorem k1_idx33_inb : ∀ (v315 : IVec S16 32) (k1_hw17 : k1_chk17 v315), ∀ a x, ((![v315] : Fin 1 → IVec S16 32) a x).toNat < S64.size a := fun v315 k1_hw17 => k1_hw17.1
theorem k1_idx34_inb : ∀ (v315 : IVec S16 32) (k1_hw17 : k1_chk17 v315), ∀ a x, ((![v315] : Fin 1 → IVec S16 32) a x).toNat < S64.size a := fun v315 k1_hw17 => k1_hw17.2

def k1_chk18 (v332 : IVec S16 32) : Prop :=
  (∀ a x, ((![v332] : Fin 1 → IVec S16 32) a x).toNat < S64.size a) ∧
  (∀ a x, ((![v332] : Fin 1 → IVec S16 32) a x).toNat < S64.size a)
theorem k1_idx35_inb : ∀ (v332 : IVec S16 32) (k1_hw18 : k1_chk18 v332), ∀ a x, ((![v332] : Fin 1 → IVec S16 32) a x).toNat < S64.size a := fun v332 k1_hw18 => k1_hw18.1
theorem k1_idx36_inb : ∀ (v332 : IVec S16 32) (k1_hw18 : k1_chk18 v332), ∀ a x, ((![v332] : Fin 1 → IVec S16 32) a x).toNat < S64.size a := fun v332 k1_hw18 => k1_hw18.2

def k1_chk19 (v349 : IVec S16 32) : Prop :=
  (∀ a x, ((![v349] : Fin 1 → IVec S16 32) a x).toNat < S64.size a) ∧
  (∀ a x, ((![v349] : Fin 1 → IVec S16 32) a x).toNat < S64.size a)
theorem k1_idx37_inb : ∀ (v349 : IVec S16 32) (k1_hw19 : k1_chk19 v349), ∀ a x, ((![v349] : Fin 1 → IVec S16 32) a x).toNat < S64.size a := fun v349 k1_hw19 => k1_hw19.1
theorem k1_idx38_inb : ∀ (v349 : IVec S16 32) (k1_hw19 : k1_chk19 v349), ∀ a x, ((![v349] : Fin 1 → IVec S16 32) a x).toNat < S64.size a := fun v349 k1_hw19 => k1_hw19.2

def k1_chk20 (v366 : IVec S16 32) : Prop :=
  (∀ a x, ((![v366] : Fin 1 → IVec S16 32) a x).toNat < S64.size a) ∧
  (∀ a x, ((![v366] : Fin 1 → IVec S16 32) a x).toNat < S64.size a)
theorem k1_idx39_inb : ∀ (v366 : IVec S16 32) (k1_hw20 : k1_chk20 v366), ∀ a x, ((![v366] : Fin 1 → IVec S16 32) a x).toNat < S64.size a := fun v366 k1_hw20 => k1_hw20.1
theorem k1_idx40_inb : ∀ (v366 : IVec S16 32) (k1_hw20 : k1_chk20 v366), ∀ a x, ((![v366] : Fin 1 → IVec S16 32) a x).toNat < S64.size a := fun v366 k1_hw20 => k1_hw20.2

def k1_chk21 (v383 : IVec S16 32) : Prop :=
  (∀ a x, ((![v383] : Fin 1 → IVec S16 32) a x).toNat < S64.size a) ∧
  (∀ a x, ((![v383] : Fin 1 → IVec S16 32) a x).toNat < S64.size a)
theorem k1_idx41_inb : ∀ (v383 : IVec S16 32) (k1_hw21 : k1_chk21 v383), ∀ a x, ((![v383] : Fin 1 → IVec S16 32) a x).toNat < S64.size a := fun v383 k1_hw21 => k1_hw21.1
theorem k1_idx42_inb : ∀ (v383 : IVec S16 32) (k1_hw21 : k1_chk21 v383), ∀ a x, ((![v383] : Fin 1 → IVec S16 32) a x).toNat < S64.size a := fun v383 k1_hw21 => k1_hw21.2

def k1_chk22 (v400 : IVec S16 32) : Prop :=
  (∀ a x, ((![v400] : Fin 1 → IVec S16 32) a x).toNat < S64.size a) ∧
  (∀ a x, ((![v400] : Fin 1 → IVec S16 32) a x).toNat < S64.size a)
theorem k1_idx43_inb : ∀ (v400 : IVec S16 32) (k1_hw22 : k1_chk22 v400), ∀ a x, ((![v400] : Fin 1 → IVec S16 32) a x).toNat < S64.size a := fun v400 k1_hw22 => k1_hw22.1
theorem k1_idx44_inb : ∀ (v400 : IVec S16 32) (k1_hw22 : k1_chk22 v400), ∀ a x, ((![v400] : Fin 1 → IVec S16 32) a x).toNat < S64.size a := fun v400 k1_hw22 => k1_hw22.2

def k1_chk23 (v417 : IVec S16 32) : Prop :=
  (∀ a x, ((![v417] : Fin 1 → IVec S16 32) a x).toNat < S64.size a) ∧
  (∀ a x, ((![v417] : Fin 1 → IVec S16 32) a x).toNat < S64.size a)
theorem k1_idx45_inb : ∀ (v417 : IVec S16 32) (k1_hw23 : k1_chk23 v417), ∀ a x, ((![v417] : Fin 1 → IVec S16 32) a x).toNat < S64.size a := fun v417 k1_hw23 => k1_hw23.1
theorem k1_idx46_inb : ∀ (v417 : IVec S16 32) (k1_hw23 : k1_chk23 v417), ∀ a x, ((![v417] : Fin 1 → IVec S16 32) a x).toNat < S64.size a := fun v417 k1_hw23 => k1_hw23.2

def k1_chk24 (v434 : IVec S16 32) : Prop :=
  (∀ a x, ((![v434] : Fin 1 → IVec S16 32) a x).toNat < S64.size a) ∧
  (∀ a x, ((![v434] : Fin 1 → IVec S16 32) a x).toNat < S64.size a)
theorem k1_idx47_inb : ∀ (v434 : IVec S16 32) (k1_hw24 : k1_chk24 v434), ∀ a x, ((![v434] : Fin 1 → IVec S16 32) a x).toNat < S64.size a := fun v434 k1_hw24 => k1_hw24.1
theorem k1_idx48_inb : ∀ (v434 : IVec S16 32) (k1_hw24 : k1_chk24 v434), ∀ a x, ((![v434] : Fin 1 → IVec S16 32) a x).toNat < S64.size a := fun v434 k1_hw24 => k1_hw24.2

def k1_chk25 (v456 : IVec S16 32) : Prop :=
  (∀ a x, ((![v456] : Fin 1 → IVec S16 32) a x).toNat < S64.size a) ∧
  (∀ a x, ((![v456] : Fin 1 → IVec S16 32) a x).toNat < S64.size a)
theorem k1_idx49_inb : ∀ (v456 : IVec S16 32) (k1_hw25 : k1_chk25 v456), ∀ a x, ((![v456] : Fin 1 → IVec S16 32) a x).toNat < S64.size a := fun v456 k1_hw25 => k1_hw25.1
theorem k1_idx50_inb : ∀ (v456 : IVec S16 32) (k1_hw25 : k1_chk25 v456), ∀ a x, ((![v456] : Fin 1 → IVec S16 32) a x).toNat < S64.size a := fun v456 k1_hw25 => k1_hw25.2

def k1_chk26 (v473 : IVec S16 32) : Prop :=
  (∀ a x, ((![v473] : Fin 1 → IVec S16 32) a x).toNat < S64.size a) ∧
  (∀ a x, ((![v473] : Fin 1 → IVec S16 32) a x).toNat < S64.size a)
theorem k1_idx51_inb : ∀ (v473 : IVec S16 32) (k1_hw26 : k1_chk26 v473), ∀ a x, ((![v473] : Fin 1 → IVec S16 32) a x).toNat < S64.size a := fun v473 k1_hw26 => k1_hw26.1
theorem k1_idx52_inb : ∀ (v473 : IVec S16 32) (k1_hw26 : k1_chk26 v473), ∀ a x, ((![v473] : Fin 1 → IVec S16 32) a x).toNat < S64.size a := fun v473 k1_hw26 => k1_hw26.2

def k1_chk27 (v490 : IVec S16 32) : Prop :=
  (∀ a x, ((![v490] : Fin 1 → IVec S16 32) a x).toNat < S64.size a) ∧
  (∀ a x, ((![v490] : Fin 1 → IVec S16 32) a x).toNat < S64.size a)
theorem k1_idx53_inb : ∀ (v490 : IVec S16 32) (k1_hw27 : k1_chk27 v490), ∀ a x, ((![v490] : Fin 1 → IVec S16 32) a x).toNat < S64.size a := fun v490 k1_hw27 => k1_hw27.1
theorem k1_idx54_inb : ∀ (v490 : IVec S16 32) (k1_hw27 : k1_chk27 v490), ∀ a x, ((![v490] : Fin 1 → IVec S16 32) a x).toNat < S64.size a := fun v490 k1_hw27 => k1_hw27.2

def k1_chk28 (v507 : IVec S16 32) : Prop :=
  (∀ a x, ((![v507] : Fin 1 → IVec S16 32) a x).toNat < S64.size a) ∧
  (∀ a x, ((![v507] : Fin 1 → IVec S16 32) a x).toNat < S64.size a)
theorem k1_idx55_inb : ∀ (v507 : IVec S16 32) (k1_hw28 : k1_chk28 v507), ∀ a x, ((![v507] : Fin 1 → IVec S16 32) a x).toNat < S64.size a := fun v507 k1_hw28 => k1_hw28.1
theorem k1_idx56_inb : ∀ (v507 : IVec S16 32) (k1_hw28 : k1_chk28 v507), ∀ a x, ((![v507] : Fin 1 → IVec S16 32) a x).toNat < S64.size a := fun v507 k1_hw28 => k1_hw28.2

def k1_chk29 (v524 : IVec S16 32) : Prop :=
  (∀ a x, ((![v524] : Fin 1 → IVec S16 32) a x).toNat < S64.size a) ∧
  (∀ a x, ((![v524] : Fin 1 → IVec S16 32) a x).toNat < S64.size a)
theorem k1_idx57_inb : ∀ (v524 : IVec S16 32) (k1_hw29 : k1_chk29 v524), ∀ a x, ((![v524] : Fin 1 → IVec S16 32) a x).toNat < S64.size a := fun v524 k1_hw29 => k1_hw29.1
theorem k1_idx58_inb : ∀ (v524 : IVec S16 32) (k1_hw29 : k1_chk29 v524), ∀ a x, ((![v524] : Fin 1 → IVec S16 32) a x).toNat < S64.size a := fun v524 k1_hw29 => k1_hw29.2

def k1_chk30 (v541 : IVec S16 32) : Prop :=
  (∀ a x, ((![v541] : Fin 1 → IVec S16 32) a x).toNat < S64.size a) ∧
  (∀ a x, ((![v541] : Fin 1 → IVec S16 32) a x).toNat < S64.size a)
theorem k1_idx59_inb : ∀ (v541 : IVec S16 32) (k1_hw30 : k1_chk30 v541), ∀ a x, ((![v541] : Fin 1 → IVec S16 32) a x).toNat < S64.size a := fun v541 k1_hw30 => k1_hw30.1
theorem k1_idx60_inb : ∀ (v541 : IVec S16 32) (k1_hw30 : k1_chk30 v541), ∀ a x, ((![v541] : Fin 1 → IVec S16 32) a x).toNat < S64.size a := fun v541 k1_hw30 => k1_hw30.2

def k1_chk31 (v558 : IVec S16 32) : Prop :=
  (∀ a x, ((![v558] : Fin 1 → IVec S16 32) a x).toNat < S64.size a) ∧
  (∀ a x, ((![v558] : Fin 1 → IVec S16 32) a x).toNat < S64.size a)
theorem k1_idx61_inb : ∀ (v558 : IVec S16 32) (k1_hw31 : k1_chk31 v558), ∀ a x, ((![v558] : Fin 1 → IVec S16 32) a x).toNat < S64.size a := fun v558 k1_hw31 => k1_hw31.1
theorem k1_idx62_inb : ∀ (v558 : IVec S16 32) (k1_hw31 : k1_chk31 v558), ∀ a x, ((![v558] : Fin 1 → IVec S16 32) a x).toNat < S64.size a := fun v558 k1_hw31 => k1_hw31.2

def k1_chk32 (v575 : IVec S16 32) : Prop :=
  (∀ a x, ((![v575] : Fin 1 → IVec S16 32) a x).toNat < S64.size a) ∧
  (∀ a x, ((![v575] : Fin 1 → IVec S16 32) a x).toNat < S64.size a)
theorem k1_idx63_inb : ∀ (v575 : IVec S16 32) (k1_hw32 : k1_chk32 v575), ∀ a x, ((![v575] : Fin 1 → IVec S16 32) a x).toNat < S64.size a := fun v575 k1_hw32 => k1_hw32.1
theorem k1_idx64_inb : ∀ (v575 : IVec S16 32) (k1_hw32 : k1_chk32 v575), ∀ a x, ((![v575] : Fin 1 → IVec S16 32) a x).toNat < S64.size a := fun v575 k1_hw32 => k1_hw32.2

def k1_chk33 (v597 : IVec S16 32) : Prop :=
  (∀ a x, ((![v597] : Fin 1 → IVec S16 32) a x).toNat < S64.size a) ∧
  (∀ a x, ((![v597] : Fin 1 → IVec S16 32) a x).toNat < S64.size a)
theorem k1_idx65_inb : ∀ (v597 : IVec S16 32) (k1_hw33 : k1_chk33 v597), ∀ a x, ((![v597] : Fin 1 → IVec S16 32) a x).toNat < S64.size a := fun v597 k1_hw33 => k1_hw33.1
theorem k1_idx66_inb : ∀ (v597 : IVec S16 32) (k1_hw33 : k1_chk33 v597), ∀ a x, ((![v597] : Fin 1 → IVec S16 32) a x).toNat < S64.size a := fun v597 k1_hw33 => k1_hw33.2

def k1_chk34 (v614 : IVec S16 32) : Prop :=
  (∀ a x, ((![v614] : Fin 1 → IVec S16 32) a x).toNat < S64.size a) ∧
  (∀ a x, ((![v614] : Fin 1 → IVec S16 32) a x).toNat < S64.size a)
theorem k1_idx67_inb : ∀ (v614 : IVec S16 32) (k1_hw34 : k1_chk34 v614), ∀ a x, ((![v614] : Fin 1 → IVec S16 32) a x).toNat < S64.size a := fun v614 k1_hw34 => k1_hw34.1
theorem k1_idx68_inb : ∀ (v614 : IVec S16 32) (k1_hw34 : k1_chk34 v614), ∀ a x, ((![v614] : Fin 1 → IVec S16 32) a x).toNat < S64.size a := fun v614 k1_hw34 => k1_hw34.2

def k1_chk35 (v631 : IVec S16 32) : Prop :=
  (∀ a x, ((![v631] : Fin 1 → IVec S16 32) a x).toNat < S64.size a) ∧
  (∀ a x, ((![v631] : Fin 1 → IVec S16 32) a x).toNat < S64.size a)
theorem k1_idx69_inb : ∀ (v631 : IVec S16 32) (k1_hw35 : k1_chk35 v631), ∀ a x, ((![v631] : Fin 1 → IVec S16 32) a x).toNat < S64.size a := fun v631 k1_hw35 => k1_hw35.1
theorem k1_idx70_inb : ∀ (v631 : IVec S16 32) (k1_hw35 : k1_chk35 v631), ∀ a x, ((![v631] : Fin 1 → IVec S16 32) a x).toNat < S64.size a := fun v631 k1_hw35 => k1_hw35.2

def k1_chk36 (v648 : IVec S16 32) : Prop :=
  (∀ a x, ((![v648] : Fin 1 → IVec S16 32) a x).toNat < S64.size a) ∧
  (∀ a x, ((![v648] : Fin 1 → IVec S16 32) a x).toNat < S64.size a)
theorem k1_idx71_inb : ∀ (v648 : IVec S16 32) (k1_hw36 : k1_chk36 v648), ∀ a x, ((![v648] : Fin 1 → IVec S16 32) a x).toNat < S64.size a := fun v648 k1_hw36 => k1_hw36.1
theorem k1_idx72_inb : ∀ (v648 : IVec S16 32) (k1_hw36 : k1_chk36 v648), ∀ a x, ((![v648] : Fin 1 → IVec S16 32) a x).toNat < S64.size a := fun v648 k1_hw36 => k1_hw36.2

def k1_chk37 (v665 : IVec S16 32) : Prop :=
  (∀ a x, ((![v665] : Fin 1 → IVec S16 32) a x).toNat < S64.size a) ∧
  (∀ a x, ((![v665] : Fin 1 → IVec S16 32) a x).toNat < S64.size a)
theorem k1_idx73_inb : ∀ (v665 : IVec S16 32) (k1_hw37 : k1_chk37 v665), ∀ a x, ((![v665] : Fin 1 → IVec S16 32) a x).toNat < S64.size a := fun v665 k1_hw37 => k1_hw37.1
theorem k1_idx74_inb : ∀ (v665 : IVec S16 32) (k1_hw37 : k1_chk37 v665), ∀ a x, ((![v665] : Fin 1 → IVec S16 32) a x).toNat < S64.size a := fun v665 k1_hw37 => k1_hw37.2

def k1_chk38 (v682 : IVec S16 32) : Prop :=
  (∀ a x, ((![v682] : Fin 1 → IVec S16 32) a x).toNat < S64.size a) ∧
  (∀ a x, ((![v682] : Fin 1 → IVec S16 32) a x).toNat < S64.size a)
theorem k1_idx75_inb : ∀ (v682 : IVec S16 32) (k1_hw38 : k1_chk38 v682), ∀ a x, ((![v682] : Fin 1 → IVec S16 32) a x).toNat < S64.size a := fun v682 k1_hw38 => k1_hw38.1
theorem k1_idx76_inb : ∀ (v682 : IVec S16 32) (k1_hw38 : k1_chk38 v682), ∀ a x, ((![v682] : Fin 1 → IVec S16 32) a x).toNat < S64.size a := fun v682 k1_hw38 => k1_hw38.2

def k1_chk39 (v699 : IVec S16 32) : Prop :=
  (∀ a x, ((![v699] : Fin 1 → IVec S16 32) a x).toNat < S64.size a) ∧
  (∀ a x, ((![v699] : Fin 1 → IVec S16 32) a x).toNat < S64.size a)
theorem k1_idx77_inb : ∀ (v699 : IVec S16 32) (k1_hw39 : k1_chk39 v699), ∀ a x, ((![v699] : Fin 1 → IVec S16 32) a x).toNat < S64.size a := fun v699 k1_hw39 => k1_hw39.1
theorem k1_idx78_inb : ∀ (v699 : IVec S16 32) (k1_hw39 : k1_chk39 v699), ∀ a x, ((![v699] : Fin 1 → IVec S16 32) a x).toNat < S64.size a := fun v699 k1_hw39 => k1_hw39.2

def k1_chk40 (v716 : IVec S16 32) : Prop :=
  (∀ a x, ((![v716] : Fin 1 → IVec S16 32) a x).toNat < S64.size a) ∧
  (∀ a x, ((![v716] : Fin 1 → IVec S16 32) a x).toNat < S64.size a)
theorem k1_idx79_inb : ∀ (v716 : IVec S16 32) (k1_hw40 : k1_chk40 v716), ∀ a x, ((![v716] : Fin 1 → IVec S16 32) a x).toNat < S64.size a := fun v716 k1_hw40 => k1_hw40.1
theorem k1_idx80_inb : ∀ (v716 : IVec S16 32) (k1_hw40 : k1_chk40 v716), ∀ a x, ((![v716] : Fin 1 → IVec S16 32) a x).toNat < S64.size a := fun v716 k1_hw40 => k1_hw40.2

def k1_chk41 (v738 : IVec S16 32) : Prop :=
  (∀ a x, ((![v738] : Fin 1 → IVec S16 32) a x).toNat < S64.size a) ∧
  (∀ a x, ((![v738] : Fin 1 → IVec S16 32) a x).toNat < S64.size a)
theorem k1_idx81_inb : ∀ (v738 : IVec S16 32) (k1_hw41 : k1_chk41 v738), ∀ a x, ((![v738] : Fin 1 → IVec S16 32) a x).toNat < S64.size a := fun v738 k1_hw41 => k1_hw41.1
theorem k1_idx82_inb : ∀ (v738 : IVec S16 32) (k1_hw41 : k1_chk41 v738), ∀ a x, ((![v738] : Fin 1 → IVec S16 32) a x).toNat < S64.size a := fun v738 k1_hw41 => k1_hw41.2

def k1_chk42 (v755 : IVec S16 32) : Prop :=
  (∀ a x, ((![v755] : Fin 1 → IVec S16 32) a x).toNat < S64.size a) ∧
  (∀ a x, ((![v755] : Fin 1 → IVec S16 32) a x).toNat < S64.size a)
theorem k1_idx83_inb : ∀ (v755 : IVec S16 32) (k1_hw42 : k1_chk42 v755), ∀ a x, ((![v755] : Fin 1 → IVec S16 32) a x).toNat < S64.size a := fun v755 k1_hw42 => k1_hw42.1
theorem k1_idx84_inb : ∀ (v755 : IVec S16 32) (k1_hw42 : k1_chk42 v755), ∀ a x, ((![v755] : Fin 1 → IVec S16 32) a x).toNat < S64.size a := fun v755 k1_hw42 => k1_hw42.2

def k1_chk43 (v772 : IVec S16 32) : Prop :=
  (∀ a x, ((![v772] : Fin 1 → IVec S16 32) a x).toNat < S64.size a) ∧
  (∀ a x, ((![v772] : Fin 1 → IVec S16 32) a x).toNat < S64.size a)
theorem k1_idx85_inb : ∀ (v772 : IVec S16 32) (k1_hw43 : k1_chk43 v772), ∀ a x, ((![v772] : Fin 1 → IVec S16 32) a x).toNat < S64.size a := fun v772 k1_hw43 => k1_hw43.1
theorem k1_idx86_inb : ∀ (v772 : IVec S16 32) (k1_hw43 : k1_chk43 v772), ∀ a x, ((![v772] : Fin 1 → IVec S16 32) a x).toNat < S64.size a := fun v772 k1_hw43 => k1_hw43.2

def k1_chk44 (v789 : IVec S16 32) : Prop :=
  (∀ a x, ((![v789] : Fin 1 → IVec S16 32) a x).toNat < S64.size a) ∧
  (∀ a x, ((![v789] : Fin 1 → IVec S16 32) a x).toNat < S64.size a)
theorem k1_idx87_inb : ∀ (v789 : IVec S16 32) (k1_hw44 : k1_chk44 v789), ∀ a x, ((![v789] : Fin 1 → IVec S16 32) a x).toNat < S64.size a := fun v789 k1_hw44 => k1_hw44.1
theorem k1_idx88_inb : ∀ (v789 : IVec S16 32) (k1_hw44 : k1_chk44 v789), ∀ a x, ((![v789] : Fin 1 → IVec S16 32) a x).toNat < S64.size a := fun v789 k1_hw44 => k1_hw44.2

def k1_chk45 (v806 : IVec S16 32) : Prop :=
  (∀ a x, ((![v806] : Fin 1 → IVec S16 32) a x).toNat < S64.size a) ∧
  (∀ a x, ((![v806] : Fin 1 → IVec S16 32) a x).toNat < S64.size a)
theorem k1_idx89_inb : ∀ (v806 : IVec S16 32) (k1_hw45 : k1_chk45 v806), ∀ a x, ((![v806] : Fin 1 → IVec S16 32) a x).toNat < S64.size a := fun v806 k1_hw45 => k1_hw45.1
theorem k1_idx90_inb : ∀ (v806 : IVec S16 32) (k1_hw45 : k1_chk45 v806), ∀ a x, ((![v806] : Fin 1 → IVec S16 32) a x).toNat < S64.size a := fun v806 k1_hw45 => k1_hw45.2

def k1_chk46 (v823 : IVec S16 32) : Prop :=
  (∀ a x, ((![v823] : Fin 1 → IVec S16 32) a x).toNat < S64.size a) ∧
  (∀ a x, ((![v823] : Fin 1 → IVec S16 32) a x).toNat < S64.size a)
theorem k1_idx91_inb : ∀ (v823 : IVec S16 32) (k1_hw46 : k1_chk46 v823), ∀ a x, ((![v823] : Fin 1 → IVec S16 32) a x).toNat < S64.size a := fun v823 k1_hw46 => k1_hw46.1
theorem k1_idx92_inb : ∀ (v823 : IVec S16 32) (k1_hw46 : k1_chk46 v823), ∀ a x, ((![v823] : Fin 1 → IVec S16 32) a x).toNat < S64.size a := fun v823 k1_hw46 => k1_hw46.2

def k1_chk47 (v840 : IVec S16 32) : Prop :=
  (∀ a x, ((![v840] : Fin 1 → IVec S16 32) a x).toNat < S64.size a) ∧
  (∀ a x, ((![v840] : Fin 1 → IVec S16 32) a x).toNat < S64.size a)
theorem k1_idx93_inb : ∀ (v840 : IVec S16 32) (k1_hw47 : k1_chk47 v840), ∀ a x, ((![v840] : Fin 1 → IVec S16 32) a x).toNat < S64.size a := fun v840 k1_hw47 => k1_hw47.1
theorem k1_idx94_inb : ∀ (v840 : IVec S16 32) (k1_hw47 : k1_chk47 v840), ∀ a x, ((![v840] : Fin 1 → IVec S16 32) a x).toNat < S64.size a := fun v840 k1_hw47 => k1_hw47.2

def k1_chk48 (v857 : IVec S16 32) : Prop :=
  (∀ a x, ((![v857] : Fin 1 → IVec S16 32) a x).toNat < S64.size a) ∧
  (∀ a x, ((![v857] : Fin 1 → IVec S16 32) a x).toNat < S64.size a)
theorem k1_idx95_inb : ∀ (v857 : IVec S16 32) (k1_hw48 : k1_chk48 v857), ∀ a x, ((![v857] : Fin 1 → IVec S16 32) a x).toNat < S64.size a := fun v857 k1_hw48 => k1_hw48.1
theorem k1_idx96_inb : ∀ (v857 : IVec S16 32) (k1_hw48 : k1_chk48 v857), ∀ a x, ((![v857] : Fin 1 → IVec S16 32) a x).toNat < S64.size a := fun v857 k1_hw48 => k1_hw48.2

def k1_chk49 (v879 : IVec S16 32) : Prop :=
  (∀ a x, ((![v879] : Fin 1 → IVec S16 32) a x).toNat < S64.size a) ∧
  (∀ a x, ((![v879] : Fin 1 → IVec S16 32) a x).toNat < S64.size a)
theorem k1_idx97_inb : ∀ (v879 : IVec S16 32) (k1_hw49 : k1_chk49 v879), ∀ a x, ((![v879] : Fin 1 → IVec S16 32) a x).toNat < S64.size a := fun v879 k1_hw49 => k1_hw49.1
theorem k1_idx98_inb : ∀ (v879 : IVec S16 32) (k1_hw49 : k1_chk49 v879), ∀ a x, ((![v879] : Fin 1 → IVec S16 32) a x).toNat < S64.size a := fun v879 k1_hw49 => k1_hw49.2

def k1_chk50 (v896 : IVec S16 32) : Prop :=
  (∀ a x, ((![v896] : Fin 1 → IVec S16 32) a x).toNat < S64.size a) ∧
  (∀ a x, ((![v896] : Fin 1 → IVec S16 32) a x).toNat < S64.size a)
theorem k1_idx99_inb : ∀ (v896 : IVec S16 32) (k1_hw50 : k1_chk50 v896), ∀ a x, ((![v896] : Fin 1 → IVec S16 32) a x).toNat < S64.size a := fun v896 k1_hw50 => k1_hw50.1
theorem k1_idx100_inb : ∀ (v896 : IVec S16 32) (k1_hw50 : k1_chk50 v896), ∀ a x, ((![v896] : Fin 1 → IVec S16 32) a x).toNat < S64.size a := fun v896 k1_hw50 => k1_hw50.2

def k1_chk51 (v913 : IVec S16 32) : Prop :=
  (∀ a x, ((![v913] : Fin 1 → IVec S16 32) a x).toNat < S64.size a) ∧
  (∀ a x, ((![v913] : Fin 1 → IVec S16 32) a x).toNat < S64.size a)
theorem k1_idx101_inb : ∀ (v913 : IVec S16 32) (k1_hw51 : k1_chk51 v913), ∀ a x, ((![v913] : Fin 1 → IVec S16 32) a x).toNat < S64.size a := fun v913 k1_hw51 => k1_hw51.1
theorem k1_idx102_inb : ∀ (v913 : IVec S16 32) (k1_hw51 : k1_chk51 v913), ∀ a x, ((![v913] : Fin 1 → IVec S16 32) a x).toNat < S64.size a := fun v913 k1_hw51 => k1_hw51.2

def k1_chk52 (v930 : IVec S16 32) : Prop :=
  (∀ a x, ((![v930] : Fin 1 → IVec S16 32) a x).toNat < S64.size a) ∧
  (∀ a x, ((![v930] : Fin 1 → IVec S16 32) a x).toNat < S64.size a)
theorem k1_idx103_inb : ∀ (v930 : IVec S16 32) (k1_hw52 : k1_chk52 v930), ∀ a x, ((![v930] : Fin 1 → IVec S16 32) a x).toNat < S64.size a := fun v930 k1_hw52 => k1_hw52.1
theorem k1_idx104_inb : ∀ (v930 : IVec S16 32) (k1_hw52 : k1_chk52 v930), ∀ a x, ((![v930] : Fin 1 → IVec S16 32) a x).toNat < S64.size a := fun v930 k1_hw52 => k1_hw52.2

def k1_chk53 (v947 : IVec S16 32) : Prop :=
  (∀ a x, ((![v947] : Fin 1 → IVec S16 32) a x).toNat < S64.size a) ∧
  (∀ a x, ((![v947] : Fin 1 → IVec S16 32) a x).toNat < S64.size a)
theorem k1_idx105_inb : ∀ (v947 : IVec S16 32) (k1_hw53 : k1_chk53 v947), ∀ a x, ((![v947] : Fin 1 → IVec S16 32) a x).toNat < S64.size a := fun v947 k1_hw53 => k1_hw53.1
theorem k1_idx106_inb : ∀ (v947 : IVec S16 32) (k1_hw53 : k1_chk53 v947), ∀ a x, ((![v947] : Fin 1 → IVec S16 32) a x).toNat < S64.size a := fun v947 k1_hw53 => k1_hw53.2

def k1_chk54 (v964 : IVec S16 32) : Prop :=
  (∀ a x, ((![v964] : Fin 1 → IVec S16 32) a x).toNat < S64.size a) ∧
  (∀ a x, ((![v964] : Fin 1 → IVec S16 32) a x).toNat < S64.size a)
theorem k1_idx107_inb : ∀ (v964 : IVec S16 32) (k1_hw54 : k1_chk54 v964), ∀ a x, ((![v964] : Fin 1 → IVec S16 32) a x).toNat < S64.size a := fun v964 k1_hw54 => k1_hw54.1
theorem k1_idx108_inb : ∀ (v964 : IVec S16 32) (k1_hw54 : k1_chk54 v964), ∀ a x, ((![v964] : Fin 1 → IVec S16 32) a x).toNat < S64.size a := fun v964 k1_hw54 => k1_hw54.2

def k1_chk55 (v981 : IVec S16 32) : Prop :=
  (∀ a x, ((![v981] : Fin 1 → IVec S16 32) a x).toNat < S64.size a) ∧
  (∀ a x, ((![v981] : Fin 1 → IVec S16 32) a x).toNat < S64.size a)
theorem k1_idx109_inb : ∀ (v981 : IVec S16 32) (k1_hw55 : k1_chk55 v981), ∀ a x, ((![v981] : Fin 1 → IVec S16 32) a x).toNat < S64.size a := fun v981 k1_hw55 => k1_hw55.1
theorem k1_idx110_inb : ∀ (v981 : IVec S16 32) (k1_hw55 : k1_chk55 v981), ∀ a x, ((![v981] : Fin 1 → IVec S16 32) a x).toNat < S64.size a := fun v981 k1_hw55 => k1_hw55.2

def k1_chk56 (v998 : IVec S16 32) : Prop :=
  (∀ a x, ((![v998] : Fin 1 → IVec S16 32) a x).toNat < S64.size a) ∧
  (∀ a x, ((![v998] : Fin 1 → IVec S16 32) a x).toNat < S64.size a)
theorem k1_idx111_inb : ∀ (v998 : IVec S16 32) (k1_hw56 : k1_chk56 v998), ∀ a x, ((![v998] : Fin 1 → IVec S16 32) a x).toNat < S64.size a := fun v998 k1_hw56 => k1_hw56.1
theorem k1_idx112_inb : ∀ (v998 : IVec S16 32) (k1_hw56 : k1_chk56 v998), ∀ a x, ((![v998] : Fin 1 → IVec S16 32) a x).toNat < S64.size a := fun v998 k1_hw56 => k1_hw56.2

def k1_chk57 (v1020 : IVec S16 32) : Prop :=
  (∀ a x, ((![v1020] : Fin 1 → IVec S16 32) a x).toNat < S64.size a) ∧
  (∀ a x, ((![v1020] : Fin 1 → IVec S16 32) a x).toNat < S64.size a)
theorem k1_idx113_inb : ∀ (v1020 : IVec S16 32) (k1_hw57 : k1_chk57 v1020), ∀ a x, ((![v1020] : Fin 1 → IVec S16 32) a x).toNat < S64.size a := fun v1020 k1_hw57 => k1_hw57.1
theorem k1_idx114_inb : ∀ (v1020 : IVec S16 32) (k1_hw57 : k1_chk57 v1020), ∀ a x, ((![v1020] : Fin 1 → IVec S16 32) a x).toNat < S64.size a := fun v1020 k1_hw57 => k1_hw57.2

def k1_chk58 (v1037 : IVec S16 32) : Prop :=
  (∀ a x, ((![v1037] : Fin 1 → IVec S16 32) a x).toNat < S64.size a) ∧
  (∀ a x, ((![v1037] : Fin 1 → IVec S16 32) a x).toNat < S64.size a)
theorem k1_idx115_inb : ∀ (v1037 : IVec S16 32) (k1_hw58 : k1_chk58 v1037), ∀ a x, ((![v1037] : Fin 1 → IVec S16 32) a x).toNat < S64.size a := fun v1037 k1_hw58 => k1_hw58.1
theorem k1_idx116_inb : ∀ (v1037 : IVec S16 32) (k1_hw58 : k1_chk58 v1037), ∀ a x, ((![v1037] : Fin 1 → IVec S16 32) a x).toNat < S64.size a := fun v1037 k1_hw58 => k1_hw58.2

def k1_chk59 (v1054 : IVec S16 32) : Prop :=
  (∀ a x, ((![v1054] : Fin 1 → IVec S16 32) a x).toNat < S64.size a) ∧
  (∀ a x, ((![v1054] : Fin 1 → IVec S16 32) a x).toNat < S64.size a)
theorem k1_idx117_inb : ∀ (v1054 : IVec S16 32) (k1_hw59 : k1_chk59 v1054), ∀ a x, ((![v1054] : Fin 1 → IVec S16 32) a x).toNat < S64.size a := fun v1054 k1_hw59 => k1_hw59.1
theorem k1_idx118_inb : ∀ (v1054 : IVec S16 32) (k1_hw59 : k1_chk59 v1054), ∀ a x, ((![v1054] : Fin 1 → IVec S16 32) a x).toNat < S64.size a := fun v1054 k1_hw59 => k1_hw59.2

def k1_chk60 (v1071 : IVec S16 32) : Prop :=
  (∀ a x, ((![v1071] : Fin 1 → IVec S16 32) a x).toNat < S64.size a) ∧
  (∀ a x, ((![v1071] : Fin 1 → IVec S16 32) a x).toNat < S64.size a)
theorem k1_idx119_inb : ∀ (v1071 : IVec S16 32) (k1_hw60 : k1_chk60 v1071), ∀ a x, ((![v1071] : Fin 1 → IVec S16 32) a x).toNat < S64.size a := fun v1071 k1_hw60 => k1_hw60.1
theorem k1_idx120_inb : ∀ (v1071 : IVec S16 32) (k1_hw60 : k1_chk60 v1071), ∀ a x, ((![v1071] : Fin 1 → IVec S16 32) a x).toNat < S64.size a := fun v1071 k1_hw60 => k1_hw60.2

def k1_chk61 (v1088 : IVec S16 32) : Prop :=
  (∀ a x, ((![v1088] : Fin 1 → IVec S16 32) a x).toNat < S64.size a) ∧
  (∀ a x, ((![v1088] : Fin 1 → IVec S16 32) a x).toNat < S64.size a)
theorem k1_idx121_inb : ∀ (v1088 : IVec S16 32) (k1_hw61 : k1_chk61 v1088), ∀ a x, ((![v1088] : Fin 1 → IVec S16 32) a x).toNat < S64.size a := fun v1088 k1_hw61 => k1_hw61.1
theorem k1_idx122_inb : ∀ (v1088 : IVec S16 32) (k1_hw61 : k1_chk61 v1088), ∀ a x, ((![v1088] : Fin 1 → IVec S16 32) a x).toNat < S64.size a := fun v1088 k1_hw61 => k1_hw61.2

def k1_chk62 (v1105 : IVec S16 32) : Prop :=
  (∀ a x, ((![v1105] : Fin 1 → IVec S16 32) a x).toNat < S64.size a) ∧
  (∀ a x, ((![v1105] : Fin 1 → IVec S16 32) a x).toNat < S64.size a)
theorem k1_idx123_inb : ∀ (v1105 : IVec S16 32) (k1_hw62 : k1_chk62 v1105), ∀ a x, ((![v1105] : Fin 1 → IVec S16 32) a x).toNat < S64.size a := fun v1105 k1_hw62 => k1_hw62.1
theorem k1_idx124_inb : ∀ (v1105 : IVec S16 32) (k1_hw62 : k1_chk62 v1105), ∀ a x, ((![v1105] : Fin 1 → IVec S16 32) a x).toNat < S64.size a := fun v1105 k1_hw62 => k1_hw62.2

def k1_chk63 (v1122 : IVec S16 32) : Prop :=
  (∀ a x, ((![v1122] : Fin 1 → IVec S16 32) a x).toNat < S64.size a) ∧
  (∀ a x, ((![v1122] : Fin 1 → IVec S16 32) a x).toNat < S64.size a)
theorem k1_idx125_inb : ∀ (v1122 : IVec S16 32) (k1_hw63 : k1_chk63 v1122), ∀ a x, ((![v1122] : Fin 1 → IVec S16 32) a x).toNat < S64.size a := fun v1122 k1_hw63 => k1_hw63.1
theorem k1_idx126_inb : ∀ (v1122 : IVec S16 32) (k1_hw63 : k1_chk63 v1122), ∀ a x, ((![v1122] : Fin 1 → IVec S16 32) a x).toNat < S64.size a := fun v1122 k1_hw63 => k1_hw63.2

def k1_chk64 (v1139 : IVec S16 32) : Prop :=
  (∀ a x, ((![v1139] : Fin 1 → IVec S16 32) a x).toNat < S64.size a) ∧
  (∀ a x, ((![v1139] : Fin 1 → IVec S16 32) a x).toNat < S64.size a)
theorem k1_idx127_inb : ∀ (v1139 : IVec S16 32) (k1_hw64 : k1_chk64 v1139), ∀ a x, ((![v1139] : Fin 1 → IVec S16 32) a x).toNat < S64.size a := fun v1139 k1_hw64 => k1_hw64.1
theorem k1_idx128_inb : ∀ (v1139 : IVec S16 32) (k1_hw64 : k1_chk64 v1139), ∀ a x, ((![v1139] : Fin 1 → IVec S16 32) a x).toNat < S64.size a := fun v1139 k1_hw64 => k1_hw64.2
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32768x4096 : Shape := ⟨2, ![32768, 4096]⟩
abbrev S512x4096 : Shape := ⟨2, ![512, 4096]⟩
abbrev S64x512 : Shape := ⟨2, ![64, 512]⟩
abbrev S1 : Shape := ⟨1, ![1]⟩
abbrev S4096x512 : Shape := ⟨2, ![4096, 512]⟩
abbrev S32768x512 : Shape := ⟨2, ![32768, 512]⟩
abbrev S_ : Shape := ⟨0, ![]⟩
abbrev S32768 : Shape := ⟨1, ![32768]⟩
abbrev S32768x1 : Shape := ⟨2, ![32768, 1]⟩
abbrev S64 : Shape := ⟨1, ![64]⟩
abbrev S64x1 : Shape := ⟨2, ![64, 1]⟩
abbrev S512x64 : Shape := ⟨2, ![512, 64]⟩
abbrev S32768x64 : Shape := ⟨2, ![32768, 64]⟩
abbrev S1x64 : Shape := ⟨2, ![1, 64]⟩

abbrev nBuf : Space → Nat
  | .hbm => 116
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S512x4096, .f32⟩
  | .hbm, ⟨2, _⟩ => ⟨S64x512, .f32⟩
  | .hbm, ⟨3, _⟩ => ⟨S1, .f32⟩
  | .hbm, ⟨4, _⟩ => ⟨S4096x512, .f32⟩
  | .hbm, ⟨5, _⟩ => ⟨S32768x512, .f32⟩
  | .hbm, ⟨6, _⟩ => ⟨S32768x512, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S32768x1, .f32⟩
  | .hbm, ⟨11, _⟩ => ⟨S64x512, .f32⟩
  | .hbm, ⟨12, _⟩ => ⟨S_, .f32⟩
  | .hbm, ⟨13, _⟩ => ⟨S64, .f32⟩
  | .hbm, ⟨14, _⟩ => ⟨S64x1, .f32⟩
  | .hbm, ⟨15, _⟩ => ⟨S64x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S32768x512, .f32⟩
  | .hbm, ⟨20, _⟩ => ⟨S32768x512, .f32⟩
  | .hbm, ⟨21, _⟩ => ⟨S_, .f32⟩
  | .hbm, ⟨22, _⟩ => ⟨S64x1, .f32⟩
  | .hbm, ⟨23, _⟩ => ⟨S64x1, .f32⟩
  | .hbm, ⟨24, _⟩ => ⟨S64x512, .f32⟩
  | .hbm, ⟨25, _⟩ => ⟨S64x512, .f32⟩
  | .hbm, ⟨26, _⟩ => ⟨S512x64, .f32⟩
  | .hbm, ⟨27, _⟩ => ⟨S32768x64, .f32⟩
  | .hbm, ⟨28, _⟩ => ⟨S32768x64, .f32⟩
  | .hbm, ⟨29, _⟩ => ⟨S_, .f32⟩
  | .hbm, ⟨30, _⟩ => ⟨S32768x64, .f32⟩
  | .hbm, ⟨31, _⟩ => ⟨S32768x64, .i1⟩
  | .hbm, ⟨32, _⟩ => ⟨S_, .f32⟩
  | .hbm, ⟨33, _⟩ => ⟨S_, .f32⟩
  | .hbm, ⟨34, _⟩ => ⟨S32768x64, .f32⟩
  | .hbm, ⟨35, _⟩ => ⟨S32768x64, .f32⟩
  | .hbm, ⟨36, _⟩ => ⟨S_, .f32⟩
  | .hbm, ⟨37, _⟩ => ⟨S_, .f32⟩
  | .hbm, ⟨38, _⟩ => ⟨S32768x64, .f32⟩
  | .hbm, ⟨39, _⟩ => ⟨S32768x64, .f32⟩
  | .hbm, ⟨40, _⟩ => ⟨S_, .f32⟩
  | .hbm, ⟨41, _⟩ => ⟨S_, .f32⟩
  | .hbm, ⟨42, _⟩ => ⟨S_, .i1⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S32768x64, .f32⟩
  | .hbm, ⟨47, _⟩ => ⟨S32768x64, .f32⟩
  | .hbm, ⟨48, _⟩ => ⟨S32768x64, .f32⟩
  | .hbm, ⟨49, _⟩ => ⟨S32768x64, .f32⟩
  | .hbm, ⟨50, _⟩ => ⟨S_, .f32⟩
  | .hbm, ⟨51, _⟩ => ⟨S32768x64, .f32⟩
  | .hbm, ⟨52, _⟩ => ⟨S32768x64, .f32⟩
  | .hbm, ⟨53, _⟩ => ⟨S_, .f32⟩
  | .hbm, ⟨54, _⟩ => ⟨S32768x64, .f32⟩
  | .hbm, ⟨55, _⟩ => ⟨S32768x64, .f32⟩
  | .hbm, ⟨56, _⟩ => ⟨S32768x64, .i32⟩
  | .hbm, ⟨57, _⟩ => ⟨S_, .f32⟩
  | .hbm, ⟨58, _⟩ => ⟨S_, .i32⟩
  | .hbm, ⟨59, _⟩ => ⟨S32768, .f32⟩
  | .hbm, ⟨60, _⟩ => ⟨S32768, .i32⟩
  | .hbm, ⟨61, _⟩ => ⟨S32768, .i32⟩
  | .hbm, ⟨62, _⟩ => ⟨S32768, .i32⟩
  | .hbm, ⟨63, _⟩ => ⟨S32768, .i32⟩
  | .hbm, ⟨64, _⟩ => ⟨S_, .i32⟩
  | .hbm, ⟨65, _⟩ => ⟨S64, .i32⟩
  | .hbm, ⟨66, _⟩ => ⟨S_, .i32⟩
  | .hbm, ⟨67, _⟩ => ⟨S_, .i32⟩
  | .hbm, ⟨68, _⟩ => ⟨S32768, .i32⟩
  | .hbm, ⟨69, _⟩ => ⟨S32768, .i32⟩
  | .hbm, ⟨70, _⟩ => ⟨S_, .i32⟩
  | .hbm, ⟨71, _⟩ => ⟨S32768, .i32⟩
  | .hbm, ⟨72, _⟩ => ⟨S32768, .i1⟩
  | .hbm, ⟨73, _⟩ => ⟨S_, .i32⟩
  | .hbm, ⟨74, _⟩ => ⟨S32768, .i32⟩
  | .hbm, ⟨75, _⟩ => ⟨S32768, .i32⟩
  | .hbm, ⟨76, _⟩ => ⟨S32768, .i32⟩
  | .hbm, ⟨77, _⟩ => ⟨S32768x1, .i32⟩
  | .hbm, ⟨78, _⟩ => ⟨S_, .i32⟩
  | .hbm, ⟨79, _⟩ => ⟨S32768, .i32⟩
  | .hbm, ⟨80, _⟩ => ⟨S64, .i32⟩
  | .hbm, ⟨81, _⟩ => ⟨S64, .f32⟩
  | .hbm, ⟨82, _⟩ => ⟨S_, .i32⟩
  | .hbm, ⟨83, _⟩ => ⟨S_, .i32⟩
  | .hbm, ⟨84, _⟩ => ⟨S_, .f32⟩
  | .hbm, ⟨85, _⟩ => ⟨S64, .f32⟩
  | .hbm, ⟨86, _⟩ => ⟨S64, .f32⟩
  | .hbm, ⟨87, _⟩ => ⟨S_, .f32⟩
  | .hbm, ⟨88, _⟩ => ⟨S64, .f32⟩
  | .hbm, ⟨89, _⟩ => ⟨S64, .f32⟩
  | .hbm, ⟨90, _⟩ => ⟨S_, .f32⟩
  | .hbm, ⟨91, _⟩ => ⟨S32768x64, .f32⟩
  | .hbm, ⟨92, _⟩ => ⟨S32768x64, .f32⟩
  | .hbm, ⟨93, _⟩ => ⟨S_, .f32⟩
  | .hbm, ⟨94, _⟩ => ⟨S32768, .f32⟩
  | .hbm, ⟨95, _⟩ => ⟨S_, .f32⟩
  | .hbm, ⟨96, _⟩ => ⟨S32768, .f32⟩
  | .hbm, ⟨97, _⟩ => ⟨S32768, .f32⟩
  | .hbm, ⟨98, _⟩ => ⟨S32768x1, .f32⟩
  | .hbm, ⟨99, _⟩ => ⟨S32768x64, .f32⟩
  | .hbm, ⟨100, _⟩ => ⟨S32768x64, .f32⟩
  | .hbm, ⟨101, _⟩ => ⟨S32768x64, .f32⟩
  | .hbm, ⟨102, _⟩ => ⟨S_, .f32⟩
  | .hbm, ⟨103, _⟩ => ⟨S32768, .f32⟩
  | .hbm, ⟨104, _⟩ => ⟨S32768x1, .f32⟩
  | .hbm, ⟨105, _⟩ => ⟨S32768x64, .f32⟩
  | .hbm, ⟨106, _⟩ => ⟨S32768x64, .f32⟩
  | .hbm, ⟨107, _⟩ => ⟨S_, .f32⟩
  | .hbm, ⟨108, _⟩ => ⟨S64, .f32⟩
  | .hbm, ⟨109, _⟩ => ⟨S64, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S1x64, .i32⟩
  | .hbm, ⟨115, _⟩ => ⟨S1x64, .i32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_call0_v0 : Ref sig .tc := ⟨.hbm, 33, rfl⟩
abbrev main_call0_v1 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_call1_v0 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_8 : Ref sig .tc := ⟨.hbm, 50, rfl⟩
abbrev main_v34 : Ref sig .tc := ⟨.hbm, 51, rfl⟩
abbrev main_v35 : Ref sig .tc := ⟨.hbm, 52, rfl⟩
abbrev main_cst_9 : Ref sig .tc := ⟨.hbm, 53, rfl⟩
abbrev main_v36 : Ref sig .tc := ⟨.hbm, 54, rfl⟩
abbrev main_v37 : Ref sig .tc := ⟨.hbm, 55, rfl⟩
abbrev main_call3_v0 : Ref sig .tc := ⟨.hbm, 56, rfl⟩
abbrev main_call3_cst : Ref sig .tc := ⟨.hbm, 57, rfl⟩
abbrev main_call3_c : Ref sig .tc := ⟨.hbm, 58, rfl⟩
abbrev main_call3_v1_0 : Ref sig .tc := ⟨.hbm, 59, rfl⟩
abbrev main_v38 : Ref sig .tc := ⟨.hbm, 60, rfl⟩
abbrev main_call4_v0 : Ref sig .tc := ⟨.hbm, 61, rfl⟩
abbrev main_call4_v1_0 : Ref sig .tc := ⟨.hbm, 62, rfl⟩
abbrev main_v39 : Ref sig .tc := ⟨.hbm, 63, rfl⟩
abbrev main_c : Ref sig .tc := ⟨.hbm, 64, rfl⟩
abbrev main_v40 : Ref sig .tc := ⟨.hbm, 65, rfl⟩
abbrev main_c_10 : Ref sig .tc := ⟨.hbm, 66, rfl⟩
abbrev main_call5_v0 : Ref sig .tc := ⟨.hbm, 67, rfl⟩
abbrev main_call5_v1 : Ref sig .tc := ⟨.hbm, 68, rfl⟩
abbrev main_v41 : Ref sig .tc := ⟨.hbm, 69, rfl⟩
abbrev main_c_11 : Ref sig .tc := ⟨.hbm, 70, rfl⟩
abbrev main_v42 : Ref sig .tc := ⟨.hbm, 71, rfl⟩
abbrev main_v43 : Ref sig .tc := ⟨.hbm, 72, rfl⟩
abbrev main_c_12 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_c_13 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_c_14 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_15 : Ref sig .tc := ⟨.hbm, 87, rfl⟩
abbrev main_v55 : Ref sig .tc := ⟨.hbm, 88, rfl⟩
abbrev main_v56 : Ref sig .tc := ⟨.hbm, 89, rfl⟩
abbrev main_cst_16 : Ref sig .tc := ⟨.hbm, 90, rfl⟩
abbrev main_v57 : Ref sig .tc := ⟨.hbm, 91, rfl⟩
abbrev main_v58 : Ref sig .tc := ⟨.hbm, 92, rfl⟩
abbrev main_cst_17 : Ref sig .tc := ⟨.hbm, 93, rfl⟩
abbrev main_v59 : Ref sig .tc := ⟨.hbm, 94, rfl⟩
abbrev main_cst_18 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_cst_19 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_cst_20 : Ref sig .tc := ⟨.hbm, 107, rfl⟩
abbrev main_v70 : Ref sig .tc := ⟨.hbm, 108, rfl⟩
abbrev main_v71 : Ref sig .tc := ⟨.hbm, 109, rfl⟩
abbrev main_cst_21 : Ref sig .tc := ⟨.hbm, 110, rfl⟩
abbrev main_v72 : Ref sig .tc := ⟨.hbm, 111, rfl⟩
abbrev main_cst_22 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩

abbrev nD : Nat := 1
abbrev τ : Topo := Topo.v7x

variable {F : FTy → Type} [FloatOps F]
-- ==== Proof.Steps.lean ====
/- The tile's body as sixty-four instances of ONE step: what the printed sequence runs for each
   sixteen tokens, and what closes each row of 128. -/
module

public import proofs.«01_k».proof.Proof.Gen.KernelIdeal

@[expose] public section

noncomputable section

namespace Cert.KernelIdeal.Sort

open Idealize.ShloMosaic Idealize.SL.Sem
open Cert.KernelIdeal
open Facts₀ Facts

variable {F : FTy → Type} [FloatOps F]

theorem inb16 (j : ℕ) : ∀ a, (![j / 8 % 8, 16 * (j % 8)] : Fin 2 → Nat) a + S1x16.size a ≤ S8x128.size a := by
  intro a; fin_cases a
  · change j / 8 % 8 + 1 ≤ 8; omega
  · change 16 * (j % 8) + 16 ≤ 128; omega

theorem inbRow (r : ℕ) : ∀ a, (![r % 8, 0] : Fin 2 → Nat) a + S1x128.size a ≤ S8x128.size a := by
  intro a; fin_cases a
  · change r % 8 + 1 ≤ 8; omega
  · change 0 + 128 ≤ 128; omega

theorem inbSeed (j : ℕ) : ∀ a, (![16 * (j % 4)] : Fin 1 → Nat) a + S16.size a ≤ S64.size a := by
  intro a; fin_cases a
  change 16 * (j % 4) + 16 ≤ 64; omega

theorem inbBase (j : ℕ) : ∀ a, (![16 * (j % 4)] : Fin 1 → Nat) a + S16.size a ≤ S128.size a := by
  intro a; fin_cases a
  change 16 * (j % 4) + 16 ≤ 128; omega

/-- The sixteen lanes `16 (j % 8) …` of row `j / 8`. -/
abbrev lanes (j : ℕ) : Rect S8x128 := Rect.unit (s := S8x128) ![j / 8 % 8, 16 * (j % 8)] S1x16.size (inb16 j)

/-- A tile's programs. -/
abbrev TileProg (F : FTy → Type) (i : grid1.Coords) (α : Type) := Prog (TpuEff nD τ sig (Elt F) Λ₀ (.scVector ((i 0).castLE hcore1) ((i 1).castLE hsub1))) α

section
variable (i : grid1.Coords)

/-- Sixteen words of the base row copied into the running counters. -/
def seed (arg6 : Memref sig .scVector .vmem S128 .i32) (arg7 : Memref sig .scVector .vmem S64 .i32) (j : ℕ) : TileProg F i PUnit := do
  let v : Vec F S16 .i32 ← Prog.lift (.load arg6 (Rect.unit (s := S128) ![16 * (j % 4)] S16.size (inbBase j)).toLoadRect (View.loadsAt_vmem h_S16))
  let _w : Vec F S16 .i32 ← Prog.lift (.load arg7 (Rect.unit (s := S64) ![16 * (j % 4)] S16.size (inbSeed j)).toLoadRect (View.loadsAt_vmem h_S16))
  Prog.lift (.store arg7 (Rect.unit (s := S64) ![16 * (j % 4)] S16.size (inbSeed j)) v Finset.univ (View.stores_vmem_bits_univ h_S16 rfl) (.inl rfl))

/-- The ranks of sixteen expert ids among themselves, counted from zero. -/
def ranks (v31 : BitVec 32) (e : IVec S16 32) : IVec S16 32 :=
  subi (scanCount (broadcast S16 1#1) e).2 (broadcast S16 v31)

/-- Sixteen tokens ranked: their ids read, their positions stored, the counters advanced, the tokens stored. -/
def step (arg5 : Memref sig .scVector .vmem S8x128 .i32) (arg7 : Memref sig .scVector .vmem S64 .i32)
    (arg8 arg9 : Memref sig .scVector .vmem S8x128 .i32) (v2 v31 : BitVec 32) (j : ℕ) : TileProg F i PUnit := do
  let eld : Vec F S1x16 .i32 ← Prog.lift (.load arg5 (lanes j).toLoadRect (View.loadsAt_vmem h_S1x16))
  have e : Vec F S16 .i32 := shapeCast S16 eld shapeCasts_S1x16_S16
  have hw : k1_chk1 e := (← Prog.lift (TpuEff.assume (k1_chk1 e) (k1_chk1.dec e))).down
  let cur : Vec F S16 .i32 ← SparseCore.vectorLoadIdx arg7 ![e] (k1_idx1_inb e hw) (View.loads_vmem h_S64)
  let _p : Vec F S1x16 .i32 ← Prog.lift (.load arg8 (lanes j).toLoadRect (View.loadsAt_vmem h_S1x16))
  Prog.lift (.store arg8 (lanes j) (shapeCast S1x16 (addi cur (ranks v31 e)) shapeCasts_S16_S1x16) Finset.univ (View.stores_vmem_bits_univ h_S1x16 rfl) (.inl rfl))
  SparseCore.vectorStoreIdx arg7 ![e] (addi (ranks v31 e) (broadcast S16 1#32)) (scanCount (broadcast S16 1#1) e).1 true (k1_idx2_inb e hw) (View.stores_vmem_bits_univ h_S64 rfl)
  let _t : Vec F S1x16 .i32 ← Prog.lift (.load arg9 (lanes j).toLoadRect (View.loadsAt_vmem h_S1x16))
  Prog.lift (.store arg9 (lanes j) (shapeCast S1x16 (addi (iota .scVector S16 32 [0] iota_S16_d0_w32_scVector) (broadcast S16 (Scalar.addi v2 (BitVec.ofNat 32 (16 * j))))) shapeCasts_S16_S1x16) Finset.univ (View.stores_vmem_bits_univ h_S1x16 rfl) (.inl rfl))

/-- Row `r` of a tile buffer of eight rows. -/
abbrev rowRef (arg : Memref sig .scVector .vmem S8x128 .i32) (r : ℕ) : Memref sig .scVector .vmem S128 .i32 :=
  (arg.slice (Rect.unit (s := S8x128) ![r % 8, 0] S1x128.size (inbRow r)) (fun _ => rfl)).squeeze S128 squeezes_S1x128_S128

/-- The output as the indexed operand. -/
abbrev outRef (arg4 : Memref sig .scVector .hbm S32768 .i32) : Memref sig .scVector .hbm S32768 .i32 :=
  arg4.slice (Rect.unit (s := S32768) ![0] S32768.size inb_S32768_S32768_0) (fun _ => rfl)

/-- Row `r`'s 128 tokens sent to their positions. -/
def send (arg4 : Memref sig .scVector .hbm S32768 .i32) (arg8 arg9 : Memref sig .scVector .vmem S8x128 .i32) (arg12 : DmaSems sig S_) (r : ℕ) : TileProg F i PUnit :=
  SparseCore.enqueueIndirectScatter rfl (rowRef arg9 r) (outRef arg4) gathers_S32768_S128 (rowRef arg8 r) rfl arg12.sem rfl (Or.inl rfl)

/-- Row `r`'s share of the drain. -/
def drain (arg4 : Memref sig .scVector .hbm S32768 .i32) (arg9 : Memref sig .scVector .vmem S8x128 .i32) (arg12 : DmaSems sig S_) (r : ℕ) : TileProg F i PUnit :=
  SparseCore.waitIndirectScatter arg12.sem (rowRef arg9 r) (outRef arg4) ((View.wordExact_bits rfl).reshape _ _) (View.wordExact_bits rfl)

/-- `n` of a family in order from `lo`, then `k`. -/
def chain (f : ℕ → TileProg F i PUnit) : ℕ → ℕ → TileProg F i PUnit → TileProg F i PUnit
  | _, 0, k => k
  | lo, n + 1, k => f lo >>= fun _ => chain f (lo + 1) n k

/-- The two input copies. -/
def fetch (arg2 : Memref sig .scVector .hbm S256x128 .i32) (arg3 : Memref sig .scVector .hbm S32x128 .i32)
    (arg5 : Memref sig .scVector .vmem S8x128 .i32) (harg5 : arg5.IsWhole) (arg6 : Memref sig .scVector .vmem S128 .i32) (harg6 : arg6.IsWhole)
    (arg10 arg11 : DmaSems sig S_) : TileProg F i PUnit := do
  let x : Memref sig .scVector .hbm S8x128 .i32 := arg2.slice (Rect.unit (s := S256x128) (k1_off1 i) S8x128.size (k1_off1_inb i)) (fun _ => rfl)
  let y : Memref sig .scVector .hbm S128 .i32 := (arg3.slice (Rect.unit (s := S32x128) (k1_off2 i) S1x128.size (k1_off2_inb i)) (fun _ => rfl)).squeeze S128 squeezes_S1x128_S128
  Prog.lift (.enqueueDma x (.here arg5) (.dma arg10.sem) (View.wordExact_bits rfl) harg5.wordExact ⟨Or.inl rfl, trivial⟩)
  Prog.lift (.enqueueDma y (.here arg6) (.dma arg11.sem) ((View.wordExact_bits rfl).reshape _ _) harg6.wordExact ⟨Or.inl rfl, trivial⟩)
  Prog.lift (.waitDma2 arg10.sem x arg5 (View.wordExact_bits rfl) harg5.wordExact)
  Prog.lift (.waitDma2 arg11.sem y arg6 ((View.wordExact_bits rfl).reshape _ _) harg6.wordExact)

/-- The first token of the tile. -/
def tbase : BitVec 32 := Scalar.muli (Scalar.addi (Scalar.muli (BitVec.ofNat 32 (i 1).val) 2#32) (BitVec.ofNat 32 (i 0).val)) 1024#32

/-- What the machine's count of a first occurrence is, measured. -/
def cbase : BitVec 32 :=
  extractAt ![15] (xori (scan .min (xori (scanCount (broadcast S16 1#1) (broadcast S16 0#32)).2 (broadcast S16 2147483648#32))) (broadcast S16 2147483648#32)) inpos_S16_p15

def body (arg2 : Memref sig .scVector .hbm S256x128 .i32) (arg3 : Memref sig .scVector .hbm S32x128 .i32) (arg4 : Memref sig .scVector .hbm S32768 .i32)
    (arg5 : Memref sig .scVector .vmem S8x128 .i32) (harg5 : arg5.IsWhole) (arg6 : Memref sig .scVector .vmem S128 .i32) (harg6 : arg6.IsWhole)
    (arg7 : Memref sig .scVector .vmem S64 .i32) (arg8 arg9 : Memref sig .scVector .vmem S8x128 .i32) (arg10 arg11 arg12 : DmaSems sig S_) : TileProg F i PUnit := do
  fetch (F := F) i arg2 arg3 arg5 harg5 arg6 harg6 arg10 arg11
  chain i (seed i arg6 arg7) 0 4 <|
    chain i (fun r => chain i (step i arg5 arg7 arg8 arg9 (tbase i) cbase) (8 * r) 8 (send i arg4 arg8 arg9 arg12 r)) 0 8 <|
      chain i (drain i arg4 arg9 arg12) 0 8 (pure ⟨⟩)

set_option maxHeartbeats 0 in
set_option maxRecDepth 1000000 in
theorem body_eq (arg2 : Memref sig .scVector .hbm S256x128 .i32) (harg2 : arg2.IsWhole) (arg3 : Memref sig .scVector .hbm S32x128 .i32) (harg3 : arg3.IsWhole)
    (arg4 : Memref sig .scVector .hbm S32768 .i32) (harg4 : arg4.IsWhole) (arg5 : Memref sig .scVector .vmem S8x128 .i32) (harg5 : arg5.IsWhole)
    (arg6 : Memref sig .scVector .vmem S128 .i32) (harg6 : arg6.IsWhole) (arg7 : Memref sig .scVector .vmem S64 .i32) (harg7 : arg7.IsWhole)
    (arg8 : Memref sig .scVector .vmem S8x128 .i32) (harg8 : arg8.IsWhole) (arg9 : Memref sig .scVector .vmem S8x128 .i32) (harg9 : arg9.IsWhole)
    (arg10 arg11 arg12 : DmaSems sig S_) :
    cc1__sc_sort_body (F := F) i arg2 harg2 arg3 harg3 arg4 harg4 arg5 harg5 arg6 harg6 arg7 harg7 arg8 harg8 arg9 harg9 arg10 arg11 arg12
      = body i arg2 arg3 arg4 arg5 harg5 arg6 harg6 arg7 arg8 arg9 arg10 arg11 arg12 := rfl

end

end Cert.KernelIdeal.Sort
-- ==== Proof.Ranks.lean ====
/-
  Counting sixteen tokens at a time: what the running count of duplicates and the masked accumulating scatter compute,
  in terms of how many earlier tokens of the tile carry an expert's id.
-/
module

public import proofs.«01_k».proof.Proof.Steps
public import Mathlib.Data.BitVec

@[expose] public section

noncomputable section

namespace Cert.KernelIdeal.Sort

open Idealize.ShloMosaic
open Cert.KernelIdeal
open scoped BigOperators

/-- How many of the first `n` words of `E` are `v`. -/
def cnt (E : ℕ → BitVec 32) (n : ℕ) (v : BitVec 32) : ℕ := ((Finset.range n).filter fun k => E k = v).card

theorem cnt_zero (E : ℕ → BitVec 32) (v : BitVec 32) : cnt E 0 v = 0 := rfl

theorem cnt_succ (E : ℕ → BitVec 32) (n : ℕ) (v : BitVec 32) : cnt E (n + 1) v = cnt E n v + if E n = v then 1 else 0 := by
  unfold cnt
  rw [Finset.range_add_one, Finset.filter_insert]
  split
  · rw [Finset.card_insert_of_notMem (by simp)]
  · rfl

theorem cnt_add (E : ℕ → BitVec 32) (a n : ℕ) (v : BitVec 32) :
    cnt E (a + n) v = cnt E a v + ((Finset.range n).filter fun l => E (a + l) = v).card := by
  induction n with
  | zero => simp
  | succ n ih =>
    rw [← Nat.add_assoc, cnt_succ, ih, Finset.range_add_one, Finset.filter_insert]
    split
    · rw [Finset.card_insert_of_notMem (by simp)]; omega
    · omega

theorem cnt_le (E : ℕ → BitVec 32) (n : ℕ) (v : BitVec 32) : cnt E n v ≤ n := by
  unfold cnt; exact (Finset.card_filter_le _ _).trans (by simp)

theorem one_eq : ((1#1 : BitVec 1) = 1) = True := eq_true rfl

/-- Sixteen consecutive words. -/
def sixteen (E : ℕ → BitVec 32) (a : ℕ) : IVec S16 32 := fun x => E (a + (x 0).val)

/-- Lane `l` of sixteen. -/
abbrev lane (l : Fin 16) : S16.Idx := Shape.ofLane (d := ![16]) l

theorem lane_val (l : Fin 16) : ((lane l) 0).val = l.val := rfl

theorem lane_surj (x : S16.Idx) : ∃ l : Fin 16, x = lane l := ⟨x 0, by funext a; rw [Fin.eq_zero a]; rfl⟩

theorem card_lanes (p : ℕ → Prop) [DecidablePred p] :
    (Finset.univ.filter fun y : S16.Idx => p (y 0).val).card = ((Finset.range 16).filter p).card := by
  refine Finset.card_bij (fun y _ => (y 0).val) ?_ ?_ ?_
  · intro y hy
    have hlt : (y 0).val < 16 := (y 0).isLt
    simpa [hlt] using hy
  · intro y _ y' _ h
    funext a; rw [Fin.eq_zero a]; exact Fin.ext h
  · intro l hl
    have hl' := Finset.mem_filter.mp hl
    exact ⟨lane ⟨l, Finset.mem_range.mp hl'.1⟩, by simpa [lane_val] using hl'.2, rfl⟩

theorem counts_apply (E : ℕ → BitVec 32) (a : ℕ) (x : S16.Idx) :
    (scanCount (broadcast S16 1#1) (sixteen E a)).2 x
      = BitVec.ofNat 32 (cnt E (a + ((x 0).val + 1)) (E (a + (x 0).val)) - cnt E a (E (a + (x 0).val))) := by
  have hx : (x 0).val < 16 := (x 0).isLt
  rw [cnt_add, Nat.add_sub_cancel_left]
  unfold scanCount
  simp only [broadcast, one_eq, if_true]
  congr 1
  have := card_lanes fun l => l ≤ (x 0).val ∧ E (a + l) = E (a + (x 0).val)
  simp only [Shape.rowMajor_val_one, true_and, sixteen] at this ⊢
  rw [this]
  congr 1
  ext l
  simp only [Finset.mem_filter, Finset.mem_range]
  constructor
  · rintro ⟨_, h1, h2⟩; exact ⟨by omega, h2⟩
  · rintro ⟨h1, h2⟩; exact ⟨by omega, by omega, h2⟩

theorem last_apply (E : ℕ → BitVec 32) (a : ℕ) (x : S16.Idx) :
    (scanCount (broadcast S16 1#1) (sixteen E a)).1 x = 1
      ↔ ∀ l : Fin 16, (x 0).val < l.val → E (a + l.val) ≠ E (a + (x 0).val) := by
  unfold scanCount
  simp only [broadcast, one_eq, Shape.rowMajor_val_one, true_and, sixteen]
  constructor
  · intro h l hl
    split at h
    · rename_i h'; exact h' (lane l) hl
    · exact absurd h (by decide)
  · intro h
    rw [if_pos]
    intro y hy
    exact h (y 0) hy

set_option maxRecDepth 100000 in
theorem cbase_eq : cbase = 1#32 := by
  unfold cbase
  decide +kernel

theorem ranks_apply (E : ℕ → BitVec 32) (a : ℕ) (x : S16.Idx) :
    ranks cbase (sixteen E a) x
      = BitVec.ofNat 32 (cnt E (a + (x 0).val) (E (a + (x 0).val)) - cnt E a (E (a + (x 0).val))) := by
  unfold ranks
  change (scanCount (broadcast S16 1#1) (sixteen E a)).2 x - cbase = _
  rw [counts_apply, cbase_eq, ← Nat.add_assoc, cnt_succ, if_pos rfl, cnt_add]
  rw [show cnt E a (E (a + (x 0).val)) + ((Finset.range (x 0).val).filter fun l => E (a + l) = E (a + (x 0).val)).card + 1
      - cnt E a (E (a + (x 0).val)) = ((Finset.range (x 0).val).filter fun l => E (a + l) = E (a + (x 0).val)).card + 1 by omega,
    Nat.add_sub_cancel_left, BitVec.ofNat_add]
  exact add_sub_cancel_right (_ : BitVec 32) _

variable {F : FTy → Type} [FloatOps F]

/-- One lane of the accumulating scatter. -/
def put (e v : IVec S16 32) (mask : IVec S16 1) (h : ∀ a x, ((![e] : Fin 1 → IVec S16 32) a x).toNat < S64.size a)
    (g : S64.Idx → BitVec 32) (l : Fin 16) : S64.Idx → BitVec 32 :=
  if mask (lane l) = 1 then
    fun j => if (∀ a, (j a).val = (idxAt (s := S64) ![e] h (lane l) a).val) then g (idxAt (s := S64) ![e] h (lane l)) + v (lane l) else g j
  else g

theorem put_apply (e v : IVec S16 32) (mask : IVec S16 1) (h : ∀ a x, ((![e] : Fin 1 → IVec S16 32) a x).toNat < S64.size a)
    (g : S64.Idx → BitVec 32) (l : Fin 16) (x : S64.Idx) :
    put e v mask h g l x = g x + if mask (lane l) = 1 ∧ (x 0).val = (e (lane l)).toNat then v (lane l) else 0 := by
  unfold put
  have hx : (∀ a, (x a).val = (idxAt (s := S64) ![e] h (lane l) a).val) ↔ (x 0).val = (e (lane l)).toNat :=
    ⟨fun h' => h' 0, fun h' a => by rw [Fin.eq_zero a]; exact h'⟩
  by_cases hm : mask (lane l) = 1
  · simp only [hm, if_true, true_and]
    by_cases hj : (x 0).val = (e (lane l)).toNat
    · rw [if_pos (hx.mpr hj), if_pos hj]
      have : idxAt (s := S64) ![e] h (lane l) = x := by funext a; exact Fin.ext (hx.mpr hj a).symm
      rw [this]
    · rw [if_neg fun h' => hj (hx.mp h'), if_neg hj, add_zero]
  · simp only [hm, if_false, false_and, add_zero]

theorem storeIdx_fold (f : Vec F S64 .i32) (e v : IVec S16 32) (mask : IVec S16 1) (h : ∀ a x, ((![e] : Fin 1 → IVec S16 32) a x).toNat < S64.size a) :
    storeIdx (F := F) (s := S64) (e := .i32) f ![e] v mask true h = List.foldl (put e v mask h) f (List.finRange 16) := by
  unfold storeIdx
  refine congrFun (congrFun (congrArg List.foldl (funext fun g => funext fun l => ?_)) f) (List.finRange 16)
  unfold put
  by_cases hm : mask (lane l) = 1
  · refine (if_pos hm).trans (Eq.trans ?_ (if_pos hm).symm)
    funext j
    by_cases hj : ∀ a, (j a).val = (idxAt (s := S64) ![e] h (lane l) a).val
    · exact (if_pos hj).trans (if_pos hj).symm
    · exact (if_neg hj).trans (if_neg hj).symm
  · exact (if_neg hm).trans (if_neg hm).symm

theorem storeIdx_sum (f : Vec F S64 .i32) (e v : IVec S16 32) (mask : IVec S16 1) (h : ∀ a x, ((![e] : Fin 1 → IVec S16 32) a x).toNat < S64.size a) (x : S64.Idx) :
    storeIdx (F := F) (s := S64) (e := .i32) f ![e] v mask true h x
      = (f x + ∑ l : Fin 16, if mask (lane l) = 1 ∧ (x 0).val = (e (lane l)).toNat then v (lane l) else 0 : BitVec 32) := by
  rw [Fin.sum_univ_def, storeIdx_fold]
  generalize List.finRange 16 = L
  induction L generalizing f with
  | nil => exact (add_zero (f x : BitVec 32)).symm
  | cons l L ih => rw [List.foldl_cons, ih, List.map_cons, List.sum_cons, ← add_assoc, put_apply]

/-- What the running counters hold after `n` tokens of the tile: the base row and the tokens counted. -/
def run (b : ℕ → BitVec 32) (E : ℕ → BitVec 32) (n : ℕ) : S64.Idx → BitVec 32 :=
  fun x => b (x 0).val + BitVec.ofNat 32 (cnt E n (BitVec.ofNat 32 (x 0).val))

theorem eq_ofNat_iff (w : BitVec 32) (n : ℕ) (hn : n < 64) : w = BitVec.ofNat 32 n ↔ n = w.toNat := by
  constructor
  · rintro rfl; simp; omega
  · intro h; rw [h]; simp

set_option maxHeartbeats 4000000 in
theorem run_step (b E : ℕ → BitVec 32) (a : ℕ) (h : ∀ c x, ((![sixteen E a] : Fin 1 → IVec S16 32) c x).toNat < S64.size c) :
    storeIdx (F := F) (s := S64) (e := .i32) (run b E a) ![sixteen E a] (addi (ranks cbase (sixteen E a)) (broadcast S16 1#32))
        (scanCount (broadcast S16 1#1) (sixteen E a)).1 true h
      = run b E (a + 16) := by
  funext x
  rw [storeIdx_sum]
  have hx64 : (x 0).val < 64 := (x 0).isLt
  unfold run
  rw [cnt_add, BitVec.ofNat_add, ← add_assoc]
  congr 1
  -- the one lane that adds is the last that names `x`
  let V : Finset (Fin 16) := Finset.univ.filter fun l => E (a + l.val) = BitVec.ofNat 32 (x 0).val
  by_cases hV : V.Nonempty
  · have hmem := Finset.mem_filter.mp (V.max'_mem hV)
    set m := V.max' hV with hm
    rw [Finset.sum_eq_single m]
    · have hlast : (scanCount (broadcast S16 1#1) (sixteen E a)).1 (lane m) = 1 := by
        rw [last_apply]
        intro l hl hE
        have : l ∈ V := Finset.mem_filter.mpr ⟨Finset.mem_univ _, by rw [hE]; exact hmem.2⟩
        exact absurd (V.le_max' l this) (by rw [← hm]; exact not_le.mpr hl)
      have hq : (x 0).val = (sixteen E a (lane m)).toNat := (eq_ofNat_iff _ _ hx64).mp hmem.2
      rw [if_pos ⟨hlast, hq⟩]
      change ranks cbase (sixteen E a) (lane m) + 1#32 = _
      rw [ranks_apply, lane_val, hmem.2, cnt_add, Nat.add_sub_cancel_left, ← BitVec.ofNat_add]
      congr 1
      have hsplit : (Finset.range 16).filter (fun l => E (a + l) = BitVec.ofNat 32 (x 0).val)
          = insert m.val ((Finset.range m.val).filter fun l => E (a + l) = BitVec.ofNat 32 (x 0).val) := by
        ext l
        simp only [Finset.mem_filter, Finset.mem_range, Finset.mem_insert]
        constructor
        · rintro ⟨h1, h2⟩
          have : (⟨l, h1⟩ : Fin 16) ∈ V := Finset.mem_filter.mpr ⟨Finset.mem_univ _, h2⟩
          have h3 : l ≤ m.val := V.le_max' _ this
          rcases h3.lt_or_eq with h4 | h4
          · exact .inr ⟨h4, h2⟩
          · exact .inl h4
        · rintro (rfl | ⟨h1, h2⟩)
          · exact ⟨m.isLt, hmem.2⟩
          · exact ⟨by have := m.isLt; omega, h2⟩
      rw [hsplit, Finset.card_insert_of_notMem (by simp)]
    · intro l _ hne
      rw [if_neg]
      rintro ⟨h1, h2⟩
      rw [last_apply] at h1
      have h2' : E (a + l.val) = BitVec.ofNat 32 (x 0).val := (eq_ofNat_iff _ _ hx64).mpr h2
      have hl : l ∈ V := Finset.mem_filter.mpr ⟨Finset.mem_univ _, h2'⟩
      have hlt : l < m := lt_of_le_of_ne (V.le_max' _ hl) hne
      exact h1 m hlt (by rw [lane_val, h2', hmem.2])
    · intro hn; exact absurd (Finset.mem_univ _) hn
  · have hnone : ∀ l : Fin 16, E (a + l.val) ≠ BitVec.ofNat 32 (x 0).val := fun l hl =>
      hV ⟨l, Finset.mem_filter.mpr ⟨Finset.mem_univ _, hl⟩⟩
    rw [Finset.sum_eq_zero, show ((Finset.range 16).filter fun l => E (a + l) = BitVec.ofNat 32 (x 0).val) = ∅ from ?_]
    · rfl
    · ext l
      simp only [Finset.mem_filter, Finset.mem_range, Finset.notMem_empty, iff_false, not_and]
      exact fun hl => hnone ⟨l, hl⟩
    · intro l _
      rw [if_neg]
      rintro ⟨-, h2⟩
      exact hnone l ((eq_ofNat_iff _ _ hx64).mpr h2)

/-- The position of token `k` of the tile. -/
def place (b E : ℕ → BitVec 32) (k : ℕ) : BitVec 32 := b (E k).toNat + BitVec.ofNat 32 (cnt E k (E k))

theorem place_step (b E : ℕ → BitVec 32) (a : ℕ) (h : ∀ c x, ((![sixteen E a] : Fin 1 → IVec S16 32) c x).toNat < S64.size c) (x : S16.Idx) :
    addi (loadIdx (F := F) (s := S64) (e := .i32) (run b E a) ![sixteen E a] h) (ranks cbase (sixteen E a)) x
      = place b E (a + (x 0).val) := by
  have hw : ((sixteen E a) x).toNat < 64 := h 0 x
  change run b E a (idxAt ![sixteen E a] h x) + ranks cbase (sixteen E a) x = _
  rw [ranks_apply]
  unfold run place
  have hi : ((idxAt (s := S64) ![sixteen E a] h x) 0).val = (E (a + (x 0).val)).toNat := rfl
  rw [hi, BitVec.ofNat_toNat, BitVec.setWidth_eq, BitVec.add_assoc, ← BitVec.ofNat_add, cnt_add]
  congr 2
  omega

end Cert.KernelIdeal.Sort
-- ==== Proof.ScatterBatch.lean ====
/-
  An indirect scatter issued as part of a counted batch: the rows of one stream are consecutive transfers of a
  `Transfers.Batch` on the stream's semaphore, so several streams may be in flight on one semaphore at once.
-/
module

public import Idealize.ShloMosaic.Lib.SparseCore.Scatter
public import Idealize.ShloMosaic.Lib.Batch

@[expose] public section

noncomputable section

namespace Cert.ScatterBatch

open Idealize.ShloMosaic Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA
open Transfers

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-- Transfer `j + i` of a batch of `n`, for the `i`-th row of a stream of `o` rows. -/
def at' {n o j : ℕ} (hj : j + o ≤ n) (i : Fin o) : Fin n := ⟨j + i.val, by omega⟩

theorem at'_injective {n o j : ℕ} (hj : j + o ≤ n) : Function.Injective (at' hj) := fun i i' h => by
  have := congrArg Fin.val h; simp only [at'] at this; exact Fin.ext (by omega)

omit [Preorder Lvl] in
/-- The issue rights from `j` on: those of the next `o` transfers, and those from `j + o` on. -/
theorem pending_add {n o j : ℕ} (hj : j + o ≤ n) (Φ : Fin n → sProp 𝕄) :
    bigSep (pending j) Φ = iprop(bigSep Finset.univ (fun i : Fin o => Φ (at' hj i)) ∗ bigSep (pending (j + o)) Φ) := by
  classical
  have hsub : Finset.univ.map ⟨at' hj, at'_injective hj⟩ ⊆ pending (n := n) j := by
    intro t ht
    obtain ⟨i, -, rfl⟩ := Finset.mem_map.mp ht
    simp [pending, at']
  have hrest : pending (n := n) j \ Finset.univ.map ⟨at' hj, at'_injective hj⟩ = pending (j + o) := by
    ext t
    simp only [pending, Finset.mem_sdiff, Finset.mem_filter, Finset.mem_univ, true_and, Finset.mem_map,
      Function.Embedding.coeFn_mk, not_exists]
    constructor
    · rintro ⟨h1, h2⟩
      by_contra h3
      exact h2 ⟨t.val - j, by omega⟩ (Fin.ext (by simp [at']; omega))
    · intro h
      refine ⟨by omega, fun i hi => ?_⟩
      have := congrArg Fin.val hi
      simp only [at'] at this
      omega
  rw [BI.bigSep_sdiff_split hsub, hrest, bigSep_map]
  rfl

/-- The element of the list's shape entry `k` reads. -/
abbrev entryIx {o : ℕ} (hn : si.numel = o) (k : Fin o) : si.Idx := si.rowMajor.symm (k.cast hn.symm)

/-- An indirect scatter whose rows are the next transfers of a batch on its semaphore, `j` of them issued before: the
    source's rows, the target's named rows and the list are given up, each row's delivery being what the batch promises. -/
theorem wp_scatterInBatch [Infinite Name] [EC.LandsIn (upEmb : UEmb _ 𝕄)]
    {src : Memref sig c.2.kind .vmem s e} {dst : Memref sig c.2.kind sp s₀ e} {hg : s₀.Gathers a s}
    {offs : Memref sig c.2.kind .vmem si .i32} {hn : si.numel = s.size hg.axis'} {sem : DmaSem sig}
    {hp : c.2.kind = .scVector} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    {n j u : ℕ} {D : Fin n → sProp 𝕄}
    (ι : Ix) (N : ℕ) (hin : ∀ x, (offs.view.read (Elt F) fo x).toNat < s₀.size hg.axis)
    (hinj : Function.Injective (rows (offs.view.read (Elt F) fo) hn hin))
    (hN : ∀ r, (dst.slice (s₀.rowRect hg.axis r) (s₀.stride_rowRect hg.axis _)).view.dmaCredit = N)
    (hj : j + s.size hg.axis' ≤ n) (hu : u ≤ j * N)
    (hD : ∀ i, iprop(((dst.view.loc c ↦[(dst.view.slice (s₀.rowRect hg.axis (rows (offs.view.read (Elt F) fo) hn hin i))).set]{fullShare}
              ((dst.view.slice (s₀.rowRect hg.axis (rows (offs.view.read (Elt F) fo) hn hin i))).write (Elt F) fd (scatterRowPayload c src hg fs i) Finset.univ))
            ∗ (offs.view.loc c ↦[{offs.view.emb (entryIx hn i)}]{qo} fo))
            ∗ (src.view.loc c ↦[(src.view.slice (s.rowRect hg.axis' i)).set]{q} fs)) ⊢ D (at' hj i)) :
    iprop((src.view.loc c ↦[src.view.set]{q} fs)
        ∗ (dst.view.loc c ↦[namedRows c dst.view hg.axis (rows (offs.view.read (Elt F) fo) hn hin)]{fullShare} fd)
        ∗ (offs.view.loc c ↦[offs.view.set]{qo} fo) ∗ Batch EC c (.dma sem) ι N D j u)
      ⊢ iprop((Batch EC c (.dma sem) ι N D (j + s.size hg.axis') u -∗ wp frame (wpE defs 𝒱 c bd) Set.univ (k ⟨⟩) Q)
          -∗ wp frame (wpE defs 𝒱 c bd) Set.univ (enqueueIndirectScatter hp src dst hg offs hn sem he hsp hr >>= k) Q) := by
  classical
  rw [enqueueIndirectScatter_bind]
  let S : Stream nD τ sig (Elt F) :=
    Stream.issued c offs.view hn sem (fun j w => (rowOf (s₀.size hg.axis) w).map (scatterRow c src dst hg sem he hsp hr j)) 0
  let r : Fin (s.size hg.axis') → Fin (s₀.size hg.axis) := rows (offs.view.read (Elt F) fo) hn hin
  let rd : Fin (s.size hg.axis') → RowDma τ sig (Elt F) c.2 sem := fun i => scatterRow c src dst hg sem he hsp hr i (r i)
  have hagree : S.RowsAgree := by
    intro i x x' ρ ρ' h h'
    obtain ⟨_, _, rfl⟩ := Option.map_eq_some_iff.mp h
    obtain ⟨_, _, rfl⟩ := Option.map_eq_some_iff.mp h'
    rfl
  have hrd : ∀ i, S.row i (S.word fo i) = some (rd i) := fun i => by
    change (rowOf (s₀.size hg.axis) (offs.view.read (Elt F) fo (S.entry i))).map _ = _
    rw [rowOf_of_lt (hin _)]; rfl
  have hen : Function.Bijective S.entry := si.rowMajor.symm.bijective.comp (finCongr hn.symm).bijective
  have hset : ∀ i, (src.view.slice (s.rowRect hg.axis' i)).set = (rd i).src.view.set := fun i =>
    (View.set_cast (v := src.view.slice (s.rowRect hg.axis' i)) _ _).symm
  have hnamed : (dst.view.loc c ↦[namedRows c dst.view hg.axis r]{fullShare} fd : sProp 𝕄)
      = bigSep Finset.univ fun i => dst.view.loc c ↦[(dst.view.slice (s₀.rowRect hg.axis (r i))).set]{fullShare} fd :=
    pointsTo_biUnion _ _ fun i _ i' _ h => dst.view.disjoint_rows hg.axis fun e => h (hinj e)
  have hcred : ∑ i, (rd i).dst.view.dmaCredit = s.size hg.axis' * N := by
    rw [Finset.sum_congr rfl fun i _ => hN (r i), Finset.sum_const, Finset.card_univ, Fintype.card_fin, smul_eq_mul]
  unfold Batch
  iintro ⟨Hs, Hd, Ho, ⟨%γ, %γ₀, %κ, #Hinv, HI, H0, Hc⟩⟩ Hk
  ihave HI' := (Entails.of_eq (pending_add hj fun t => count EC (γ t) 0)) $$ HI
  icases HI' with ⟨Hγ, HI⟩
  ihave Hd' := (Entails.of_eq hnamed) $$ Hd
  ihave Ho' := (Entails.of_eq (pointsTo_entries c offs.view S.entry hen qo fo)) $$ Ho
  ihave Hs' := (Entails.of_eq (pointsTo_rows c src.view hg.axis' q fs)) $$ Hs
  iapply (wp_enqueueIndirectDma 𝒱 c bd Set.univ (qo := qo) (fo := fo) (rd := rd) ι (s.size hg.axis' * N) hagree hrd hcred) $$ [Hd' Ho' Hs' Hγ]
  · have hrow : ∀ i, iprop(inv κ (batchBody EC (c, SemLoc.dma sem) N D γ γ₀)
          ∗ ((((dst.view.loc c ↦[(dst.view.slice (s₀.rowRect hg.axis (r i))).set]{fullShare} fd) ∗ S.heldEntry qo fo i)
          ∗ (src.view.loc c ↦[(src.view.slice (s.rowRect hg.axis' i)).set]{q} fs)) ∗ count EC (γ (at' hj i)) 0))
        ⊢ iprop(S.heldEntry qo fo i ∗ (S.heldEntry qo fo i -∗ rowRes c (rd i))) := fun i => by
      iintro ⟨#Hinv, ⟨⟨Hr, He⟩, Hsq⟩, Hγi⟩
      isplitl [He]; · iexact He
      iintro He
      unfold rowRes
      iexists q, fs, iprop((dst.view.loc c ↦[(dst.view.slice (s₀.rowRect hg.axis (r i))).set]{fullShare}
              ((dst.view.slice (s₀.rowRect hg.axis (r i))).write (Elt F) fd (scatterRowPayload c src hg fs i) Finset.univ)) ∗ S.heldEntry qo fo i)
      isplitl [Hsq]; · iapply (Entails.of_eq (congrArg (fun I => (src.view.loc c ↦[I]{q} fs : sProp 𝕄)) (hset i))) $$ Hsq
      isplitl [Hr He]
      · iapply writeUpdate_frame
        isplitl [Hr]
        · iapply (pointsTo_writeUpdate c (v := dst.view.slice (s₀.rowRect hg.axis (r i))) subset_rfl) $$ Hr
        · iexact He
      · have ham : (rd i).dst.view.amount (.dma sem) = N := hN (r i)
        rw [ham]
        iapply (batch_creditUpdate EC (at' hj i) (by rw [← hset i]; exact hD i))
        isplitr; · iexact Hinv
        iexact Hγi
    unfold Stream.res
    ihave H1 := bigSep_sep_in _ _ _ $$ [Hd' Ho']; · isplitl [Hd'] <;> iassumption
    ihave H2 := bigSep_sep_in _ _ _ $$ [H1 Hs']; · isplitl [H1] <;> iassumption
    ihave H3 := bigSep_sep_in _ _ _ $$ [H2 Hγ]; · isplitl [H2] <;> iassumption
    iapply (bigSep_mono_pers Finset.univ _ _ _ fun i _ => hrow i)
    isplitr; · iexact Hinv
    iexact H3
  · iintro Hc'
    iapply Hk
    iexists γ, γ₀, κ
    isplitr; · iexact Hinv
    isplitl [HI]; · iexact HI
    isplitl [H0]; · iexact H0
    rw [show (j + s.size hg.axis') * N - u = (j * N - u) + s.size hg.axis' * N by rw [Nat.add_mul]; omega, ← tallyAt_add]
    icombine Hc Hc' as H
    iexact H

end Cert.ScatterBatch
-- ==== Proof.Tile.lean ====
/-
  One tile's steps as rules: the sixteen tokens of a step ranked and stored, the counters seeded, a row sent off as part
  of the tile's batch of 1024 row transfers.
-/
module

public import proofs.«01_k».proof.Proof.Ranks
public import proofs.«01_k».proof.Proof.ScatterBatch
public import Idealize.ShloMosaic.Lib.SparseCore.Launch
public import Idealize.ShloMosaic.Lib.SparseCore.Ops
public import Idealize.ShloMosaic.Lib.Writes
public import Idealize.ShloMosaic.Lib.WordExact
public import Idealize.ShloMosaic.Lib.Pipeline.Value
public import Idealize.ShloMosaic.Lib.Tactic

@[expose] public section

noncomputable section

namespace Cert.KernelIdeal.Sort

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.KernelIdeal
open Facts₀ Facts
open Transfers

variable {F : FTy → Type} [FloatOps F] {U : Type} [URA U] [CountersIn U]

local notation "𝕄" => MT nD τ sig (HIx 1) (Elt F) ℕ U ℕ

/-- The place of an element of a tile buffer among the tile's 1024 tokens. -/
def flat (x : S8x128.Idx) : ℕ := 128 * (x 0).val + (x 1).val

/-- The rows from `r` on, and row `r`. -/
def fromRow (r : ℕ) : Finset S8x128.Idx := Finset.univ.filter fun x => r ≤ (x 0).val
def oneRow (r : ℕ) : Finset S8x128.Idx := Finset.univ.filter fun x => (x 0).val = r

theorem flat_lanes (j : ℕ) (hj : j < 64) (x : (lanes j).shape.Idx) : flat ((lanes j).emb x) = 16 * j + (x 1).val := by
  have h0 : ((lanes j).emb x 0).val = j / 8 % 8 + 1 * (x 0).val := rfl
  have h1 : ((lanes j).emb x 1).val = 16 * (j % 8) + 1 * (x 1).val := rfl
  have h2 : (x 0).val < 1 := (x 0).isLt
  unfold flat
  rw [h0, h1]; omega

theorem mem_lanes (j : ℕ) (hj : j < 64) (x : S8x128.Idx) (h : 16 * j ≤ flat x) (h' : flat x < 16 * (j + 1)) : x ∈ (lanes j).set := by
  have hx1 : (x 1).val < 128 := (x 1).isLt
  unfold flat at h h'
  rw [Rect.mem_set_unit]
  intro a
  fin_cases a
  · change j / 8 % 8 ≤ (x 0).val ∧ (x 0).val < j / 8 % 8 + 1; omega
  · change 16 * (j % 8) ≤ (x 1).val ∧ (x 1).val < 16 * (j % 8) + 16; omega

theorem lanes_subset (j r : ℕ) (hj : j < 64) (hr : r ≤ j / 8) : (lanes j).set ⊆ fromRow r := by
  intro x hx
  have h0 := Rect.mem_set_unit.mp hx 0
  change j / 8 % 8 ≤ (x 0).val ∧ (x 0).val < j / 8 % 8 + 1 at h0
  exact Finset.mem_filter.mpr ⟨Finset.mem_univ _, by omega⟩

section Rules

variable {α : Type} (d : Dev nD) (i : grid1.Coords)

/-- The tile's thread. -/
abbrev thr : Thread nD τ := (d, .scVector ((i 0).castLE hcore1) ((i 1).castLE hsub1))

/-- What a tile runs after a step. -/
abbrev WP (p : TileProg F i α) (Q : α → sProp 𝕄) : sProp 𝕄 := wp frame (wpE (defs₀ (F := F)) Variants.none (thr d i) none) Set.univ p Q

/-- A buffer's rows from `r` on, in place order up to `n` at the contents `G`. -/
def held (m : Memref sig .scVector .vmem S8x128 .i32) (G : Buf (Elt F) (m.view.loc (thr d i))) (r n : ℕ) : sProp 𝕄 :=
  iprop(∃ f : Buf (Elt F) (m.view.loc (thr d i)), ⌜∀ x : S8x128.Idx, r ≤ (x 0).val → flat x < n → m.view.read (Elt F) f x = m.view.read (Elt F) G x⌝
    ∗ m.view.loc (thr d i) ↦[m.view.setOn (fromRow r)]{fullShare} f)

theorem wp_load_held {m : Memref sig .scVector .vmem S8x128 .i32} {G : Buf (Elt F) (m.view.loc (thr d i))} {r n j : ℕ} (hj : j < 64) (hr : r ≤ j / 8)
    {hl : m.view.LoadsAt (lanes j).toLoadRect} {k : Vec F S1x16 .i32 → TileProg F i α} {Q : α → sProp 𝕄} :
    held d i m G r n ⊢ iprop((∀ v, held d i m G r n -∗ WP d i (k v) Q) -∗ WP (U := U) d i (.op (.load m (lanes j).toLoadRect hl) k) Q) := by
  unfold held
  iintro ⟨%f, %hf, H⟩ Hk
  iapply (wp_load_rect (defs := defs₀ (F := F)) Variants.none (thr d i) none Set.univ (Q := Q) (m := m) (r := lanes j) (hl := hl) (k := k)
    (S := m.view.setOn (fromRow r)) (q := fullShare) (f := f)
    (by show (m.view.slice (lanes j)).set ⊆ _; rw [View.set_slice]; exact Finset.map_subset_map.mpr (lanes_subset j r hj hr))) $$ H
  iintro H
  iapply Hk
  iexists f
  isplitr
  · ipureintro; exact hf
  · iexact H

theorem wp_store_held {m : Memref sig .scVector .vmem S8x128 .i32} {G : Buf (Elt F) (m.view.loc (thr d i))} {r j : ℕ} (hj : j < 64) (hr : r ≤ j / 8)
    {w : Vec F S1x16 .i32} {hx : (m.access (lanes j)).Stores Finset.univ} {hm : Finset.univ = Finset.univ ∨ ∀ a, (lanes j).stride a = 1}
    (hw : ∀ x : S1x16.Idx, w x = m.view.read (Elt F) G ((lanes j).emb x)) {k : PUnit → TileProg F i α} {Q : α → sProp 𝕄} :
    held d i m G r (16 * j) ⊢ iprop((held d i m G r (16 * (j + 1)) -∗ WP d i (k ⟨⟩) Q)
      -∗ WP (U := U) d i (.op (.store m (lanes j) w Finset.univ hx hm) k) Q) := by
  unfold held
  iintro ⟨%f, %hf, H⟩ Hk
  iapply (wp_store (defs := defs₀ (F := F)) Variants.none (thr d i) none Set.univ (Q := Q) (m := m) (r := lanes j) (w := w) (Mk := Finset.univ) (hx := hx) (hm := hm) (k := k)
    (S := m.view.setOn (fromRow r)) (f := f)
    (by rw [View.setOn_univ]; show (m.view.slice (lanes j)).set ⊆ _; rw [View.set_slice]; exact Finset.map_subset_map.mpr (lanes_subset j r hj hr))) $$ H
  iintro H
  iapply Hk
  iexists ((m.access (lanes j)).write (Elt F) f w Finset.univ)
  isplitr
  · ipureintro
    intro x hxr hxn
    by_cases hmem : x ∈ (lanes j).set
    · rw [← Rect.map_emb_univ] at hmem
      obtain ⟨y, -, rfl⟩ := Finset.mem_map.mp hmem
      exact (View.read_writes_cons_emb m.view f (lanes j) w [] y).trans (hw y)
    · refine (View.read_writes_cons_miss m.view f ⟨lanes j, w⟩ [] x hmem).trans (hf x hxr ?_)
      by_contra hlt
      exact hmem (mem_lanes j hj x (by omega) hxn)
  · iexact H

/-- The running counters, held at `run b E n`. -/
def counters (m : Memref sig .scVector .vmem S64 .i32) (b E : ℕ → BitVec 32) (n : ℕ) : sProp 𝕄 :=
  iprop(∃ f : Buf (Elt F) (m.view.loc (thr d i)), ⌜(m.access (.whole S64)).read (Elt F) f = run b E n⌝
    ∗ m.view.loc (thr d i) ↦[(m.access (.whole S64)).set]{fullShare} f)

/-- The tile's expert ids, held. -/
def ids (m : Memref sig .scVector .vmem S8x128 .i32) (E : ℕ → BitVec 32) : sProp 𝕄 :=
  iprop(∃ f : Buf (Elt F) (m.view.loc (thr d i)), ⌜∀ x : S8x128.Idx, m.view.read (Elt F) f x = E (flat x)⌝
    ∗ m.view.loc (thr d i) ↦[m.view.set]{fullShare} f)

/-- Positions and tokens, held from row `r` on up to place `n`. -/
def work (m8 m9 : Memref sig .scVector .vmem S8x128 .i32) (G8 : Buf (Elt F) (m8.view.loc (thr d i))) (G9 : Buf (Elt F) (m9.view.loc (thr d i))) (r n : ℕ) : sProp 𝕄 :=
  iprop(held d i m8 G8 r n ∗ held d i m9 G9 r n)

theorem wp_step {m5 : Memref sig .scVector .vmem S8x128 .i32} {m7 : Memref sig .scVector .vmem S64 .i32} {m8 m9 : Memref sig .scVector .vmem S8x128 .i32}
    {b E : ℕ → BitVec 32} {v2 : BitVec 32} {G8 : Buf (Elt F) (m8.view.loc (thr d i))} {G9 : Buf (Elt F) (m9.view.loc (thr d i))}
    (hE : ∀ k < 1024, (E k).toNat < 64) (h8 : ∀ x, m8.view.read (Elt F) G8 x = place b E (flat x))
    (h9 : ∀ x, m9.view.read (Elt F) G9 x = v2 + BitVec.ofNat 32 (flat x)) {r j : ℕ} (hj : j < 64) (hr : r ≤ j / 8) {k : PUnit → TileProg F i α} {Q : α → sProp 𝕄} :
    iprop(ids d i m5 E ∗ counters d i m7 b E (16 * j) ∗ work d i m8 m9 G8 G9 r (16 * j))
      ⊢ iprop((iprop(ids d i m5 E ∗ counters d i m7 b E (16 * (j + 1)) ∗ work d i m8 m9 G8 G9 r (16 * (j + 1))) -∗ WP d i (k ⟨⟩) Q)
        -∗ WP (U := U) d i (step i m5 m7 m8 m9 v2 cbase j >>= k) Q) := by
  have hbind : step i m5 m7 m8 m9 v2 cbase j >>= k
      = (.op (.load m5 (lanes j).toLoadRect (View.loadsAt_vmem h_S1x16)) fun eld : Vec F S1x16 .i32 =>
          .op (.assume (k1_chk1 (shapeCast S16 eld shapeCasts_S1x16_S16)) (k1_chk1.dec _)) fun hw =>
          SparseCore.vectorLoadIdx m7 ![shapeCast S16 eld shapeCasts_S1x16_S16] (k1_idx1_inb _ hw.down) (View.loads_vmem h_S64) >>= fun cur : Vec F S16 .i32 =>
          .op (.load m8 (lanes j).toLoadRect (View.loadsAt_vmem h_S1x16)) fun _ : Vec F S1x16 .i32 =>
          .op (.store m8 (lanes j) (shapeCast S1x16 (addi cur (ranks cbase (shapeCast S16 eld shapeCasts_S1x16_S16))) shapeCasts_S16_S1x16) Finset.univ (View.stores_vmem_bits_univ h_S1x16 rfl) (.inl rfl)) fun _ =>
          SparseCore.vectorStoreIdx m7 ![shapeCast S16 eld shapeCasts_S1x16_S16] (addi (ranks cbase (shapeCast S16 eld shapeCasts_S1x16_S16)) (broadcast S16 1#32))
            (scanCount (broadcast S16 1#1) (shapeCast S16 eld shapeCasts_S1x16_S16)).1 true (k1_idx2_inb _ hw.down) (View.stores_vmem_bits_univ h_S64 rfl) >>= fun _ =>
          .op (.load m9 (lanes j).toLoadRect (View.loadsAt_vmem h_S1x16)) fun _ : Vec F S1x16 .i32 =>
          .op (.store m9 (lanes j) (shapeCast S1x16 (addi (iota .scVector S16 32 [0] iota_S16_d0_w32_scVector) (broadcast S16 (Scalar.addi v2 (BitVec.ofNat 32 (16 * j))))) shapeCasts_S16_S1x16) Finset.univ (View.stores_vmem_bits_univ h_S1x16 rfl) (.inl rfl)) k) := rfl
  rw [hbind]
  clear hbind
  unfold ids counters work
  iintro ⟨⟨%f5, %h5, H5⟩, ⟨%f7, %h7, H7⟩, H8, H9⟩ Hk
  iapply (wp_load_rect (defs := defs₀ (F := F)) Variants.none (thr d i) none Set.univ (Q := Q) (m := m5) (r := lanes j)
    (S := m5.view.set) (q := fullShare) (f := f5) (by show (m5.view.slice (lanes j)).set ⊆ _; exact View.set_slice_subset _ _)) $$ H5
  iintro H5
  have he : (shapeCast S16 ((m5.access (lanes j)).read (Elt F) f5 : Vec F S1x16 .i32) shapeCasts_S1x16_S16 : IVec S16 32) = sixteen E (16 * j) := by
    funext x
    refine (shapeCast_dropUnit_apply ![16] _ _ x).trans ((h5 ((lanes j).emb (Fin.cons ⟨0, Nat.one_pos⟩ x))).trans ?_)
    rw [flat_lanes j hj]; rfl
  rw [he]
  have hchk : k1_chk1 (sixteen E (16 * j)) := by
    have h : ∀ a x, ((![sixteen E (16 * j)] : Fin 1 → IVec S16 32) a x).toNat < S64.size a := fun a x => by
      have hx : (x 0).val < 16 := (x 0).isLt
      rw [Fin.eq_zero a]; exact hE (16 * j + (x 0).val) (by omega)
    exact ⟨h, h⟩
  iapply (wp_assume (defs := defs₀ (F := F)) Variants.none (thr d i) none Set.univ (Q := Q) hchk)
  iapply (SparseCore.wp_vectorLoadIdx (defs := defs₀ (F := F)) Variants.none (thr d i) none Set.univ (Q := Q) (base := m7)
    (S := (m7.access (.whole S64)).set) (q := fullShare) (f := f7) subset_rfl) $$ H7
  iintro H7
  rw [h7]
  iapply (wp_load_held d i (Q := Q) (G := G8) hj hr) $$ H8
  iintro %_ H8
  iapply (wp_store_held d i (Q := Q) (G := G8) hj hr (fun x => by
    refine (shapeCast_addUnit_apply ![16] _ _ x).trans ?_
    exact (place_step (F := F) b E (16 * j) hchk.1 (fun a => x a.succ)).trans (by rw [h8, flat_lanes j hj]; rfl))) $$ H8
  iintro H8
  iapply (SparseCore.wp_vectorStoreIdx (defs := defs₀ (F := F)) Variants.none (thr d i) none Set.univ (Q := Q) (base := m7) (f := f7)) $$ H7
  iintro H7
  rw [h7, run_step]
  iapply (wp_load_held d i (Q := Q) (G := G9) hj hr) $$ H9
  iintro %_ H9
  iapply (wp_store_held d i (Q := Q) (G := G9) hj hr (fun x => by
    refine (shapeCast_addUnit_apply ![16] _ _ x).trans ?_
    rw [h9, flat_lanes j hj]
    refine (show _ = BitVec.ofNat 32 (x 1).val + (v2 + BitVec.ofNat 32 (16 * j)) from ?_).trans ?_
    · simp only [addi, iota, broadcast, Scalar.addi, List.foldl_cons, List.foldl_nil, Nat.zero_mul, Nat.zero_add]
      rfl
    · rw [BitVec.ofNat_add]; ac_rfl)) $$ H9
  iintro H9
  iapply Hk
  isplitl [H5]
  · iexists f5
    isplitr
    · ipureintro; exact h5
    · iexact H5
  isplitl [H7]
  · iexists _
    isplitr
    swap
    · iexact H7
    · ipureintro
      exact (View.read_write_univ _ _).trans (by rw [show 16 * (j + 1) = 16 * j + 16 from rfl])
  isplitl [H8] <;> iassumption

/-- The counters while they are seeded: the first `n` of them at the base row. -/
def seeded (m : Memref sig .scVector .vmem S64 .i32) (b : ℕ → BitVec 32) (n : ℕ) : sProp 𝕄 :=
  iprop(∃ f : Buf (Elt F) (m.view.loc (thr d i)), ⌜∀ x : S64.Idx, (x 0).val < n → m.view.read (Elt F) f x = b (x 0).val⌝
    ∗ m.view.loc (thr d i) ↦[m.view.set]{fullShare} f)

/-- The base row, held. -/
def base (m : Memref sig .scVector .vmem S128 .i32) (b : ℕ → BitVec 32) : sProp 𝕄 :=
  iprop(∃ f : Buf (Elt F) (m.view.loc (thr d i)), ⌜∀ x : S128.Idx, m.view.read (Elt F) f x = b (x 0).val⌝
    ∗ m.view.loc (thr d i) ↦[m.view.set]{fullShare} f)

theorem wp_seed {m6 : Memref sig .scVector .vmem S128 .i32} {m7 : Memref sig .scVector .vmem S64 .i32} {b : ℕ → BitVec 32} {j : ℕ} (hj : j < 4)
    {k : PUnit → TileProg F i α} {Q : α → sProp 𝕄} :
    iprop(base d i m6 b ∗ seeded d i m7 b (16 * j))
      ⊢ iprop((iprop(base d i m6 b ∗ seeded d i m7 b (16 * (j + 1))) -∗ WP d i (k ⟨⟩) Q) -∗ WP (U := U) d i (seed i m6 m7 j >>= k) Q) := by
  let r6 : Rect S128 := Rect.unit (s := S128) ![16 * (j % 4)] S16.size (inbBase j)
  let r7 : Rect S64 := Rect.unit (s := S64) ![16 * (j % 4)] S16.size (inbSeed j)
  have hbind : seed i m6 m7 j >>= k
      = (.op (.load m6 r6.toLoadRect (View.loadsAt_vmem h_S16)) fun v : Vec F S16 .i32 =>
          .op (.load m7 r7.toLoadRect (View.loadsAt_vmem h_S16)) fun _ : Vec F S16 .i32 =>
          .op (.store m7 r7 v Finset.univ (View.stores_vmem_bits_univ h_S16 rfl) (.inl rfl)) k) := rfl
  rw [hbind]
  clear hbind
  unfold base seeded
  iintro ⟨⟨%f6, %h6, H6⟩, ⟨%f7, %h7, H7⟩⟩ Hk
  iapply (wp_load_rect (defs := defs₀ (F := F)) Variants.none (thr d i) none Set.univ (Q := Q) (m := m6) (r := r6)
    (S := m6.view.set) (q := fullShare) (f := f6) (View.set_slice_subset m6.view r6)) $$ H6
  iintro H6
  iapply (wp_load_rect (defs := defs₀ (F := F)) Variants.none (thr d i) none Set.univ (Q := Q) (m := m7) (r := r7)
    (S := m7.view.set) (q := fullShare) (f := f7) (View.set_slice_subset m7.view r7)) $$ H7
  iintro H7
  iapply (wp_store (defs := defs₀ (F := F)) Variants.none (thr d i) none Set.univ (Q := Q) (m := m7) (r := r7) (Mk := Finset.univ)
    (S := m7.view.set) (f := f7) (View.set_slice_subset m7.view r7)) $$ H7
  iintro H7
  iapply Hk
  isplitl [H6]
  · iexists f6
    isplitr
    · ipureintro; exact h6
    · iexact H6
  iexists _
  isplitr
  swap
  · iexact H7
  ipureintro
  intro x hx
  by_cases hmem : x ∈ r7.set
  · rw [← Rect.map_emb_univ] at hmem
    obtain ⟨y, -, rfl⟩ := Finset.mem_map.mp hmem
    exact (View.read_writes_cons_emb m7.view f7 r7 _ [] y).trans (h6 (r6.emb y))
  · refine (View.read_writes_cons_miss m7.view f7 ⟨r7, _⟩ [] x hmem).trans (h7 x ?_)
    by_contra hlt
    refine hmem (Rect.mem_set_unit.mpr fun a => ?_)
    rw [Fin.eq_zero a]
    change 16 * (j % 4) ≤ (x 0).val ∧ (x 0).val < 16 * (j % 4) + 16
    omega

/-- The counters seeded are the running counters at no token. -/
theorem counters_of_seeded {m : Memref sig .scVector .vmem S64 .i32} {b E : ℕ → BitVec 32} :
    seeded (F := F) (U := U) d i m b 64 ⊢ counters d i m b E 0 := by
  unfold seeded counters
  iintro ⟨%f, %h, H⟩
  iexists f
  isplitr
  · ipureintro
    funext x
    have hx : (x 0).val < 64 := (x 0).isLt
    unfold run
    rw [cnt_zero, BitVec.add_zero, ← h x hx, View.read_apply, View.read_apply]
    congr 2
    exact congrArg m.view.emb (Rect.emb_whole_apply S64 x)
  · iapply (Entails.of_eq (congrArg (fun I => (m.view.loc (thr d i) ↦[I]{fullShare} f : sProp 𝕄)) (View.set_slice_rectWhole m.view).symm)) $$ H

theorem rowRect_set (r : ℕ) (hr : r < 8) : (Rect.unit (s := S8x128) ![r % 8, 0] S1x128.size (inbRow r)).set = oneRow r := by
  ext x
  rw [Rect.mem_set_unit]
  unfold oneRow
  simp only [Finset.mem_filter, Finset.mem_univ, true_and]
  constructor
  · intro h
    have := h 0
    change r % 8 ≤ (x 0).val ∧ (x 0).val < r % 8 + 1 at this
    omega
  · intro h a
    fin_cases a
    · change r % 8 ≤ (x 0).val ∧ (x 0).val < r % 8 + 1; omega
    · change 0 ≤ (x 1).val ∧ (x 1).val < 0 + 128
      exact ⟨Nat.zero_le _, by have : (x 1).val < 128 := (x 1).isLt; omega⟩

theorem set_rowRef (m : Memref sig .scVector .vmem S8x128 .i32) (r : ℕ) (hr : r < 8) : (rowRef m r).view.set = m.view.setOn (oneRow r) := by
  show ((m.view.slice (Rect.unit (s := S8x128) ![r % 8, 0] S1x128.size (inbRow r))).reshape S128 _).set = _
  rw [View.set_reshape, View.set_slice, rowRect_set r hr]; rfl

theorem fromRow_split (r : ℕ) : fromRow r = oneRow r ∪ fromRow (r + 1) := by
  ext x; unfold fromRow oneRow
  simp only [Finset.mem_filter, Finset.mem_univ, true_and, Finset.mem_union]; omega

theorem row_disjoint (m : Memref sig .scVector .vmem S8x128 .i32) (r : ℕ) : Disjoint (m.view.setOn (oneRow r)) (m.view.setOn (fromRow (r + 1))) := by
  unfold View.setOn
  rw [Finset.disjoint_map, Finset.disjoint_left]
  intro x hx hx'
  have h1 := (Finset.mem_filter.mp hx).2
  have h2 := (Finset.mem_filter.mp hx').2
  omega

/-- A row filled comes apart from the rows after it. -/
theorem held_split {m : Memref sig .scVector .vmem S8x128 .i32} {G : Buf (Elt F) (m.view.loc (thr d i))} {r n : ℕ} (hr : r < 8) (hn : 128 * (r + 1) ≤ n) :
    held (U := U) d i m G r n
      ⊢ iprop(((rowRef m r).view.loc (thr d i) ↦[(rowRef m r).view.set]{fullShare} G) ∗ held d i m G (r + 1) n) := by
  unfold held
  iintro ⟨%f, %hf, H⟩
  ihave H' := (Entails.of_eq (congrArg (fun I => (m.view.loc (thr d i) ↦[I]{fullShare} f : sProp 𝕄))
    (show m.view.setOn (fromRow r) = m.view.setOn (oneRow r) ∪ m.view.setOn (fromRow (r + 1)) by
      unfold View.setOn; rw [fromRow_split, Finset.map_union]))) $$ H
  ihave H2 := (pointsTo_union (row_disjoint m r)).1 $$ H'
  icases H2 with ⟨H1, H2⟩
  isplitl [H1]
  · iapply (Entails.of_eq (show (m.view.loc (thr d i) ↦[m.view.setOn (oneRow r)]{fullShare} f : sProp 𝕄)
        = (rowRef m r).view.loc (thr d i) ↦[(rowRef m r).view.set]{fullShare} G from ?_)) $$ H1
    rw [set_rowRef m r hr]
    refine pointsTo_congr fun y hy => ?_
    obtain ⟨x, hx, rfl⟩ := Finset.mem_map.mp hy
    have hx0 := (Finset.mem_filter.mp hx).2
    have hx1 : (x 1).val < 128 := (x 1).isLt
    have := hf x (by omega) (by unfold flat; omega)
    rw [View.read_apply, View.read_apply] at this
    exact (cast_inj _).mp this
  · iexists f
    isplitr
    · ipureintro; exact fun x hx hx' => hf x (by omega) hx'
    · iexact H2

/-- Nothing stored yet. -/
theorem held_zero {m : Memref sig .scVector .vmem S8x128 .i32} {G f : Buf (Elt F) (m.view.loc (thr d i))} :
    (m.view.loc (thr d i) ↦[m.view.set]{fullShare} f : sProp 𝕄) ⊢ held d i m G 0 0 := by
  unfold held
  iintro H
  iexists f
  isplitr
  · ipureintro; intro x _ h; omega
  · iapply (Entails.of_eq (congrArg (fun I => (m.view.loc (thr d i) ↦[I]{fullShare} f : sProp 𝕄))
      (show m.view.set = m.view.setOn (fromRow 0) by
        rw [show fromRow 0 = Finset.univ from Finset.filter_true_of_mem fun _ _ => Nat.zero_le _]; rfl))) $$ H

end Rules

end Cert.KernelIdeal.Sort
-- ==== Proof.Send.lean ====
/-
  A tile's output: each row of 128 tokens sent off as the next transfers of one batch of 1024, and the batch drained.
-/
module

public import proofs.«01_k».proof.Proof.Tile
public import Idealize.ShloMosaic.Lib.ValueIdxCore

@[expose] public section

noncomputable section

namespace Cert.KernelIdeal.Sort

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 eq_ix1 eq_ix2)
open Cert.KernelIdeal
open Cert.ScatterBatch
open Facts₀ Facts
open Transfers

variable {F : FTy → Type} [FloatOps F] {U : Type} [URA U] [CountersIn U]

local notation "𝕄" => MT nD τ sig (HIx 1) (Elt F) ℕ U ℕ

/-- The element of a tile buffer at place `t`. -/
def cell (t : Fin 1024) : S8x128.Idx := ix2 ⟨t.val / 128, by omega⟩ ⟨t.val % 128, by omega⟩

theorem flat_cell (t : Fin 1024) : flat (cell t) = t.val := by
  unfold flat cell
  show 128 * (t.val / 128) + t.val % 128 = t.val
  omega

/-- Where token `t` of the tile goes. -/
def dest (b E : ℕ → BitVec 32) (t : Fin 1024) : S32768.Idx := ix1 ⟨(place b E t.val).toNat % 32768, Nat.mod_lt _ (by decide)⟩

/-- Where the tokens from row `r` on go, and those of row `r`. -/
def destsFrom (b E : ℕ → BitVec 32) (r : ℕ) : Finset S32768.Idx := (Finset.univ.filter fun t : Fin 1024 => 128 * r ≤ t.val).image (dest b E)
def destsRow (b E : ℕ → BitVec 32) (r : ℕ) : Finset S32768.Idx := (Finset.univ.filter fun t : Fin 1024 => t.val / 128 = r).image (dest b E)

theorem destsFrom_split (b E : ℕ → BitVec 32) (r : ℕ) : destsFrom b E r = destsRow b E r ∪ destsFrom b E (r + 1) := by
  unfold destsFrom destsRow
  rw [← Finset.image_union]
  congr 1
  ext t
  simp only [Finset.mem_filter, Finset.mem_univ, true_and, Finset.mem_union]; omega

theorem dests_disjoint {b E : ℕ → BitVec 32} (hinj : Function.Injective (dest b E)) (r : ℕ) : Disjoint (destsRow b E r) (destsFrom b E (r + 1)) := by
  unfold destsFrom destsRow
  rw [Finset.disjoint_image hinj, Finset.disjoint_left]
  intro t h h'
  have h1 := (Finset.mem_filter.mp h).2
  have h2 := (Finset.mem_filter.mp h').2
  omega

section Rules

variable {α : Type} (d : Dev nD) (i : grid1.Coords)

/-- What transfer `t` of the batch hands back: the word it wrote, the position and the token it read. -/
def deliv (m4 : Memref sig .scVector .hbm S32768 .i32) (m8 m9 : Memref sig .scVector .vmem S8x128 .i32) (b E : ℕ → BitVec 32)
    (G4 : Buf (Elt F) (m4.view.loc (thr d i))) (G8 : Buf (Elt F) (m8.view.loc (thr d i))) (G9 : Buf (Elt F) (m9.view.loc (thr d i))) (t : Fin 1024) : sProp 𝕄 :=
  iprop(((m4.view.loc (thr d i) ↦[{m4.view.emb (dest b E t)}]{fullShare} G4) ∗ (m8.view.loc (thr d i) ↦[{m8.view.emb (cell t)}]{fullShare} G8))
    ∗ (m9.view.loc (thr d i) ↦[{m9.view.emb (cell t)}]{fullShare} G9))

instance deliv_storable (m4 : Memref sig .scVector .hbm S32768 .i32) (m8 m9 : Memref sig .scVector .vmem S8x128 .i32) (b E : ℕ → BitVec 32)
    (G4 : Buf (Elt F) (m4.view.loc (thr d i))) (G8 : Buf (Elt F) (m8.view.loc (thr d i))) (G9 : Buf (Elt F) (m9.view.loc (thr d i))) (t : Fin 1024) :
    BI.Storable (upEmb : UEmb _ 𝕄) (deliv (U := U) d i m4 m8 m9 b E G4 G8 G9 t) := by
  unfold deliv; infer_instance

theorem emb_rowRef (m : Memref sig .scVector .vmem S8x128 .i32) (r : ℕ) (hr : r < 8) (x : S128.Idx) :
    (rowRef m r).view.emb x = m.view.emb (cell ⟨128 * r + (x 0).val, by have : (x 0).val < 128 := (x 0).isLt; omega⟩) := by
  have hx : (x 0).val < 128 := (x 0).isLt
  show m.view.emb ((Rect.unit (s := S8x128) ![r % 8, 0] S1x128.size (inbRow r)).emb (Shape.reshapeEquiv _ x)) = _
  congr 1
  rw [Shape.reshapeEquiv_cons_one]
  funext a
  apply Fin.ext
  match a with
  | 0 => show r % 8 + 1 * 0 = (128 * r + (x 0).val) / 128; omega
  | 1 => show 0 + 1 * (x 0).val = (128 * r + (x 0).val) % 128; omega

theorem emb_outRef (m : Memref sig .scVector .hbm S32768 .i32) (x : S32768.Idx) : (outRef m).view.emb x = m.view.emb x := by
  show m.view.emb ((Rect.unit (s := S32768) ![0] S32768.size inb_S32768_S32768_0).emb x) = _
  congr 1
  funext a
  apply Fin.ext
  rw [Fin.eq_zero a]
  show 0 + 1 * (x 0).val = (x 0).val
  omega

/-- A row of a one-axis array is one element. -/
theorem set_row1 {sp : Space} {n : ℕ} (v : View sig .scVector sp ⟨1, ![n]⟩ .i32) (a : Fin 1) (k : Fin n) (hk : (![n] : Fin 1 → ℕ) a = n) :
    (v.slice ((⟨1, ![n]⟩ : Shape).rowRect a (k.cast hk.symm))).set = {v.emb (ix1 k)} := by
  rw [View.set_slice]
  rw [← Finset.map_singleton]
  congr 1
  ext x
  rw [Finset.mem_singleton]
  refine Iff.trans (Rect.mem_set_unit (s := ⟨1, ![n]⟩) (i := x)) ?_
  constructor
  · intro h
    have := h 0
    have ha : a = 0 := Fin.eq_zero a
    subst ha
    change k.val ≤ (x 0).val ∧ (x 0).val < k.val + 1 at this
    rw [eq_ix1 x]
    congr 1
    apply Fin.ext
    show (x 0).val = k.val
    omega
  · rintro rfl c
    have ha : a = 0 := Fin.eq_zero a
    have hc : c = 0 := Fin.eq_zero c
    subst ha; subst hc
    change k.val ≤ k.val ∧ k.val < k.val + 1
    omega

/-- The list a row of positions is, read. -/
theorem read_rowRef (m : Memref sig .scVector .vmem S8x128 .i32) (G : Buf (Elt F) (m.view.loc (thr d i))) (r : ℕ) (hr : r < 8) (x : S128.Idx) :
    (rowRef m r).view.read (Elt F) G x = m.view.read (Elt F) G (cell ⟨128 * r + (x 0).val, by have : (x 0).val < 128 := (x 0).isLt; omega⟩) := by
  rw [View.read_apply, View.read_apply, emb_rowRef m r hr]

/-- Place `128 r + l` of the tile. -/
abbrev tok (r : ℕ) (hr : r < 8) (l : Fin 128) : Fin 1024 := ⟨128 * r + l.val, by omega⟩

theorem entry_eq (l : Fin 128) : entryIx (si := S128) (o := 128) rfl l = ix1 l := by
  unfold entryIx
  rw [Equiv.symm_apply_eq]
  apply Fin.ext
  rw [Shape.rowMajor_val_one]
  rfl

theorem wp_send {m4 : Memref sig .scVector .hbm S32768 .i32} {m8 m9 : Memref sig .scVector .vmem S8x128 .i32} {sems : DmaSems sig S_}
    {b E : ℕ → BitVec 32} {v2 : BitVec 32}
    {G4 fd : Buf (Elt F) (m4.view.loc (thr d i))} {G8 : Buf (Elt F) (m8.view.loc (thr d i))} {G9 : Buf (Elt F) (m9.view.loc (thr d i))}
    (hP : ∀ k < 1024, (place b E k).toNat < 32768) (hinj : Function.Injective (dest b E))
    (h8 : ∀ x, m8.view.read (Elt F) G8 x = place b E (flat x)) (h9 : ∀ x, m9.view.read (Elt F) G9 x = v2 + BitVec.ofNat 32 (flat x))
    (h4 : ∀ t, m4.view.read (Elt F) G4 (dest b E t) = v2 + BitVec.ofNat 32 t.val)
    (hN : ∀ k, ((outRef m4).slice (S32768.rowRect gathers_S32768_S128.axis k) (S32768.stride_rowRect gathers_S32768_S128.axis _)).view.dmaCredit = 32)
    {r : ℕ} (hr : r < 8) {k : PUnit → TileProg F i α} {Q : α → sProp 𝕄} :
    iprop(((rowRef m8 r).view.loc (thr d i) ↦[(rowRef m8 r).view.set]{fullShare} G8)
        ∗ ((rowRef m9 r).view.loc (thr d i) ↦[(rowRef m9 r).view.set]{fullShare} G9)
        ∗ (m4.view.loc (thr d i) ↦[m4.view.setOn (destsFrom b E r)]{fullShare} fd)
        ∗ Batch countersEmb (thr d i) (.dma sems.sem) (none : HIx 1) 32 (deliv (U := U) d i m4 m8 m9 b E G4 G8 G9) (128 * r) 0)
      ⊢ iprop((iprop((m4.view.loc (thr d i) ↦[m4.view.setOn (destsFrom b E (r + 1))]{fullShare} fd)
            ∗ Batch countersEmb (thr d i) (.dma sems.sem) (none : HIx 1) 32 (deliv (U := U) d i m4 m8 m9 b E G4 G8 G9) (128 * (r + 1)) 0) -∗ WP d i (k ⟨⟩) Q)
        -∗ WP (U := U) d i (send i m4 m8 m9 sems r >>= k) Q) := by
  have hword : ∀ l : Fin 128, (rowRef m8 r).view.read (Elt F) G8 (entryIx (si := S128) (o := 128) rfl l) = place b E (128 * r + l.val) := fun l => by
    rw [entry_eq, read_rowRef d i m8 G8 r hr, h8, flat_cell]
  have hin : ∀ x, ((rowRef m8 r).view.read (Elt F) G8 x).toNat < S32768.size gathers_S32768_S128.axis := fun x => by
    have hx : (x 0).val < 128 := (x 0).isLt
    rw [read_rowRef d i m8 G8 r hr, h8, flat_cell]
    exact hP _ (Fin.isLt _)
  have hrow : ∀ l : Fin 128, SparseCore.rows ((rowRef m8 r).view.read (Elt F) G8) (o := S128.size gathers_S32768_S128.axis') rfl hin l
      = (dest b E (tok r hr l)) 0 := fun l => by
    apply Fin.ext
    show ((rowRef m8 r).view.read (Elt F) G8 (entryIx (si := S128) (o := 128) rfl l)).toNat = (place b E (128 * r + l.val)).toNat % 32768
    rw [hword, Nat.mod_eq_of_lt (hP _ (by omega))]
  have hdest : ∀ l : Fin 128, ((outRef m4).view.slice (S32768.rowRect gathers_S32768_S128.axis
        (SparseCore.rows ((rowRef m8 r).view.read (Elt F) G8) (o := S128.size gathers_S32768_S128.axis') rfl hin l))).set = {m4.view.emb (dest b E (tok r hr l))} := fun l => by
    rw [hrow]
    refine (set_row1 (outRef m4).view 0 ((dest b E (tok r hr l)) 0) rfl).trans ?_
    exact congrArg (fun z => ({z} : Finset _)) (emb_outRef m4 (dest b E (tok r hr l)))
  have hnamed : SparseCore.namedRows (thr d i) (outRef m4).view gathers_S32768_S128.axis
      (SparseCore.rows ((rowRef m8 r).view.read (Elt F) G8) (o := S128.size gathers_S32768_S128.axis') rfl hin) = m4.view.setOn (destsRow b E r) := by
    rw [SparseCore.namedRows_eq]
    ext y
    unfold View.setOn destsRow
    simp only [Finset.mem_biUnion, Finset.mem_univ, _root_.true_and, Finset.mem_map, Finset.mem_image, Finset.mem_filter]
    constructor
    · rintro ⟨l, hl⟩
      have hl' := (hdest l) ▸ hl
      exact ⟨_, ⟨tok r hr l, by show (128 * r + l.val) / 128 = r; have := l.isLt; change l.val < 128 at this; omega, rfl⟩, (Finset.mem_singleton.mp hl').symm⟩
    · rintro ⟨_, ⟨t, ht, rfl⟩, rfl⟩
      refine ⟨⟨t.val % 128, Nat.mod_lt _ (by decide)⟩, ?_⟩
      have hl := hdest ⟨t.val % 128, Nat.mod_lt _ (by decide)⟩
      have ht' : tok r hr ⟨t.val % 128, Nat.mod_lt _ (by decide)⟩ = t := Fin.ext (by show 128 * r + t.val % 128 = t.val; omega)
      rw [ht'] at hl
      exact hl ▸ Finset.mem_singleton_self _
  iintro ⟨H8, H9, H4, HB⟩ Hk
  ihave H4' := (Entails.of_eq (congrArg (fun I => (m4.view.loc (thr d i) ↦[I]{fullShare} fd : sProp 𝕄))
    (show m4.view.setOn (destsFrom b E r) = m4.view.setOn (destsRow b E r) ∪ m4.view.setOn (destsFrom b E (r + 1)) by
      unfold View.setOn; rw [destsFrom_split, Finset.map_union]))) $$ H4
  ihave H5 := (pointsTo_union (by unfold View.setOn; rw [Finset.disjoint_map]; exact dests_disjoint hinj r)).1 $$ H4'
  icases H5 with ⟨H4, H4r⟩
  ihave H4 := (Entails.of_eq (congrArg (fun I => (m4.view.loc (thr d i) ↦[I]{fullShare} fd : sProp 𝕄)) hnamed.symm)) $$ H4
  unfold send
  iapply (wp_scatterInBatch (defs := defs₀ (F := F)) (countersEmb (U := U)) Variants.none (thr d i) none (Q := Q)
    (src := rowRef m9 r) (dst := outRef m4) (hg := gathers_S32768_S128) (offs := rowRef m8 r) (hn := rfl) (sem := sems.sem)
    (q := fullShare) (qo := fullShare) (fs := G9) (fd := fd) (fo := G8) (n := 1024) (j := 128 * r) (u := 0)
    (D := deliv (U := U) d i m4 m8 m9 b E G4 G8 G9) (none : HIx 1) 32 hin ?inj (fun _ => hN _) (by show 128 * r + 128 ≤ 1024; omega) (Nat.zero_le _) ?del) $$ [H8 H9 H4 HB]
  case inj =>
    intro l l' h
    have h' : dest b E (tok r hr l) = dest b E (tok r hr l') := by
      rw [eq_ix1 (dest b E (tok r hr l)), eq_ix1 (dest b E (tok r hr l')), ← hrow l, ← hrow l', h]
    have := congrArg Fin.val (hinj h')
    apply Fin.ext
    change 128 * r + l.val = 128 * r + l'.val at this
    omega
  case del =>
    intro l
    have hat : at' (n := 1024) (o := 128) (j := 128 * r) (by omega) l = tok r hr l := rfl
    refine BIBase.Entails.trans ?_ (Entails.of_eq (congrArg (deliv (U := U) d i m4 m8 m9 b E G4 G8 G9) hat.symm))
    unfold deliv
    refine sep_mono (sep_mono ?_ ?_) ?_
    · refine (Entails.of_eq (pointsTo_congr (g := G4) ?_)).trans (Entails.of_eq (congrArg (fun I => (m4.view.loc (thr d i) ↦[I]{fullShare} G4 : sProp 𝕄)) (hdest l)))
      intro y hy
      obtain ⟨x, _, rfl⟩ := Finset.mem_map.mp hy
      have hy' := Finset.mem_singleton.mp ((hdest l) ▸ hy)
      have hpay : SparseCore.scatterRowPayload (thr d i) (rowRef m9 r) gathers_S32768_S128 G9 l x
          = v2 + BitVec.ofNat 32 (128 * r + l.val) := by
        have hx := View.emb_mem_set ((rowRef m9 r).view.slice (S128.rowRect gathers_S32768_S128.axis' l)) ((Shape.idxEquiv gathers_S32768_S128.rowShape_eq).symm x)
        have hx' := Finset.mem_singleton.mp ((set_row1 (rowRef m9 r).view 0 l rfl) ▸ hx)
        have h9' := h9 (cell (tok r hr l))
        rw [flat_cell, View.read_apply] at h9'
        refine Eq.trans ?_ h9'
        show _root_.cast _ (G9 _) = _
        congr 2
        exact hx'.trans (emb_rowRef m9 r hr (ix1 l))
      refine (View.write_emb_of_mem _ _ (Finset.mem_univ x)).trans ((congrArg (_root_.cast _) hpay).trans ?_)
      have h4' := h4 (tok r hr l)
      rw [View.read_apply] at h4'
      rw [← h4', cast_cast, cast_eq]
      exact congrArg G4 hy'.symm
    · refine Entails.of_eq (congrArg (fun z => (m8.view.loc (thr d i) ↦[({z} : Finset _)]{fullShare} G8 : sProp 𝕄)) ?_)
      exact (congrArg (rowRef m8 r).view.emb (entry_eq l)).trans (emb_rowRef m8 r hr (ix1 l))
    · refine Entails.of_eq (congrArg (fun I => (m9.view.loc (thr d i) ↦[I]{fullShare} G9 : sProp 𝕄)) ?_)
      refine (set_row1 (rowRef m9 r).view 0 l rfl).trans ?_
      exact congrArg (fun z => ({z} : Finset _)) (emb_rowRef m9 r hr (ix1 l))
  · isplitl [H9]; · iexact H9
    isplitl [H4]; · iexact H4
    isplitl [H8]; · iexact H8
    iexact HB
  iintro HB
  iapply Hk
  isplitl [H4r]; · iexact H4r
  iexact HB

theorem drain_bind (m4 : Memref sig .scVector .hbm S32768 .i32) (m9 : Memref sig .scVector .vmem S8x128 .i32) (sems : DmaSems sig S_) (r : ℕ)
    (k : PUnit → TileProg F i α) :
    drain (F := F) i m4 m9 sems r >>= k
      = .op (.waitDma2 sems.sem (outRef m4) (rowRef m9 r) (View.wordExact_bits rfl) ((View.wordExact_bits rfl).reshape _ _)) k := rfl

/-- The eight waits: each takes the units of one row of 128. -/
theorem wp_drains {m4 : Memref sig .scVector .hbm S32768 .i32} {m9 : Memref sig .scVector .vmem S8x128 .i32} {sems : DmaSems sig S_}
    {D : Fin 1024 → sProp 𝕄} (hJ : ∀ r, (rowRef m9 r).view.dmaCredit = 128 * 32)
    {O : CellTallies nD τ sig (HIx 1)} {Q : PUnit → sProp 𝕄} (k : TileProg F i PUnit) :
    ∀ (n r : ℕ) (W : Waits sig (HIx 1)), r + n = 8 →
    iprop(Batch countersEmb (thr d i) (.dma sems.sem) (none : HIx 1) 32 D 1024 (4096 * r) ∗ owes (thr d i) O W ∗ MayWaits (thr d i) (none : HIx 1) O)
      ⊢ iprop((iprop(Batch countersEmb (thr d i) (.dma sems.sem) (none : HIx 1) 32 D 1024 (32 * 1024)
            ∗ iprop(∃ W', ⌜∀ p ∈ W', p ∈ W ∨ p.2 = none⌝ ∗ owes (thr d i) O W')) -∗ WP d i k Q)
        -∗ WP (U := U) d i (chain i (drain (F := F) i m4 m9 sems) r n k) Q)
  | 0, r, W, h => by
    have hr : r = 8 := by omega
    subst hr
    iintro ⟨HB, HO, -⟩ Hk
    iapply Hk
    isplitl [HB]; · iexact HB
    iexists W
    isplitl []; · ipureintro; exact fun p hp => Or.inl hp
    iexact HO
  | n + 1, r, W, h => by
    iintro ⟨HB, HO, #HM⟩ Hk
    unfold chain
    rw [drain_bind]
    ihave HM' := (MayWaits.elim (SemLoc.dma sems.sem)) $$ HM
    iapply (wp_waitBatchMulO (defs := defs₀ (F := F)) (countersEmb (U := U)) Variants.none (thr d i) none (D := D) (j := 1024) (u := 4096 * r) (N := 32) (none : HIx 1) 128 (hJ r) (by omega)) $$ [HB HO HM']
    · isplitl [HB]; · iexact HB
      isplitl [HO]; · iexact HO
      iexact HM'
    iintro ⟨HB, HO⟩
    rw [show 4096 * r + 128 * 32 = 4096 * (r + 1) by omega]
    iapply (wp_drains (D := D) hJ k n (r + 1) (insert (SemLoc.dma sems.sem, none) W) (by omega)) $$ [HB HO]
    · isplitl [HB]; · iexact HB
      isplitl [HO]; · iexact HO
      iexact HM
    iintro ⟨HB, ⟨%W', %hW, HO⟩⟩
    iapply Hk
    isplitl [HB]; · iexact HB
    iexists W'
    isplitl []
    · ipureintro
      intro p hp
      rcases hW p hp with h | h
      · rcases Finset.mem_insert.mp h with rfl | h
        · exact Or.inr rfl
        · exact Or.inl h
      · exact Or.inr h
    iexact HO

end Rules

end Cert.KernelIdeal.Sort
-- ==== Proof.Body.lean ====
/-
  A tile's whole task: its chunk and base row fetched, the counters seeded, 64 steps, the eight rows sent, the batch drained.
-/
module

public import proofs.«01_k».proof.Proof.Send

@[expose] public section

noncomputable section

namespace Cert.KernelIdeal.Sort

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 eq_ix1 eq_ix2)
open Cert.KernelIdeal
open Cert.ScatterBatch
open Facts₀ Facts
open Transfers

variable {F : FTy → Type} [FloatOps F] {U : Type} [URA U] [CountersIn U]

local notation "𝕄" => MT nD τ sig (HIx 1) (Elt F) ℕ U ℕ

theorem chain_bind {i : grid1.Coords} (f : ℕ → TileProg F i PUnit) (g : PUnit → TileProg F i PUnit) :
    ∀ (n lo : ℕ) (k : TileProg F i PUnit), chain i f lo n k >>= g = chain i f lo n (k >>= g)
  | 0, _, _ => rfl
  | n + 1, lo, k => by
    show (f lo >>= fun _ => chain i f (lo + 1) n k) >>= g = f lo >>= fun _ => chain i f (lo + 1) n (k >>= g)
    rw [bind_assoc]
    exact congrArg (f lo >>= ·) (funext fun _ => chain_bind f g n (lo + 1) k)

/-- The chunk a tile fetches, and its base row. -/
abbrev chunkRef (i : grid1.Coords) (m2 : Memref sig .scVector .hbm S256x128 .i32) : Memref sig .scVector .hbm S8x128 .i32 :=
  m2.slice (Rect.unit (s := S256x128) (k1_off1 i) S8x128.size (k1_off1_inb i)) (fun _ => rfl)
abbrev baseRef (i : grid1.Coords) (m3 : Memref sig .scVector .hbm S32x128 .i32) : Memref sig .scVector .hbm S128 .i32 :=
  (m3.slice (Rect.unit (s := S32x128) (k1_off2 i) S1x128.size (k1_off2_inb i)) (fun _ => rfl)).squeeze S128 squeezes_S1x128_S128

section Rules

variable (d : Dev nD) (i : grid1.Coords)

theorem wp_seeds {m6 : Memref sig .scVector .vmem S128 .i32} {m7 : Memref sig .scVector .vmem S64 .i32} {b : ℕ → BitVec 32}
    {k : TileProg F i PUnit} {Q : PUnit → sProp 𝕄} : ∀ n j, j + n = 4 →
    iprop(base d i m6 b ∗ seeded d i m7 b (16 * j))
      ⊢ iprop((iprop(base d i m6 b ∗ seeded d i m7 b 64) -∗ WP d i k Q) -∗ WP (U := U) d i (chain i (seed i m6 m7) j n k) Q)
  | 0, j, h => by
    have hj : j = 4 := by omega
    subst hj
    iintro H Hk
    iapply Hk
    iexact H
  | n + 1, j, h => by
    iintro H Hk
    unfold chain
    iapply (wp_seed d i (by omega)) $$ H
    iintro H
    iapply (wp_seeds n (j + 1) (by omega)) $$ H
    iexact Hk

theorem wp_steps {m5 : Memref sig .scVector .vmem S8x128 .i32} {m7 : Memref sig .scVector .vmem S64 .i32} {m8 m9 : Memref sig .scVector .vmem S8x128 .i32}
    {b E : ℕ → BitVec 32} {v2 : BitVec 32} {G8 : Buf (Elt F) (m8.view.loc (thr d i))} {G9 : Buf (Elt F) (m9.view.loc (thr d i))}
    (hE : ∀ k < 1024, (E k).toNat < 64) (h8 : ∀ x, m8.view.read (Elt F) G8 x = place b E (flat x))
    (h9 : ∀ x, m9.view.read (Elt F) G9 x = v2 + BitVec.ofNat 32 (flat x)) {r : ℕ} (hr : r < 8) {k : TileProg F i PUnit} {Q : PUnit → sProp 𝕄} :
    ∀ n j, 8 * r ≤ j → j + n = 8 * (r + 1) →
    iprop(ids d i m5 E ∗ counters d i m7 b E (16 * j) ∗ work d i m8 m9 G8 G9 r (16 * j))
      ⊢ iprop((iprop(ids d i m5 E ∗ counters d i m7 b E (128 * (r + 1)) ∗ work d i m8 m9 G8 G9 r (128 * (r + 1))) -∗ WP d i k Q)
        -∗ WP (U := U) d i (chain i (step i m5 m7 m8 m9 v2 cbase) j n k) Q)
  | 0, j, hj, h => by
    have hj : 128 * (r + 1) = 16 * j := by omega
    rw [hj]
    iintro H Hk
    iapply Hk
    iexact H
  | n + 1, j, hj, h => by
    iintro H Hk
    unfold chain
    iapply (wp_step d i hE h8 h9 (by omega) (by omega)) $$ H
    iintro H
    iapply (wp_steps hE h8 h9 hr n (j + 1) (by omega) (by omega)) $$ H
    iexact Hk

theorem wp_rows {m4 : Memref sig .scVector .hbm S32768 .i32} {m5 : Memref sig .scVector .vmem S8x128 .i32} {m7 : Memref sig .scVector .vmem S64 .i32}
    {m8 m9 : Memref sig .scVector .vmem S8x128 .i32} {sems : DmaSems sig S_}
    {b E : ℕ → BitVec 32} {v2 : BitVec 32} {G4 fd : Buf (Elt F) (m4.view.loc (thr d i))} {G8 : Buf (Elt F) (m8.view.loc (thr d i))} {G9 : Buf (Elt F) (m9.view.loc (thr d i))}
    (hE : ∀ k < 1024, (E k).toNat < 64) (hP : ∀ k < 1024, (place b E k).toNat < 32768) (hinj : Function.Injective (dest b E))
    (h8 : ∀ x, m8.view.read (Elt F) G8 x = place b E (flat x)) (h9 : ∀ x, m9.view.read (Elt F) G9 x = v2 + BitVec.ofNat 32 (flat x))
    (h4 : ∀ t, m4.view.read (Elt F) G4 (dest b E t) = v2 + BitVec.ofNat 32 t.val) {k : TileProg F i PUnit} {Q : PUnit → sProp 𝕄} :
    ∀ n r, r + n = 8 →
    iprop((ids d i m5 E ∗ counters d i m7 b E (128 * r) ∗ work d i m8 m9 G8 G9 r (128 * r))
        ∗ (m4.view.loc (thr d i) ↦[m4.view.setOn (destsFrom b E r)]{fullShare} fd)
        ∗ Batch countersEmb (thr d i) (.dma sems.sem) (none : HIx 1) 32 (deliv (U := U) d i m4 m8 m9 b E G4 G8 G9) (128 * r) 0)
      ⊢ iprop((iprop((ids d i m5 E ∗ counters d i m7 b E 1024 ∗ work d i m8 m9 G8 G9 8 1024)
            ∗ Batch countersEmb (thr d i) (.dma sems.sem) (none : HIx 1) 32 (deliv (U := U) d i m4 m8 m9 b E G4 G8 G9) 1024 0) -∗ WP d i k Q)
        -∗ WP (U := U) d i (chain i (fun r => chain i (step i m5 m7 m8 m9 v2 cbase) (8 * r) 8 (send i m4 m8 m9 sems r)) r n k) Q)
  | 0, r, h => by
    have hr : r = 8 := by omega
    subst hr
    iintro ⟨H, -, HB⟩ Hk
    iapply Hk
    isplitl [H]; · iexact H
    iexact HB
  | n + 1, r, h => by
    iintro ⟨H, H4, HB⟩ Hk
    unfold chain
    rw [chain_bind]
    rw [show 128 * r = 16 * (8 * r) by omega]
    iapply (wp_steps d i hE h8 h9 (r := r) (by omega) 8 (8 * r) le_rfl (by omega)) $$ H
    rw [show 16 * (8 * r) = 128 * r by omega]
    iintro ⟨H5, H7, Hw⟩
    unfold work
    icases Hw with ⟨Hw8, Hw9⟩
    ihave Hw8 := (held_split d i (r := r) (by omega) le_rfl) $$ Hw8
    ihave Hw9 := (held_split d i (r := r) (by omega) le_rfl) $$ Hw9
    icases Hw8 with ⟨Hr8, Hw8⟩
    icases Hw9 with ⟨Hr9, Hw9⟩
    iapply (wp_send d i hP hinj h8 h9 h4 (fun _ => rfl) (r := r) (by omega)) $$ [Hr8 Hr9 H4 HB]
    · isplitl [Hr8]; · iexact Hr8
      isplitl [Hr9]; · iexact Hr9
      isplitl [H4]; · iexact H4
      iexact HB
    iintro ⟨H4, HB⟩
    iapply (wp_rows hE hP hinj h8 h9 h4 n (r + 1) (by omega)) $$ [H5 H7 Hw8 Hw9 H4 HB]
    · isplitl [H5 H7 Hw8 Hw9]
      · isplitl [H5]; · iexact H5
        isplitl [H7]; · iexact H7
        unfold work
        isplitl [Hw8] <;> iassumption
      isplitl [H4]; · iexact H4
      iexact HB
    unfold work
    iexact Hk

theorem cell_bijective : Function.Bijective cell := by
  rw [Fintype.bijective_iff_injective_and_card]
  refine ⟨fun t t' h => Fin.ext ?_, by decide⟩
  rw [← flat_cell t, ← flat_cell t', h]

/-- What the 1024 transfers hand back, together. -/
theorem collect {m4 : Memref sig .scVector .hbm S32768 .i32} {m8 m9 : Memref sig .scVector .vmem S8x128 .i32} {b E : ℕ → BitVec 32}
    {G4 : Buf (Elt F) (m4.view.loc (thr d i))} {G8 : Buf (Elt F) (m8.view.loc (thr d i))} {G9 : Buf (Elt F) (m9.view.loc (thr d i))}
    (hinj : Function.Injective (dest b E)) :
    bigSep Finset.univ (deliv (U := U) d i m4 m8 m9 b E G4 G8 G9)
      ⊢ iprop((m4.view.loc (thr d i) ↦[m4.view.setOn (destsFrom b E 0)]{fullShare} G4)
          ∗ (m8.view.loc (thr d i) ↦[m8.view.set]{fullShare} G8) ∗ (m9.view.loc (thr d i) ↦[m9.view.set]{fullShare} G9)) := by
  have hset : m4.view.setOn (destsFrom b E 0) = Finset.univ.biUnion fun t => ({m4.view.emb (dest b E t)} : Finset (Idx (m4.view.loc (thr d i)))) := by
    rw [Finset.biUnion_singleton]
    unfold View.setOn destsFrom
    rw [Finset.filter_true_of_mem (fun _ _ => Nat.zero_le _), Finset.map_eq_image, Finset.image_image]
    rfl
  unfold deliv
  rw [bigSep_sep', bigSep_sep', pointsTo_entries (thr d i) m8.view cell cell_bijective, pointsTo_entries (thr d i) m9.view cell cell_bijective,
    hset, pointsTo_biUnion Finset.univ _ fun k _ k' _ h => Finset.disjoint_singleton.mpr fun he => h (hinj (m4.view.emb.injective he))]
  iintro ⟨⟨H4, H8⟩, H9⟩
  isplitl [H4]; · iexact H4
  isplitl [H8] <;> iassumption

/-- Any contents of a buffer behind a view. -/
def any {s : Shape} {sp : Space} (m : Memref sig .scVector sp s .i32) : sProp 𝕄 :=
  iprop(∃ f : Buf (Elt F) (m.view.loc (thr d i)), m.view.loc (thr d i) ↦[m.view.set]{fullShare} f)

theorem wp_body {m2 : Memref sig .scVector .hbm S256x128 .i32} {m3 : Memref sig .scVector .hbm S32x128 .i32} {m4 : Memref sig .scVector .hbm S32768 .i32}
    {m5 : Memref sig .scVector .vmem S8x128 .i32} {w5 : m5.IsWhole} {m6 : Memref sig .scVector .vmem S128 .i32} {w6 : m6.IsWhole}
    {m7 : Memref sig .scVector .vmem S64 .i32} {m8 m9 : Memref sig .scVector .vmem S8x128 .i32} {s10 s11 s12 : DmaSems sig S_}
    {b E : ℕ → BitVec 32} {q2 q3 : PosShare TreeShare}
    {f2 : Buf (Elt F) ((chunkRef i m2).view.loc (thr d i))} {f3 : Buf (Elt F) ((baseRef i m3).view.loc (thr d i))} {G4 fd : Buf (Elt F) (m4.view.loc (thr d i))}
    (hE : ∀ k < 1024, (E k).toNat < 64) (hP : ∀ k < 1024, (place b E k).toNat < 32768) (hinj : Function.Injective (dest b E))
    (h2 : ∀ x, (chunkRef i m2).view.read (Elt F) f2 x = E (flat x)) (h3 : ∀ x, (baseRef i m3).view.read (Elt F) f3 x = b (x 0).val)
    (h4 : ∀ t, m4.view.read (Elt F) G4 (dest b E t) = tbase i + BitVec.ofNat 32 t.val)
    {O : CellTallies nD τ sig (HIx 1)} {W : Waits sig (HIx 1)} :
    iprop(MayWaits (thr d i) (none : HIx 1) O
        ∗ ((chunkRef i m2).view.loc (thr d i) ↦[(chunkRef i m2).view.set]{q2} f2) ∗ ((baseRef i m3).view.loc (thr d i) ↦[(baseRef i m3).view.set]{q3} f3)
        ∗ (m4.view.loc (thr d i) ↦[m4.view.setOn (destsFrom b E 0)]{fullShare} fd)
        ∗ any d i m5 ∗ any d i m6 ∗ any d i m7 ∗ any d i m8 ∗ any d i m9
        ∗ semVal (thr d i, .dma s10.sem) 0 ∗ semVal (thr d i, .dma s11.sem) 0 ∗ semVal (thr d i, .dma s12.sem) 0 ∗ owes (thr d i) O W)
      ⊢ WP (U := U) d i (body i m2 m3 m4 m5 w5 m6 w6 m7 m8 m9 s10 s11 s12) fun _ =>
        iprop(((chunkRef i m2).view.loc (thr d i) ↦[(chunkRef i m2).view.set]{q2} f2) ∗ ((baseRef i m3).view.loc (thr d i) ↦[(baseRef i m3).view.set]{q3} f3)
        ∗ (m4.view.loc (thr d i) ↦[m4.view.setOn (destsFrom b E 0)]{fullShare} G4)
        ∗ any d i m5 ∗ any d i m6 ∗ any d i m7 ∗ any d i m8 ∗ any d i m9
        ∗ semVal (thr d i, .dma s10.sem) 0 ∗ semVal (thr d i, .dma s11.sem) 0 ∗ semVal (thr d i, .dma s12.sem) 0
        ∗ iprop(∃ W', ⌜∀ p ∈ W', p ∈ W ∨ p.2 = none⌝ ∗ owes (thr d i) O W')) := by
  have hfetch : body (F := F) i m2 m3 m4 m5 w5 m6 w6 m7 m8 m9 s10 s11 s12
      = .op (.enqueueDma (chunkRef i m2) (.here m5) (.dma s10.sem) (View.wordExact_bits rfl) w5.wordExact ⟨Or.inl rfl, trivial⟩) fun _ =>
        .op (.enqueueDma (baseRef i m3) (.here m6) (.dma s11.sem) ((View.wordExact_bits rfl).reshape _ _) w6.wordExact ⟨Or.inl rfl, trivial⟩) fun _ =>
        .op (.waitDma2 s10.sem (chunkRef i m2) m5 (View.wordExact_bits rfl) w5.wordExact) fun _ =>
        .op (.waitDma2 s11.sem (baseRef i m3) m6 ((View.wordExact_bits rfl).reshape _ _) w6.wordExact) fun _ =>
        chain i (seed i m6 m7) 0 4 <|
          chain i (fun r => chain i (step i m5 m7 m8 m9 (tbase i) cbase) (8 * r) 8 (send i m4 m8 m9 s12 r)) 0 8 <|
            chain i (drain i m4 m9 s12) 0 8 (pure ⟨⟩) := rfl
  rw [hfetch]
  unfold any
  iintro ⟨#HM, H2, H3, H4, ⟨%f5, H5⟩, ⟨%f6, H6⟩, ⟨%f7, H7⟩, ⟨%f8, H8⟩, ⟨%f9, H9⟩, S10, S11, S12, HO⟩
  let G8 : Buf (Elt F) (m8.view.loc (thr d i)) := m8.view.write (Elt F) f8 (fun x => place b E (flat x)) Finset.univ
  let G9 : Buf (Elt F) (m9.view.loc (thr d i)) := m9.view.write (Elt F) f9 (fun x => tbase i + BitVec.ofNat 32 (flat x)) Finset.univ
  have h8 : ∀ x, m8.view.read (Elt F) G8 x = place b E (flat x) := fun x => congrFun (View.read_write_univ _ _) x
  have h9 : ∀ x, m9.view.read (Elt F) G9 x = tbase i + BitVec.ofNat 32 (flat x) := fun x => congrFun (View.read_write_univ _ _) x
  iapply (wp_dmaLocal (defs := defs₀ (F := F)) (countersEmb (U := U)) Variants.none (thr d i) none (none : HIx 1) 32768 rfl (by decide) subset_rfl) $$ [H2 H5 S10]
  · isplitl [H2]; · iexact H2
    isplitl [H5]; · iexact H5
    iexact S10
  iintro Hf10
  iapply (wp_dmaLocal (defs := defs₀ (F := F)) (countersEmb (U := U)) Variants.none (thr d i) none (none : HIx 1) 4096 rfl (by decide) subset_rfl) $$ [H3 H6 S11]
  · isplitl [H3]; · iexact H3
    isplitl [H6]; · iexact H6
    iexact S11
  iintro Hf11
  ihave HM10 := (MayWaits.elim (SemLoc.dma s10.sem)) $$ HM
  iapply (wp_waitLocalO (defs := defs₀ (F := F)) (countersEmb (U := U)) Variants.none (thr d i) none (none : HIx 1) (N := 32768) rfl) $$ [Hf10 HO HM10]
  · isplitl [Hf10]; · iexact Hf10
    isplitl [HO]; · iexact HO
    iexact HM10
  iintro ⟨⟨H5, H2⟩, S10, HO⟩
  ihave HM11 := (MayWaits.elim (SemLoc.dma s11.sem)) $$ HM
  iapply (wp_waitLocalO (defs := defs₀ (F := F)) (countersEmb (U := U)) Variants.none (thr d i) none (none : HIx 1) (N := 4096) rfl) $$ [Hf11 HO HM11]
  · isplitl [Hf11]; · iexact Hf11
    isplitl [HO]; · iexact HO
    iexact HM11
  iintro ⟨⟨H6, H3⟩, S11, HO⟩
  iapply (wp_seeds d i (b := b) 4 0 rfl) $$ [H6 H7]
  · unfold base seeded
    isplitl [H6]
    · iexists _
      isplitr
      swap; · iexact H6
      ipureintro
      intro x
      exact (congrFun (View.read_write_univ _ _) x).trans (h3 x)
    · iexists _
      isplitr
      swap; · iexact H7
      ipureintro
      intro x hx; omega
  iintro ⟨H6, H7⟩
  ihave H7 := (counters_of_seeded d i (E := E)) $$ H7
  imod (batch_alloc' (countersEmb (U := U)) (c := thr d i) (sm := SemLoc.dma s12.sem) (none : HIx 1) 32 (deliv (U := U) d i m4 m8 m9 b E G4 G8 G9) (E := Set.univ)) $$ S12 with HB
  ihave H8 := (held_zero d i (G := G8)) $$ H8
  ihave H9 := (held_zero d i (G := G9)) $$ H9
  iapply (wp_rows d i hE hP hinj h8 h9 h4 8 0 rfl) $$ [H5 H7 H8 H9 H4 HB]
  · isplitl [H5 H7 H8 H9]
    · isplitl [H5]
      · unfold ids
        iexists _
        isplitr
        swap; · iexact H5
        ipureintro
        intro x
        exact (congrFun (View.read_write_univ _ _) x).trans (h2 x)
      isplitl [H7]; · iexact H7
      unfold work
      isplitl [H8] <;> iassumption
    isplitl [H4]; · iexact H4
    iexact HB
  iintro ⟨⟨H5, H7, -⟩, HB⟩
  iapply (wp_drains d i (D := deliv (U := U) d i m4 m8 m9 b E G4 G8 G9) (fun _ => rfl) (pure ⟨⟩) 8 0 _ rfl) $$ [HB HO]
  · isplitl [HB]; · iexact HB
    isplitl [HO]; · iexact HO
    iexact HM
  iintro ⟨HB, ⟨%W', %hW, HO⟩⟩
  unfold WP
  rw [wp_pure]
  have h32 : 0 < 32 := by decide
  imod (batch_collect' (countersEmb (U := U)) (c := thr d i) (n := 1024) (ι := (none : HIx 1)) (D := deliv (U := U) d i m4 m8 m9 b E G4 G8 G9) h32) $$ HB with ⟨HD, S12⟩
  ihave HD := (collect d i hinj) $$ HD
  icases HD with ⟨H4, H8, H9⟩
  imodintro
  unfold ids base counters
  icases H5 with ⟨%g5, -, H5⟩
  icases H6 with ⟨%g6, -, H6⟩
  icases H7 with ⟨%g7, -, H7⟩
  isplitl [H2]; · iexact H2
  isplitl [H3]; · iexact H3
  isplitl [H4]; · iexact H4
  isplitl [H5]; · iexists g5; iexact H5
  isplitl [H6]; · iexists g6; iexact H6
  isplitl [H7]; · iexists g7; iapply (Entails.of_eq (congrArg (fun I => (m7.view.loc (thr d i) ↦[I]{fullShare} g7 : sProp 𝕄)) (View.set_slice_rectWhole m7.view))) $$ H7
  isplitl [H8]; · iexists G8; iexact H8
  isplitl [H9]; · iexists G9; iexact H9
  isplitl [S10]; · iexact S10
  isplitl [S11]; · iexact S11
  isplitl [S12]; · iexact S12
  iexists W'
  isplitr
  swap; · iexact HO
  ipureintro
  intro p hp
  rcases hW p hp with h | h
  · rcases Finset.mem_insert.mp h with rfl | h
    · exact Or.inr rfl
    · rcases Finset.mem_insert.mp h with rfl | h
      · exact Or.inr rfl
      · exact Or.inl h
  · exact Or.inr h

end Rules

end Cert.KernelIdeal.Sort
-- ==== Proof.Counting.lean ====
/-
  Counting: the place of each token in a stable sort by a word below 64, and that the places are the sort.
-/
module

public import proofs.«01_k».proof.Proof.Ranks
public import Idealize.ShloMosaic.Lib.SortFacts
public import Idealize.ShloMosaic.Lib.PlanTiles.StableSort

@[expose] public section

noncomputable section

namespace Cert.Counting

open Idealize.ShloMosaic
open Cert.KernelIdeal.Sort (cnt place)

variable (T : ℕ)

/-- How many tokens go to a bin below `x`. -/
def below (e : ℕ → BitVec 32) (x : ℕ) : ℕ := ((Finset.range T).filter fun k => (e k).toNat < x).card

/-- The place of token `t`: the tokens of the bins below its own, and the earlier ones of its own. -/
def pos (e : ℕ → BitVec 32) (t : ℕ) : ℕ := below T e (e t).toNat + cnt e t (e t)

/-- Token `a` stands before token `b`. -/
def Before (e : ℕ → BitVec 32) (a b : ℕ) : Prop := (e a).toNat < (e b).toNat ∨ (e a = e b ∧ a < b)

instance (e : ℕ → BitVec 32) (a b : ℕ) : Decidable (Before e a b) := by unfold Before; infer_instance

theorem before_trans {e : ℕ → BitVec 32} {a b c : ℕ} (h : Before e a b) (h' : Before e b c) : Before e a c := by
  unfold Before at *
  rcases h with h | ⟨h, h1⟩ <;> rcases h' with h' | ⟨h', h2⟩
  · exact Or.inl (by omega)
  · exact Or.inl (h' ▸ h)
  · exact Or.inl (h ▸ h')
  · exact Or.inr ⟨h.trans h', by omega⟩

theorem before_irrefl {e : ℕ → BitVec 32} {a : ℕ} : ¬ Before e a a := by unfold Before; rintro (h | ⟨_, h⟩) <;> omega

theorem before_total {e : ℕ → BitVec 32} {a b : ℕ} (h : a ≠ b) : Before e a b ∨ Before e b a := by
  unfold Before
  by_cases hab : (e a).toNat = (e b).toNat
  · have hw := BitVec.eq_of_toNat_eq hab
    rcases Nat.lt_or_gt_of_ne h with h | h
    · exact Or.inl (Or.inr ⟨hw, h⟩)
    · exact Or.inr (Or.inr ⟨hw.symm, h⟩)
  · rcases Nat.lt_or_gt_of_ne hab with h | h
    · exact Or.inl (Or.inl h)
    · exact Or.inr (Or.inl h)

/-- The place is the number of tokens before. -/
theorem pos_eq (e : ℕ → BitVec 32) {t : ℕ} (ht : t < T) : pos T e t = ((Finset.range T).filter fun k => Before e k t).card := by
  unfold pos below cnt
  rw [← Finset.card_union_of_disjoint]
  · congr 1
    ext k
    rw [Finset.mem_union, Finset.mem_filter, Finset.mem_filter, Finset.mem_filter, Finset.mem_range, Finset.mem_range]
    constructor
    · rintro (⟨h, h'⟩ | ⟨h, h'⟩)
      · exact ⟨h, Or.inl h'⟩
      · exact ⟨by omega, Or.inr ⟨h', h⟩⟩
    · rintro ⟨h, h' | ⟨h', h2⟩⟩
      · exact Or.inl ⟨h, h'⟩
      · exact Or.inr ⟨h2, h'⟩
  · rw [Finset.disjoint_left]
    intro k h h'
    have h1 := (Finset.mem_filter.mp h).2
    have h2 := (Finset.mem_filter.mp h').2
    rw [h2] at h1
    omega

theorem pos_mono {e : ℕ → BitVec 32} {a b : ℕ} (ha : a < T) (hb : b < T) (h : Before e a b) : pos T e a < pos T e b := by
  rw [pos_eq T e ha, pos_eq T e hb]
  apply Finset.card_lt_card
  refine Finset.ssubset_iff_subset_ne.mpr ⟨fun k hk => ?_, fun he => ?_⟩
  · obtain ⟨h1, h2⟩ := Finset.mem_filter.mp hk
    exact Finset.mem_filter.mpr ⟨h1, before_trans h2 h⟩
  · have : a ∈ (Finset.range T).filter fun k => Before e k b := Finset.mem_filter.mpr ⟨Finset.mem_range.mpr ha, h⟩
    rw [← he] at this
    exact before_irrefl (Finset.mem_filter.mp this).2

theorem pos_inj {e : ℕ → BitVec 32} {a b : ℕ} (ha : a < T) (hb : b < T) (h : pos T e a = pos T e b) : a = b := by
  by_contra hne
  rcases before_total (e := e) hne with h' | h'
  · have := pos_mono T ha hb h'; omega
  · have := pos_mono T hb ha h'; omega

theorem pos_lt (e : ℕ → BitVec 32) {t : ℕ} (ht : t < T) : pos T e t < T := by
  rw [pos_eq T e ht]
  refine lt_of_lt_of_eq (Finset.card_lt_card (t := Finset.range T) ?_) (Finset.card_range T)
  refine Finset.ssubset_iff_subset_ne.mpr ⟨Finset.filter_subset _ _, fun he => ?_⟩
  have : t ∈ (Finset.range T).filter fun k => Before e k t := by rw [he]; exact Finset.mem_range.mpr ht
  exact before_irrefl (Finset.mem_filter.mp this).2

/-- The place of a chunk's token `k`, computed from a base row holding the tokens of the bins below and those before the chunk. -/
theorem place_eq (e : ℕ → BitVec 32) (a k : ℕ) (b : ℕ → BitVec 32) (hb : b (e (a + k)).toNat = BitVec.ofNat 32 (below T e (e (a + k)).toNat + cnt e a (e (a + k)))) :
    place b (fun l => e (a + l)) k = BitVec.ofNat 32 (pos T e (a + k)) := by
  unfold place pos
  show b (e (a + k)).toNat + BitVec.ofNat 32 (cnt (fun l => e (a + l)) k (e (a + k))) = _
  rw [hb, ← BitVec.ofNat_add, Cert.KernelIdeal.Sort.cnt_add e a k, Nat.add_assoc]
  rfl

/-- The stable sort of the tokens by their words has token `t` at its place. -/
theorem sortedFrom_pos (e : ℕ → BitVec 32) (he : ∀ t < T, (e t).toNat < 64) (R : Fin T → Fin T → Bool)
    (hR : ∀ k k' : Fin T, R k k' = decide ((e k.val).toNat < (e k'.val).toNat)) (t : Fin T) :
    sortedFrom R ⟨pos T e t.val, pos_lt T e t.isLt⟩ = t := by
  obtain ⟨k, rfl⟩ := sortedFrom_surjective R t
  have hRG : R = fun x y : Fin T => decide (64 - (e y.val).toNat < 64 - (e x.val).toNat) := by
    funext x y
    rw [hR]
    have h1 := he x.val x.isLt
    have h2 := he y.val y.isLt
    congr 1
    exact propext (by omega)
  have hpair : (sortPositions T R).Pairwise fun a b => Before e a.val b.val := by
    rw [hRG]
    refine List.Pairwise.imp ?_ (PlanTiles.pairwise_stableSort_lex (fun a : Fin T => 64 - (e a.val).toNat) (· < ·) (List.finRange T) (List.pairwise_lt_finRange T))
    intro a b h
    have h1 := he a.val a.isLt
    have h2 := he b.val b.isLt
    rcases h with h | ⟨h, h'⟩
    · simp only at h; exact Or.inl (by omega)
    · simp only at h; exact Or.inr ⟨BitVec.eq_of_toNat_eq (by omega), h'⟩
  have hlt : ∀ i j : Fin T, i < j → Before e (sortedFrom R i).val (sortedFrom R j).val := by
    intro i j hij
    unfold sortedFrom
    exact (List.pairwise_iff_get.mp hpair) _ _ hij
  have hiff : ∀ i j : Fin T, Before e (sortedFrom R i).val (sortedFrom R j).val ↔ i < j := by
    intro i j
    refine ⟨fun h => ?_, hlt i j⟩
    rcases lt_trichotomy i j with h' | h' | h'
    · exact h'
    · subst h'; exact absurd h before_irrefl
    · exact absurd (before_trans h (hlt j i h')) before_irrefl
  have hpos : pos T e (sortedFrom R k).val = k.val := by
    rw [pos_eq T e (sortedFrom R k).isLt]
    have : ((Finset.range T).filter fun t => Before e t (sortedFrom R k).val) = (Finset.range k.val).image fun i => if h : i < T then (sortedFrom R ⟨i, h⟩).val else 0 := by
      ext t
      simp only [Finset.mem_filter, Finset.mem_range, Finset.mem_image]
      constructor
      · rintro ⟨ht, hb⟩
        obtain ⟨i, hi⟩ := sortedFrom_surjective R ⟨t, ht⟩
        have hv : (sortedFrom R i).val = t := congrArg Fin.val hi
        rw [← hv, hiff] at hb
        exact ⟨i.val, hb, by rw [dif_pos i.isLt]; exact hv⟩
      · rintro ⟨i, hi, rfl⟩
        have hiT : i < T := by have := k.isLt; omega
        rw [dif_pos hiT]
        exact ⟨(sortedFrom R ⟨i, hiT⟩).isLt, hlt ⟨i, hiT⟩ k hi⟩
    rw [this, Finset.card_image_of_injOn, Finset.card_range]
    intro i hi j hj h
    have hiT : i < T := by have := k.isLt; have := Finset.mem_range.mp hi; omega
    have hjT : j < T := by have := k.isLt; have := Finset.mem_range.mp hj; omega
    simp only [dif_pos hiT, dif_pos hjT] at h
    exact congrArg Fin.val (sortedFrom_injective R (Fin.ext h))
  congr 1
  exact Fin.ext hpos

end Cert.Counting
-- ==== Proof.Plan.lean ====
/-
  What the sort's tasks are handed and leave, as functions of the tokens' expert ids: each tile's chunk and base row, the
  places its tokens go to, and that the 32 tiles' places are the whole result.
-/
module

public import proofs.«01_k».proof.Proof.Body
public import proofs.«01_k».proof.Proof.Counting

@[expose] public section

noncomputable section

namespace Cert.KernelIdeal.Sort

open Idealize.ShloMosaic
open Idealize.ShloMosaic.ValueIdx (ix1 ix2 eq_ix1 eq_ix2)
open Cert.KernelIdeal Cert.Counting
open Facts₀ Facts

/-- The number of tokens. -/
def toks : ℕ := 32768

theorem toks_eq : toks = 32768 := rfl

/-- A tile's number: its chunk of 1024 tokens. -/
def wid (i : grid1.Coords) : ℕ := 2 * (i 1).val + (i 0).val

theorem wid_lt (i : grid1.Coords) : wid i < 32 := by
  have h0 : (i 0).val < 2 := (i 0).isLt
  have h1 : (i 1).val < 16 := (i 1).isLt
  unfold wid; omega

variable (e : ℕ → BitVec 32)

/-- Chunk `w`'s ids, and the counters it starts from. -/
def chunk (w : ℕ) : ℕ → BitVec 32 := fun l => e (1024 * w + l)
def bases (w : ℕ) : ℕ → BitVec 32 := fun x => if x < 64 then BitVec.ofNat 32 (below toks e x + cnt e (1024 * w) (BitVec.ofNat 32 x)) else 0

/-- The call's operands, and its result. -/
def A2 : S256x128.Idx → BitVec 32 := fun x => e (128 * (x 0).val + (x 1).val)
def A8 : S32x128.Idx → BitVec 32 := fun x => bases e (x 0).val (x 1).val
def tokAt (p : ℕ) : ℕ := if h : ∃ t, t < toks ∧ pos toks e t = p then h.choose else 0
def A9 : S32768.Idx → BitVec 32 := fun x => BitVec.ofNat 32 (tokAt e (x 0).val)

theorem tokAt_pos {t : ℕ} (ht : t < toks) : tokAt e (pos toks e t) = t := by
  have h : ∃ t', t' < toks ∧ pos toks e t' = pos toks e t := ⟨t, ht, rfl⟩
  unfold tokAt
  rw [dif_pos h]
  exact pos_inj toks h.choose_spec.1 ht h.choose_spec.2

/-- The places a tile writes. -/
def places (w : ℕ) : Finset S32768.Idx := destsFrom (bases e w) (chunk e w) 0

variable {e} (he : ∀ t < toks, (e t).toNat < 64)

theorem tok_lt {w k : ℕ} (hw : w < 32) (hk : k < 1024) : 1024 * w + k < toks := by rw [toks_eq]; omega

include he

theorem chunk_lt {w : ℕ} (hw : w < 32) : ∀ k < 1024, (chunk e w k).toNat < 64 := fun _ hk => he _ (tok_lt hw hk)

theorem place_chunk {w k : ℕ} (hw : w < 32) (hk : k < 1024) :
    place (bases e w) (chunk e w) k = BitVec.ofNat 32 (pos toks e (1024 * w + k)) := by
  refine place_eq toks e (1024 * w) k (bases e w) ?_
  unfold bases
  rw [if_pos (he _ (tok_lt hw hk)), BitVec.ofNat_toNat, BitVec.setWidth_eq]

theorem place_toNat {w k : ℕ} (hw : w < 32) (hk : k < 1024) :
    (place (bases e w) (chunk e w) k).toNat = pos toks e (1024 * w + k) := by
  rw [place_chunk he hw hk, BitVec.toNat_ofNat]
  have h := pos_lt toks e (tok_lt hw hk)
  rw [toks_eq] at h ⊢
  exact Nat.mod_eq_of_lt (by omega)

theorem place_lt {w : ℕ} (hw : w < 32) : ∀ k < 1024, (place (bases e w) (chunk e w) k).toNat < 32768 := by
  intro k hk
  rw [place_toNat he hw hk, ← toks_eq]
  exact pos_lt toks e (tok_lt hw hk)

theorem dest_val {w : ℕ} (hw : w < 32) (t : Fin 1024) :
    (dest (bases e w) (chunk e w) t 0).val = pos toks e (1024 * w + t.val) := by
  show (place (bases e w) (chunk e w) t.val).toNat % 32768 = _
  rw [Nat.mod_eq_of_lt (place_lt he hw t.val t.isLt), place_toNat he hw t.isLt]

theorem dest_inj {w w' : ℕ} (hw : w < 32) (hw' : w' < 32) {t t' : Fin 1024}
    (h : dest (bases e w) (chunk e w) t = dest (bases e w') (chunk e w') t') : w = w' ∧ t = t' := by
  have h1 := congrArg (fun x : S32768.Idx => (x 0).val) h
  simp only [dest_val he hw, dest_val he hw'] at h1
  have h2 := pos_inj toks (tok_lt hw t.isLt) (tok_lt hw' t'.isLt) h1
  have := t.isLt
  have := t'.isLt
  exact ⟨by omega, Fin.ext (by omega)⟩

theorem dest_injective {w : ℕ} (hw : w < 32) : Function.Injective (dest (bases e w) (chunk e w)) := fun _ _ h => (dest_inj he hw hw h).2

theorem places_disjoint {w w' : ℕ} (hw : w < 32) (hw' : w' < 32) (h : w ≠ w') : Disjoint (places e w) (places e w') := by
  rw [Finset.disjoint_left]
  intro x hx hx'
  obtain ⟨t, -, rfl⟩ := Finset.mem_image.mp hx
  obtain ⟨t', -, ht⟩ := Finset.mem_image.mp hx'
  exact h (dest_inj he hw hw' ht.symm).1

theorem exists_pos {p : ℕ} (hp : p < toks) : ∃ t, t < toks ∧ pos toks e t = p := by
  let f : Fin toks → Fin toks := fun t => ⟨pos toks e t.val, pos_lt toks e t.isLt⟩
  have hf : Function.Injective f := fun a b h => Fin.ext (pos_inj toks a.isLt b.isLt (congrArg Fin.val h))
  obtain ⟨t, ht⟩ := (Finite.injective_iff_surjective.mp hf) ⟨p, hp⟩
  exact ⟨t.val, t.isLt, congrArg Fin.val ht⟩

theorem mem_places (x : S32768.Idx) : ∃ w < 32, x ∈ places e w := by
  have hx : (x 0).val < toks := (x 0).isLt
  obtain ⟨t, ht, hp⟩ := exists_pos he hx
  have ht' : t < 32768 := ht
  have hw : t / 1024 < 32 := by omega
  refine ⟨t / 1024, hw, Finset.mem_image.mpr ⟨⟨t % 1024, Nat.mod_lt _ (by decide)⟩, Finset.mem_filter.mpr ⟨Finset.mem_univ _, Nat.zero_le _⟩, ?_⟩⟩
  rw [eq_ix1 x, eq_ix1 (dest _ _ _)]
  congr 1
  refine Fin.ext ?_
  rw [dest_val he hw, ← hp]
  show pos toks e (1024 * (t / 1024) + t % 1024) = _
  rw [Nat.div_add_mod]

theorem A9_dest {w : ℕ} (hw : w < 32) (t : Fin 1024) : A9 e (dest (bases e w) (chunk e w) t) = BitVec.ofNat 32 (1024 * w + t.val) := by
  unfold A9
  rw [dest_val he hw, tokAt_pos e (tok_lt hw t.isLt)]

omit he

theorem tbase_eq (i : grid1.Coords) : tbase i = BitVec.ofNat 32 (1024 * wid i) := by
  have h0 : (i 0).val < 2 := (i 0).isLt
  have h1 : (i 1).val < 16 := (i 1).isLt
  unfold tbase wid Scalar.muli Scalar.addi IntOp.muli IntOp.addi
  apply BitVec.eq_of_toNat_eq
  simp only [BitVec.toNat_mul, BitVec.toNat_add, BitVec.toNat_ofNat]
  omega

end Cert.KernelIdeal.Sort

end
-- ==== Proof.Tasks.lean ====
/-
  The sort's tasks as the launch sees them: what the call's handshakes carry, the task on each of the 32 tiles, and the
  split of the operands among them (a share of each table to every tile, and each tile its own places of the result).
-/
module

public import proofs.«01_k».proof.Proof.Plan
public import Idealize.ShloMosaic.Lib.ShareLeaves
public import Idealize.ShloMosaic.Lib.SparseCore.Quiescent
public import Idealize.ShloMosaic.Lib.Pipeline.Kit

@[expose] public section

noncomputable section

namespace Cert.KernelIdeal.Sort

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 eq_ix1 eq_ix2)
open Idealize.ShloMosaic.ShareLeaves (leaf pointsTo_leaves)
open Cert.KernelIdeal
open Facts₀ Facts
open Transfers

variable {F : FTy → Type} [FloatOps F]

/-! ## The program as the launch sees it -/

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the router pipeline's rounds, the transfers' counters. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

abbrev loc2 (d : Dev nD) : Loc nD τ sig := (SparseCore.T d).loc main_v2
abbrev loc8 (d : Dev nD) : Loc nD τ sig := (SparseCore.T d).loc main_v8
abbrev loc9 (d : Dev nD) : Loc nD τ sig := (SparseCore.T d).loc main_v9

def coordsV (c : Fin 2) (s : Fin 16) : grid1.Coords :=
  fun | 0 => c | 1 => s | ⟨_ + 2, h⟩ => absurd h (Nat.not_lt.2 (Nat.le_add_left _ _))

/-- A tile's share of a table every tile reads. -/
def shr (c : Fin 2) (s : Fin 16) : PosShare TreeShare := leaf 4 (leaf 1 fullShare c) s

variable (e : Dev nD → ℕ → BitVec 32) (f9 : (d : Dev nD) → Buf (Elt F) (loc9 d))

abbrev taskPts (d : Dev nD) (c : Fin 2) (s : Fin 16) (g : Buf (Elt F) (loc9 d)) : sProp 𝕄 :=
  iprop((loc2 d ↦{shr c s} A2 (e d)) ∗ (loc8 d ↦{shr c s} A8 (e d)) ∗ loc9 d ↦[places (e d) (wid (coordsV c s))]{fullShare} g)

/-- What a core is started with and returns: its sixteen tasks'. -/
def P : (K (F := F)).Pay (nD := nD) (Val := Elt F) (Name := ℕ) (U := UU) where
  st := fun q d c => match q with | 0 => bigSep Finset.univ fun s : Fin 16 => taskPts (F := F) e d c s (f9 d)
  dn := fun q d c => match q with | 0 => bigSep Finset.univ fun s : Fin 16 => taskPts (F := F) e d c s (A9 (e d))
  go := fun q d c s => match q with | 0 => taskPts (F := F) e d c s (f9 d)
  td := fun q d c s => match q with | 0 => taskPts (F := F) e d c s (A9 (e d))
  x := fun _ _ => iprop(emp)

instance P_storable : (P (F := F) e f9).IsStorable where
  st q d c := match q with
    | 0 => (inferInstance : BI.Storable (upEmb : UEmb _ 𝕄) (bigSep Finset.univ fun s : Fin 16 => taskPts (F := F) e d c s (f9 d)))
  dn q d c := match q with
    | 0 => (inferInstance : BI.Storable (upEmb : UEmb _ 𝕄) (bigSep Finset.univ fun s : Fin 16 => taskPts (F := F) e d c s (A9 (e d))))
  go q d c s := match q with
    | 0 => (inferInstance : BI.Storable (upEmb : UEmb _ 𝕄) (taskPts (F := F) e d c s (f9 d)))
  td q d c s := match q with
    | 0 => (inferInstance : BI.Storable (upEmb : UEmb _ 𝕄) (taskPts (F := F) e d c s (A9 (e d))))

/-! ## The task -/

section Tile

variable (d : Dev nD) (i : grid1.Coords)

abbrev cV (i : grid1.Coords) : Fin τ.nSC := (i 0).castLE hcore1
abbrev sV (i : grid1.Coords) : Fin τ.nSub := (i 1).castLE hsub1

abbrev semCell (d : Dev nD) (i : grid1.Coords) (a : DmaSems sig S_) : GSem nD τ sig := (V d (cV i) (sV i), .dma a.sem)
abbrev bufOf (i : grid1.Coords) (b : Ref sig .scVector) : DevRef τ sig := (Proc.scVector (cV i) (sV i)).devRef b

theorem ownSems0_V :
    (ownSems0 (V d (cV i) (sV i)) : sProp 𝕄)
      = iprop(semVal (semCell d i cc1_scratch5) 0 ∗ semVal (semCell d i cc1_scratch6) 0 ∗ semVal (semCell d i cc1_scratch7) 0
          ∗ bigSep ((((ownCells (V d (cV i) (sV i))).erase (semCell d i cc1_scratch5)).erase (semCell d i cc1_scratch6)).erase (semCell d i cc1_scratch7)) fun g => semVal g 0) := by
  unfold SparseCore.Cfg.ownSems0
  rw [SparseCore.bigSep_erase' ((mem_ownCells (g := semCell d i cc1_scratch5)).mpr ⟨rfl, by
      show (SemLoc.dma cc1_scratch5.sem : SemLoc sig).isScoped .scVector = true; decide⟩),
    SparseCore.bigSep_erase' (Finset.mem_erase.mpr ⟨by simp [semCell]; decide, (mem_ownCells (g := semCell d i cc1_scratch6)).mpr ⟨rfl, by
      show (SemLoc.dma cc1_scratch6.sem : SemLoc sig).isScoped .scVector = true; decide⟩⟩),
    SparseCore.bigSep_erase' (Finset.mem_erase.mpr ⟨by simp [semCell]; decide, Finset.mem_erase.mpr ⟨by simp [semCell]; decide,
      (mem_ownCells (g := semCell d i cc1_scratch7)).mpr ⟨rfl, by show (SemLoc.dma cc1_scratch7.sem : SemLoc sig).isScoped .scVector = true; decide⟩⟩⟩)]

theorem ne_ref {i : grid1.Coords} {b b' : Ref sig .scVector} (h : b ≠ b') : bufOf i b ≠ bufOf i b' := fun he => h (Proc.devRef_injective _ he)

abbrev heldAt (b : DevRef τ sig) : sProp 𝕄 := iprop(∃ f, ((d, b) : Loc nD τ sig) ↦{fullShare} f)

theorem mem_own {b : Ref sig .scVector} (h : (bufOf i b).owner = Owner.proc (Proc.scVector (cV i) (sV i))) :
    bufOf i b ∈ ownRefs (τ := τ) (sig := sig) (.scVector (cV i) (sV i)) := SparseCore.Cfg.mem_ownRefs_of_owner (p := Proc.scVector (cV i) (sV i)) h

/-- The five scratch buffers are among the subcore's own. -/
theorem ownBufs_V : ∃ R : sProp 𝕄, (ownBufs (V d (cV i) (sV i)) : sProp 𝕄)
      = iprop(heldAt (F := F) d (bufOf i cc1_scratch0) ∗ heldAt (F := F) d (bufOf i cc1_scratch1) ∗ heldAt (F := F) d (bufOf i cc1_scratch2)
          ∗ heldAt (F := F) d (bufOf i cc1_scratch3) ∗ heldAt (F := F) d (bufOf i cc1_scratch4) ∗ R) := by
  have h := SparseCore.bigSep_erase' (Φ := heldAt (F := F) d) (mem_own i (b := cc1_scratch0) rfl)
  rw [SparseCore.bigSep_erase' (Finset.mem_erase.mpr ⟨ne_ref (show (cc1_scratch1 : Ref sig .scVector) ≠ cc1_scratch0 by decide), mem_own i (b := cc1_scratch1) rfl⟩),
    SparseCore.bigSep_erase' (Finset.mem_erase.mpr ⟨ne_ref (show (cc1_scratch2 : Ref sig .scVector) ≠ cc1_scratch1 by decide),
      Finset.mem_erase.mpr ⟨ne_ref (show (cc1_scratch2 : Ref sig .scVector) ≠ cc1_scratch0 by decide), mem_own i (b := cc1_scratch2) rfl⟩⟩),
    SparseCore.bigSep_erase' (Finset.mem_erase.mpr ⟨ne_ref (show (cc1_scratch3 : Ref sig .scVector) ≠ cc1_scratch2 by decide),
      Finset.mem_erase.mpr ⟨ne_ref (show (cc1_scratch3 : Ref sig .scVector) ≠ cc1_scratch1 by decide),
        Finset.mem_erase.mpr ⟨ne_ref (show (cc1_scratch3 : Ref sig .scVector) ≠ cc1_scratch0 by decide), mem_own i (b := cc1_scratch3) rfl⟩⟩⟩),
    SparseCore.bigSep_erase' (Finset.mem_erase.mpr ⟨ne_ref (show (cc1_scratch4 : Ref sig .scVector) ≠ cc1_scratch3 by decide),
      Finset.mem_erase.mpr ⟨ne_ref (show (cc1_scratch4 : Ref sig .scVector) ≠ cc1_scratch2 by decide),
        Finset.mem_erase.mpr ⟨ne_ref (show (cc1_scratch4 : Ref sig .scVector) ≠ cc1_scratch1 by decide),
          Finset.mem_erase.mpr ⟨ne_ref (show (cc1_scratch4 : Ref sig .scVector) ≠ cc1_scratch0 by decide), mem_own i (b := cc1_scratch4) rfl⟩⟩⟩⟩)] at h
  exact ⟨_, h⟩

theorem heldAt_any {sp : Space} {s : Shape} (b : Ref sig .scVector) (m : Memref sig .scVector sp s .i32) (hm : m.view.loc (thr d i) = ((d, bufOf i b) : Loc nD τ sig))
    (hs : m.view.set = Finset.univ) : (heldAt (F := F) d (bufOf i b) : sProp 𝕄) = any (F := F) d i m := by
  unfold any heldAt
  rw [hs]
  revert hm
  generalize ((d, bufOf i b) : Loc nD τ sig) = ℓ
  rintro rfl
  rfl

theorem read_chunk (x : S8x128.Idx) :
    (chunkRef i (Memref.whole main_v2_scv)).view.read (Elt F) (A2 (e d) : Buf (Elt F) (loc2 d)) x = chunk (e d) (wid i) (flat x) := by
  rw [View.read_apply, cast_eq]
  show A2 (e d) ((Rect.unit (s := S256x128) (k1_off1 i) S8x128.size (k1_off1_inb i)).emb x) = _
  unfold A2 chunk flat wid
  have h0 : ((Rect.unit (s := S256x128) (k1_off1 i) S8x128.size (k1_off1_inb i)).emb x 0).val = 16 * (i 1).val + 8 * (i 0).val + 1 * (x 0).val := by
    show (k1_off1 i) 0 + 1 * (x 0).val = _
    rw [Gen.k1_off1_eq]; rfl
  have h1 : ((Rect.unit (s := S256x128) (k1_off1 i) S8x128.size (k1_off1_inb i)).emb x 1).val = 0 + 1 * (x 1).val := by
    show (k1_off1 i) 1 + 1 * (x 1).val = _
    rw [Gen.k1_off1_eq]; rfl
  rw [h0, h1]
  congr 1; omega

theorem read_base (x : S128.Idx) :
    (baseRef i (Memref.whole main_v8_scv)).view.read (Elt F) (A8 (e d) : Buf (Elt F) (loc8 d)) x = bases (e d) (wid i) (x 0).val := by
  rw [View.read_apply, cast_eq]
  show A8 (e d) ((Rect.unit (s := S32x128) (k1_off2 i) S1x128.size (k1_off2_inb i)).emb (Shape.reshapeEquiv _ x)) = _
  rw [Shape.reshapeEquiv_cons_one]
  unfold A8 wid
  have h0 : ((Rect.unit (s := S32x128) (k1_off2 i) S1x128.size (k1_off2_inb i)).emb (Fin.cons ⟨0, Nat.one_pos⟩ x) 0).val = 2 * (i 1).val + (i 0).val := by
    show (k1_off2 i) 0 + 1 * 0 = _
    rw [Gen.k1_off2_eq]; rfl
  have h1 : ((Rect.unit (s := S32x128) (k1_off2 i) S1x128.size (k1_off2_inb i)).emb (Fin.cons ⟨0, Nat.one_pos⟩ x) 1).val = (x 0).val := by
    show (k1_off2 i) 1 + 1 * (x 0).val = _
    rw [Gen.k1_off2_eq]
    show 0 + 1 * (x 0).val = _
    omega
  rw [h0, h1]

theorem setOn_whole9 (M : Finset S32768.Idx) : (Memref.whole main_v9_scv : Memref sig .scVector .hbm S32768 .i32).view.setOn M = M := Finset.map_refl

/-- The task on one tile. -/
theorem tile_body (hF : (K (F := F)).Facts) (he : ∀ t < toks, (e d t).toNat < 64) (g : Buf (Elt F) (loc9 d)) (q : PosShare TreeShare)
    (O : CellTallies nD τ sig (HIx 1)) (W : Waits sig (HIx 1)) (hO : ∀ g, O g none = 0) :
    iprop(levAts (K (F := F)).L (K (F := F)).lev ∗ emp
        ∗ ((loc2 d ↦{q} A2 (e d)) ∗ (loc8 d ↦{q} A8 (e d)) ∗ loc9 d ↦[places (e d) (wid i)]{fullShare} g)
        ∗ scopedBufs (V d (cV i) (sV i)) ∗ scopedSems0 (V d (cV i) (sV i)) ∗ owes (V d (cV i) (sV i)) O W)
      ⊢ (wp frame (wpE (defs₀ (F := F)) 𝒱₀ (V d (cV i) (sV i)) none) Set.univ
          (cc1__sc_sort_body i (Memref.whole main_v2_scv) (Memref.isWhole_whole _) (Memref.whole main_v8_scv) (Memref.isWhole_whole _)
            (Memref.whole main_v9_scv) (Memref.isWhole_whole _) (Memref.whole cc1_scratch0) (Memref.isWhole_whole _) (Memref.whole cc1_scratch1) (Memref.isWhole_whole _)
            (Memref.whole cc1_scratch2) (Memref.isWhole_whole _) (Memref.whole cc1_scratch3) (Memref.isWhole_whole _) (Memref.whole cc1_scratch4) (Memref.isWhole_whole _)
            cc1_scratch5 cc1_scratch6 cc1_scratch7)
          fun _ => iprop(((loc2 d ↦{q} A2 (e d)) ∗ (loc8 d ↦{q} A8 (e d)) ∗ loc9 d ↦[places (e d) (wid i)]{fullShare} A9 (e d))
            ∗ scopedBufs (V d (cV i) (sV i)) ∗ scopedSems0 (V d (cV i) (sV i))
            ∗ ∃ W', ⌜∀ p ∈ W', p ∈ W ∨ p.2 = none⌝ ∗ owes (V d (cV i) (sV i)) O W') : sProp 𝕄) := by
  obtain ⟨R, hR⟩ := ownBufs_V (F := F) d i
  rw [(K (F := F)).scopedBufs_V hF d (cV i) (sV i), SparseCore.Cfg.scopedSems0_V (Val := Elt F) d (cV i) (sV i), ownSems0_V, hR,
    heldAt_any (F := F) d i cc1_scratch0 (Memref.whole cc1_scratch0) rfl (View.set_whole _), heldAt_any (F := F) d i cc1_scratch1 (Memref.whole cc1_scratch1) rfl (View.set_whole _),
    heldAt_any (F := F) d i cc1_scratch2 (Memref.whole cc1_scratch2) rfl (View.set_whole _), heldAt_any (F := F) d i cc1_scratch3 (Memref.whole cc1_scratch3) rfl (View.set_whole _),
    heldAt_any (F := F) d i cc1_scratch4 (Memref.whole cc1_scratch4) rfl (View.set_whole _), body_eq]
  have hw := wid_lt i
  have hbody := wp_body (F := F) (U := UU) d i (m2 := Memref.whole main_v2_scv) (m3 := Memref.whole main_v8_scv) (m4 := Memref.whole main_v9_scv)
    (m5 := Memref.whole cc1_scratch0) (w5 := Memref.isWhole_whole _) (m6 := Memref.whole cc1_scratch1) (w6 := Memref.isWhole_whole _)
    (m7 := Memref.whole cc1_scratch2) (m8 := Memref.whole cc1_scratch3) (m9 := Memref.whole cc1_scratch4)
    (s10 := cc1_scratch5) (s11 := cc1_scratch6) (s12 := cc1_scratch7) (b := bases (e d) (wid i)) (E := chunk (e d) (wid i)) (q2 := q) (q3 := q)
    (f2 := (A2 (e d) : Buf (Elt F) (loc2 d))) (f3 := (A8 (e d) : Buf (Elt F) (loc8 d))) (G4 := (A9 (e d) : Buf (Elt F) (loc9 d))) (fd := g)
    (chunk_lt he hw) (place_lt he hw) (dest_injective he hw) (read_chunk e d i) (read_base e d i)
    (fun t => by
      rw [View.read_apply, cast_eq]
      refine (A9_dest he hw t).trans ?_
      rw [tbase_eq, ← BitVec.ofNat_add])
    (O := O) (W := W)
  iintro ⟨#Hlv, -, ⟨H2, H8, H9⟩, ⟨Hs0, Hs1, Hs2, Hs3, Hs4, HR⟩, ⟨HA, HB, HC, Hsems⟩, HO⟩
  ihave Hmw := (show levAts (K (F := F)).L (K (F := F)).lev ⊢ Transfers.MayWaits (V d (cV i) (sV i)) (none : HIx 1) O from
    (K (F := F)).mayWaits_none (thr := V d (cV i) (sV i)) hO) $$ Hlv
  ihave H2' := (pointsTo_split_subset (ℓ := loc2 d) (q := q) (f := A2 (e d)) (S := Finset.univ) (Finset.subset_univ (chunkRef i (Memref.whole main_v2_scv)).view.set)).1 $$ H2
  icases H2' with ⟨H2, H2r⟩
  ihave H8' := (pointsTo_split_subset (ℓ := loc8 d) (q := q) (f := A8 (e d)) (S := Finset.univ) (Finset.subset_univ (baseRef i (Memref.whole main_v8_scv)).view.set)).1 $$ H8
  icases H8' with ⟨H8, H8r⟩
  iapply (wp_wand_r frame _ _)
  isplitl [Hmw H2 H8 H9 Hs0 Hs1 Hs2 Hs3 Hs4 HA HB HC HO]
  · iapply hbody
    isplitl [Hmw]; · iexact Hmw
    isplitl [H2]; · iexact H2
    isplitl [H8]; · iexact H8
    isplitl [H9]
    · rw [setOn_whole9]; iexact H9
    isplitl [Hs0]; · iexact Hs0
    isplitl [Hs1]; · iexact Hs1
    isplitl [Hs2]; · iexact Hs2
    isplitl [Hs3]; · iexact Hs3
    isplitl [Hs4]; · iexact Hs4
    isplitl [HA]; · iexact HA
    isplitl [HB]; · iexact HB
    isplitl [HC]; · iexact HC
    iexact HO
  rw [setOn_whole9]
  iintro %_ ⟨H2, H8, H9, Hs0, Hs1, Hs2, Hs3, Hs4, HA, HB, HC, HO⟩
  isplitl [H2 H2r H8 H8r H9]
  · isplitl [H2 H2r]
    · iapply (pointsTo_split_subset (ℓ := loc2 d) (q := q) (f := A2 (e d)) (S := Finset.univ) (Finset.subset_univ (chunkRef i (Memref.whole main_v2_scv)).view.set)).2
      isplitl [H2] <;> iassumption
    isplitl [H8 H8r]
    · iapply (pointsTo_split_subset (ℓ := loc8 d) (q := q) (f := A8 (e d)) (S := Finset.univ) (Finset.subset_univ (baseRef i (Memref.whole main_v8_scv)).view.set)).2
      isplitl [H8] <;> iassumption
    iexact H9
  isplitl [Hs0 Hs1 Hs2 Hs3 Hs4 HR]
  · isplitl [Hs0]; · iexact Hs0
    isplitl [Hs1]; · iexact Hs1
    isplitl [Hs2]; · iexact Hs2
    isplitl [Hs3]; · iexact Hs3
    isplitl [Hs4]; · iexact Hs4
    iexact HR
  isplitl [HA HB HC Hsems]
  · isplitl [HA]; · iexact HA
    isplitl [HB]; · iexact HB
    isplitl [HC]; · iexact HC
    iexact Hsems
  iexact HO

/-! ## The obligation -/

theorem defs₀_vector (c : Fin τ.nSC) (s : Fin τ.nSub) :
    defs₀ (F := F) (.scVector c s) 1 ()
      = SparseCore.onTile hcore1 hsub1 (fun c s => cc1__sc_sort_body (coordsV c s) (Memref.whole main_v2_scv) (Memref.isWhole_whole _) (Memref.whole main_v8_scv) (Memref.isWhole_whole _)
            (Memref.whole main_v9_scv) (Memref.isWhole_whole _) (Memref.whole cc1_scratch0) (Memref.isWhole_whole _) (Memref.whole cc1_scratch1) (Memref.isWhole_whole _)
            (Memref.whole cc1_scratch2) (Memref.isWhole_whole _) (Memref.whole cc1_scratch3) (Memref.isWhole_whole _) (Memref.whole cc1_scratch4) (Memref.isWhole_whole _)
            cc1_scratch5 cc1_scratch6 cc1_scratch7) ⟨⟩ c s := rfl

theorem obl_post {th : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes th O W')
      ⊢ iprop(A ∗ B ∗ C ∗ ∃ W', ⌜∀ p ∈ W', p ∈ W ∨ p.2 = none ∨ p.2 = some q⌝ ∗ owes th O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (he : ∀ d, ∀ t < toks, (e d t).toNat < 64) : (K (F := F)).TileObl (D (F := F)) 𝒱 (P e f9) v₀ 0 := by
  intro d c s O W hO _ _
  simp only [show (P (F := F) e f9).ox = fun _ _ => 0 from rfl, add_zero]
  have hci : ((K (F := F)).core 0 c).val < grid1.bound 0 ∧ ((K (F := F)).sub 0 s).val < grid1.bound 1 := ⟨c.isLt, s.isLt⟩
  change _ ⊢ wp _ _ _ (Pipeline.liftProg (defs₀ (F := F) (.scVector ((K (F := F)).core 0 c) ((K (F := F)).sub 0 s)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body e d (coordsV ⟨_, hci.1⟩ ⟨_, hci.2⟩) launchFacts (he d) (f9 d) (shr c s) O W hO).trans (wp_mono frame _ _ fun _ => obl_post)

end Tile

theorem vecSplit : (K (F := F)).VecSplit' (P e f9) 0 := by
  intro d c
  show (bigSep Finset.univ fun s : Fin 16 => taskPts (F := F) e d c s (f9 d)) ⊢ |={Set.univ}=> iprop(
      (bigSep Finset.univ fun s : Fin 16 => taskPts (F := F) e d c s (f9 d))
      ∗ ((bigSep Finset.univ fun s : Fin 16 => taskPts (F := F) e d c s (A9 (e d))) -∗ (bigSep Finset.univ fun s : Fin 16 => taskPts (F := F) e d c s (A9 (e d)))))
  iintro H; imodintro
  isplitl [H]; · iexact H
  iintro H; iexact H

/-! ## The operands split among the tiles, and joined -/

abbrev Tl : Type := Fin 2 × Fin 16

theorem shares (ℓ : Loc nD τ sig) (f : Buf (Elt F) ℓ) :
    (ℓ ↦{fullShare} f : sProp 𝕄) = bigSep Finset.univ fun t : Tl => ℓ ↦{shr t.1 t.2} f := by
  rw [BI.bigSep_univ_prod]
  refine (pointsTo_leaves Finset.univ f 1 fullShare).trans (bigSep_congr fun c _ => ?_)
  exact pointsTo_leaves Finset.univ f 4 _

theorem wid_inj {t t' : Tl} (h : wid (coordsV t.1 t.2) = wid (coordsV t'.1 t'.2)) : t = t' := by
  have h' : 2 * t.2.val + t.1.val = 2 * t'.2.val + t'.1.val := h
  have h1 := t.1.isLt
  have h2 := t'.1.isLt
  exact Prod.ext (Fin.ext (by omega)) (Fin.ext (by omega))

theorem places_split (he : ∀ d, ∀ t < toks, (e d t).toNat < 64) (d : Dev nD) (f : Buf (Elt F) (loc9 d)) :
    (loc9 d ↦{fullShare} f : sProp 𝕄) = bigSep Finset.univ fun t : Tl => loc9 d ↦[places (e d) (wid (coordsV t.1 t.2))]{fullShare} f := by
  have hc : (Finset.univ : Finset S32768.Idx) = (Finset.univ : Finset Tl).biUnion fun t => places (e d) (wid (coordsV t.1 t.2)) := by
    refine (Finset.eq_univ_iff_forall.mpr fun x => ?_).symm
    obtain ⟨w, hw, hx⟩ := mem_places (he d) x
    refine Finset.mem_biUnion.mpr ⟨(⟨w % 2, Nat.mod_lt _ (by decide)⟩, ⟨w / 2, by omega⟩), Finset.mem_univ _, ?_⟩
    have hwid : wid (coordsV (⟨w % 2, Nat.mod_lt _ (by decide)⟩ : Fin 2) (⟨w / 2, by omega⟩ : Fin 16)) = w := Nat.div_add_mod w 2
    show x ∈ places (e d) (wid (coordsV (⟨w % 2, Nat.mod_lt _ (by decide)⟩ : Fin 2) (⟨w / 2, by omega⟩ : Fin 16)))
    rw [hwid]
    exact hx
  exact (congrArg (fun I : Finset S32768.Idx => (loc9 d ↦[I]{fullShare} f : sProp 𝕄)) hc).trans
    (pointsTo_biUnion Finset.univ (ℓ := loc9 d) (fun t : Tl => places (e d) (wid (coordsV t.1 t.2)))
      fun t _ t' _ h => places_disjoint (he d) (wid_lt _) (wid_lt _) fun hw => h (wid_inj hw))

/-- The three arrays held whole are the 32 tasks' holdings. -/
theorem tasks_eq (he : ∀ d, ∀ t < toks, (e d t).toNat < 64) (d : Dev nD) (f : Buf (Elt F) (loc9 d)) :
    (bigSep Finset.univ fun c : Fin 2 => bigSep Finset.univ fun s : Fin 16 => taskPts (F := F) e d c s f : sProp 𝕄)
      = iprop((loc2 d ↦{fullShare} A2 (e d)) ∗ (loc8 d ↦{fullShare} A8 (e d)) ∗ loc9 d ↦{fullShare} f) := by
  rw [shares (loc2 d), shares (loc8 d), places_split e he d f, ← BI.bigSep_univ_prod (fun t : Tl => taskPts (F := F) e d t.1 t.2 f), BI.bigSep_sep', BI.bigSep_sep']

theorem st0_eq (he : ∀ d, ∀ t < toks, (e d t).toNat < 64) (d : Dev nD) :
    (bigSep Finset.univ fun c : Fin ((K (F := F)).nCore 0) => (P e f9).st 0 d c : sProp 𝕄)
      = iprop((loc2 d ↦{fullShare} A2 (e d)) ∗ (loc8 d ↦{fullShare} A8 (e d)) ∗ loc9 d ↦{fullShare} f9 d) := tasks_eq e he d (f9 d)

theorem dn0_eq (he : ∀ d, ∀ t < toks, (e d t).toNat < 64) (d : Dev nD) :
    (bigSep Finset.univ fun c : Fin ((K (F := F)).nCore 0) => (P e f9).dn 0 d c : sProp 𝕄)
      = iprop((loc2 d ↦{fullShare} A2 (e d)) ∗ (loc8 d ↦{fullShare} A8 (e d)) ∗ loc9 d ↦{fullShare} A9 (e d)) := tasks_eq e he d (A9 (e d))

end Cert.KernelIdeal.Sort

end
-- ==== Proof.RouterBody.lean ====
/-
  One point of the router: what the body finds in its windows and its scratch, and what it leaves there.
-/
module

public import proofs.«01_k».proof.Proof.Tasks
public import proofs.«01_k».proof.Proof.Gen.KernelIdeal.Skeleton
public import proofs.«01_k».proof.Proof.Gen.KernelIdeal.Points
public import proofs.«01_k».proof.Proof.Gen.KernelIdeal.Launch
public import Idealize.ShloMosaic.Lib.VecWindow

@[expose] public section

noncomputable section

namespace Cert.KernelIdeal.Sort

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.KernelIdeal
open Cert.KernelIdeal.Gen (k0_pay2 k0_pay3 k0_pay4 k0_pay5 k0_pay6 k0_pay7 k0_pay9 k0_pay10 k0_pay11 k0_pay12)
open Facts₀ Facts

variable {F : FTy → Type} [FloatOps F]

local notation "𝕄" => MT nD τ sig (HIx 1) (Elt F) ℕ UU ℕ

section Access

variable (c : Dev nD) {s : Shape} {e : EltTy} {M : Memref sig .tc .vmem s e} {off : Fin s.rank → ℕ}
  {inb : ∀ a, off a + s.size a ≤ s.size a}

theorem wp_done {Q : PUnit → sProp 𝕄} :
    (Q ⟨⟩ : sProp 𝕄) ⊢ wp frame (wpE (defs₀ (F := F)) 𝒱₀ (c : Thread nD τ) none) Set.univ (pure ⟨⟩) Q := by
  rw [wp_pure]
  iintro H
  imodintro
  iexact H

theorem emb_full (h : off = fun _ => 0) (x : s.Idx) : (Rect.unit (s := s) off s.size inb).emb x = x := by
  subst h; exact Rect.emb_whole_apply _ x

/-- A load of a whole window, and a store over a whole window. -/
theorem owns_load (h : off = fun _ => 0) {X : s.Idx → Elt F e} {hl : M.view.LoadsAt (Rect.unit (s := s) off s.size inb).toLoadRect}
    {k : (s.Idx → Elt F e) → Prog (TpuEff nD τ sig (Elt F) Λ₀ .tc) PUnit} {Q : PUnit → sProp 𝕄} :
    (owns (c : Thread nD τ) M fullShare X : sProp 𝕄)
      ⊢ iprop((owns (c : Thread nD τ) M fullShare X -∗ wp frame (wpE (defs₀ (F := F)) 𝒱₀ (c : Thread nD τ) none) Set.univ (k X) Q)
        -∗ wp frame (wpE (defs₀ (F := F)) 𝒱₀ (c : Thread nD τ) none) Set.univ
            (.op (.load M (Rect.unit (s := s) off s.size inb).toLoadRect hl) k) Q) := by
  unfold owns
  iintro ⟨%f, %hf, H⟩ Hk
  iapply (wp_load_rect 𝒱₀ (c : Thread nD τ) none Set.univ (m := M) (r := Rect.unit (s := s) off s.size inb)
    (View.set_slice_subset _ _)) $$ H
  iintro H
  have hX : (M.access (Rect.unit (s := s) off s.size inb)).read (Elt F) f = X := by
    rw [← hf]; funext x
    exact congrArg (M.view.read (Elt F) f) (emb_full h x)
  rw [hX]
  iapply Hk
  iexists f
  isplitr; · ipureintro; exact hf
  iexact H

theorem owns_store (h : off = fun _ => 0) {X w : s.Idx → Elt F e}
    {hx : (M.access (Rect.unit (s := s) off s.size inb)).Stores Finset.univ}
    {hm : (Finset.univ : Finset s.Idx) = Finset.univ ∨ ∀ a, (Rect.unit (s := s) off s.size inb).stride a = 1}
    {k : PUnit → Prog (TpuEff nD τ sig (Elt F) Λ₀ .tc) PUnit} {Q : PUnit → sProp 𝕄} :
    (owns (c : Thread nD τ) M fullShare X : sProp 𝕄)
      ⊢ iprop((owns (c : Thread nD τ) M fullShare w -∗ wp frame (wpE (defs₀ (F := F)) 𝒱₀ (c : Thread nD τ) none) Set.univ (k ⟨⟩) Q)
        -∗ wp frame (wpE (defs₀ (F := F)) 𝒱₀ (c : Thread nD τ) none) Set.univ
            (.op (.store M (Rect.unit (s := s) off s.size inb) w Finset.univ hx hm) k) Q) := by
  unfold owns
  iintro ⟨%f, %hf, H⟩ Hk
  iapply (wp_store 𝒱₀ (c : Thread nD τ) none Set.univ (m := M) (r := Rect.unit (s := s) off s.size inb)
    (View.set_slice_subset _ _)) $$ H
  iintro H
  iapply Hk
  iexists ((M.access (Rect.unit (s := s) off s.size inb)).write (Elt F) f w Finset.univ)
  isplitr
  · ipureintro; funext x
    have hw := View.read_writes_cons_emb M.view f (Rect.unit (s := s) off s.size inb) w [] x
    rw [emb_full h x] at hw
    exact hw
  iexact H

end Access

/-! ## What a point computes -/

/-- Whether a point is the grid's first, as the body asks. -/
def k0_cond1 (i : grid0.Coords) : BitVec 1 :=
  Scalar.cmpi .ne (Scalar.extui (Scalar.cmpi .eq (BitVec.ofNat 32 (i 0).val) 0#32) : BitVec 32) 0#32

/-- The counts and the running sum a point starts from. -/
def cntIn (i : grid0.Coords) (Y : Vec F S1x64 .i32) : Vec F S1x64 .i32 := if k0_cond1 i = 1#1 then k0_pay4 else Y
def accIn (i : grid0.Coords) (Y : Vec F S1x64 .f32) : Vec F S1x64 .f32 := if k0_cond1 i = 1#1 then k0_pay5 (F := F) else Y

/-- The experts' numbers along a row. -/
def cols : IVec S1024x64 32 := iota .tc S1024x64 32 [1] iota_S1024x64_d1_w32

/-- The counts and the running sum a point leaves. -/
def cntOut (i : grid0.Coords) (X : Vec F S1024x4096 .f32) (W : Vec F S512x4096 .f32) (G : Vec F S64x512 .f32) (B : Vec F S1x1 .f32)
    (Y : Vec F S1x64 .i32) : Vec F S1x64 .i32 := k0_pay11 cols (k0_pay7 X W G B) (cntIn i Y)
def accOut (i : grid0.Coords) (X : Vec F S1024x4096 .f32) (W : Vec F S512x4096 .f32) (G : Vec F S64x512 .f32)
    (Y : Vec F S1x64 .f32) : Vec F S1x64 .f32 := k0_pay12 (k0_pay6 X W G) (accIn i Y)

variable (c : Dev nD) (i : grid0.Coords)
  {M1 : Memref sig .tc .vmem S1024x4096 .f32} {h1 : M1.IsWhole} {M2 : Memref sig .tc .vmem S512x4096 .f32} {h2 : M2.IsWhole}
  {M3 : Memref sig .tc .vmem S64x512 .f32} {h3 : M3.IsWhole} {M4 : Memref sig .tc .vmem S1x1 .f32} {h4 : M4.IsWhole}
  {M5 : Memref sig .tc .vmem S1x8x128 .i32} {h5 : M5.IsWhole} {M6 : Memref sig .tc .vmem S1x1x64 .i32} {h6 : M6.IsWhole}
  {M7 : Memref sig .tc .vmem S1x64 .i32} {h7 : M7.IsWhole} {M8 : Memref sig .tc .vmem S1x64 .i32} {h8 : M8.IsWhole}
  {M9 : Memref sig .tc .vmem S1x1 .f32} {h9 : M9.IsWhole} {M10 : Memref sig .tc .vmem S1x64 .f32} {h10 : M10.IsWhole}
  {X : Vec F S1024x4096 .f32} {W : Vec F S512x4096 .f32} {G : Vec F S64x512 .f32} {B : Vec F S1x1 .f32}
  {Y5 : Vec F S1x8x128 .i32} {Y6 : Vec F S1x1x64 .i32} {Y7 Y8 : Vec F S1x64 .i32} {Y9 : Vec F S1x1 .f32} {Y10 : Vec F S1x64 .f32}

/-- Memref `M` of the core held whole, its elements at `X`. -/
abbrev ow {s : Shape} {e : EltTy} (M : Memref sig .tc .vmem s e) (X : s.Idx → Elt F e) : sProp 𝕄 :=
  owns (c : Thread nD τ) M fullShare X

theorem z2 : (![0, 0] : Fin 2 → ℕ) = fun _ => 0 := by funext a; fin_cases a <;> rfl
theorem z3 : (![0, 0, 0] : Fin 3 → ℕ) = fun _ => 0 := by funext a; fin_cases a <;> rfl

theorem wp_start {k : (Σ' (arg0 : BitVec 32) (v23 : FVec F S1024x64 .f32) (v33 : IVec S1024x64 32), IVec S1024x64 32) →
      Prog (TpuEff nD τ sig (Elt F) Λ₀ .tc) PUnit} {Q : PUnit → sProp 𝕄} :
    iprop(ow c M1 X ∗ ow c M2 W ∗ ow c M3 G ∗ ow c M4 B ∗ ow c M7 Y7 ∗ ow c M10 Y10)
      ⊢ iprop((iprop(ow c M1 X ∗ ow c M2 W ∗ ow c M3 G ∗ ow c M4 B ∗ ow c M7 (cntIn i Y7) ∗ ow c M10 (accIn i Y10))
          -∗ wp frame (wpE (defs₀ (F := F)) 𝒱₀ (c : Thread nD τ) none) Set.univ
            (k ⟨BitVec.ofNat 32 (i 0).val, k0_pay6 X W G, cols, k0_pay7 X W G B⟩) Q)
        -∗ wp frame (wpE (defs₀ (F := F)) 𝒱₀ (c : Thread nD τ) none) Set.univ
            (k0_part1 i M1 h1 M2 h2 M3 h3 M4 h4 M5 h5 M6 h6 M7 h7 M8 h8 M9 h9 M10 h10 >>= k) Q) := by
  rw [Gen.k0_part1_eq_skeleton]
  unfold Gen.k0_part1_skel
  dsimp only
  by_cases hc : k0_cond1 i = 1#1
  · have hc' := hc
    unfold k0_cond1 at hc'
    rw [dif_pos hc']
    simp only [cntIn, accIn, if_pos hc]
    iintro ⟨H1, H2, H3, H4, H7, H10⟩ Hk
    iapply (owns_load c z2) $$ H7
    iintro H7
    iapply (owns_store c z2) $$ H7
    iintro H7
    iapply (owns_load c z2) $$ H10
    iintro H10
    iapply (owns_store c z2) $$ H10
    iintro H10
    iapply (owns_load c z2) $$ H1
    iintro H1
    iapply (owns_load c z2) $$ H2
    iintro H2
    iapply (owns_load c z2) $$ H3
    iintro H3
    iapply (owns_load c z2) $$ H4
    iintro H4
    iapply Hk
    isplitl [H1]; · iexact H1
    isplitl [H2]; · iexact H2
    isplitl [H3]; · iexact H3
    isplitl [H4]; · iexact H4
    isplitl [H7] <;> iassumption
  · have hc' := hc
    unfold k0_cond1 at hc'
    rw [dif_neg hc']
    simp only [cntIn, accIn, if_neg hc]
    iintro ⟨H1, H2, H3, H4, H7, H10⟩ Hk
    iapply (owns_load c z2) $$ H1
    iintro H1
    iapply (owns_load c z2) $$ H2
    iintro H2
    iapply (owns_load c z2) $$ H3
    iintro H3
    iapply (owns_load c z2) $$ H4
    iintro H4
    iapply Hk
    isplitl [H1]; · iexact H1
    isplitl [H2]; · iexact H2
    isplitl [H3]; · iexact H3
    isplitl [H4]; · iexact H4
    isplitl [H7] <;> iassumption

theorem wp_middle {v23 : FVec F S1024x64 .f32} {v33 v37 : IVec S1024x64 32}
    {k : FVec F S1x64 .f32 → Prog (TpuEff nD τ sig (Elt F) Λ₀ .tc) PUnit} {Q : PUnit → sProp 𝕄} :
    iprop(ow c M5 Y5 ∗ ow c M6 Y6 ∗ ow c M7 Y7 ∗ ow c M10 Y10)
      ⊢ iprop((iprop(ow c M5 (k0_pay9 v37) ∗ ow c M6 (k0_pay10 Y7) ∗ ow c M7 (k0_pay11 v33 v37 Y7) ∗ ow c M10 Y10)
          -∗ wp frame (wpE (defs₀ (F := F)) 𝒱₀ (c : Thread nD τ) none) Set.univ (k (k0_pay12 v23 Y10)) Q)
        -∗ wp frame (wpE (defs₀ (F := F)) 𝒱₀ (c : Thread nD τ) none) Set.univ
            (k0_part2 i M1 h1 M2 h2 M3 h3 M4 h4 M5 h5 M6 h6 M7 h7 M8 h8 M9 h9 M10 h10 v23 v33 v37 >>= k) Q) := by
  rw [Gen.k0_part2_eq_skeleton]
  unfold Gen.k0_part2_skel
  iintro ⟨H5, H6, H7, H10⟩ Hk
  iapply (owns_load c z3) $$ H5
  iintro H5
  iapply (owns_store c z3) $$ H5
  iintro H5
  iapply (owns_load c z2) $$ H7
  iintro H7
  iapply (owns_load c z3) $$ H6
  iintro H6
  iapply (owns_store c z3) $$ H6
  iintro H6
  iapply (owns_load c z2) $$ H7
  iintro H7
  iapply (owns_load c z2) $$ H7
  iintro H7
  iapply (owns_store c z2) $$ H7
  iintro H7
  iapply (owns_load c z2) $$ H10
  iintro H10
  iapply (owns_load c z2) $$ H10
  iintro H10
  iapply Hk
  isplitl [H5]; · iexact H5
  isplitl [H6]; · iexact H6
  isplitl [H7] <;> iassumption

/-- The body at a point. -/
theorem wp_router {Q : PUnit → sProp 𝕄} :
    iprop(ow c M1 X ∗ ow c M2 W ∗ ow c M3 G ∗ ow c M4 B ∗ ow c M5 Y5 ∗ ow c M6 Y6 ∗ ow c M7 Y7 ∗ ow c M8 Y8 ∗ ow c M9 Y9 ∗ ow c M10 Y10)
      ⊢ iprop((iprop(ow c M1 X ∗ ow c M2 W ∗ ow c M3 G ∗ ow c M4 B ∗ ow c M5 (k0_pay9 (k0_pay7 X W G B)) ∗ ow c M6 (k0_pay10 (cntIn i Y7))
            ∗ ow c M7 (cntOut i X W G B Y7) ∗ ow c M8 (if k0_cond2 i = 1#1 then k0_pay2 (cntOut i X W G B Y7) else Y8)
            ∗ ow c M9 (if k0_cond2 i = 1#1 then k0_pay3 (cntOut i X W G B Y7) (accOut i X W G Y10) else Y9)
            ∗ ow c M10 (accOut i X W G Y10)) -∗ Q ⟨⟩)
        -∗ wp frame (wpE (defs₀ (F := F)) 𝒱₀ (c : Thread nD τ) none) Set.univ
            (cc0__router_body i M1 h1 M2 h2 M3 h3 M4 h4 M5 h5 M6 h6 M7 h7 M8 h8 M9 h9 M10 h10) Q) := by
  rw [Gen.cc0__router_body_eq_skeleton]
  unfold Gen.cc0__router_body_skel
  iintro ⟨H1, H2, H3, H4, H5, H6, H7, H8, H9, H10⟩ Hk
  iapply (wp_start c i) $$ [H1 H2 H3 H4 H7 H10]
  · isplitl [H1]; · iexact H1
    isplitl [H2]; · iexact H2
    isplitl [H3]; · iexact H3
    isplitl [H4]; · iexact H4
    isplitl [H7] <;> iassumption
  iintro ⟨H1, H2, H3, H4, H7, H10⟩
  iapply (wp_middle c i) $$ [H5 H6 H7 H10]
  · isplitl [H5]; · iexact H5
    isplitl [H6]; · iexact H6
    isplitl [H7] <;> iassumption
  iintro ⟨H5, H6, H7, H10⟩
  iapply (owns_store c z2) $$ H10
  iintro H10
  by_cases hc : k0_cond2 i = 1#1
  · rw [dif_pos hc, if_pos hc, if_pos hc]
    iapply (owns_load c z2) $$ H7
    iintro H7
    iapply (owns_load c z2) $$ H8
    iintro H8
    iapply (owns_store c z2) $$ H8
    iintro H8
    iapply (owns_load c z2) $$ H10
    iintro H10
    iapply (owns_load c z2) $$ H9
    iintro H9
    iapply (owns_store c z2) $$ H9
    iintro H9
    iapply (wp_done c)
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [dif_neg hc, if_neg hc, if_neg hc]
    iapply (wp_done c)
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

end Cert.KernelIdeal.Sort

end
-- ==== Proof.Router.lean ====
/-
  The router's region: what its windows hold at each of its 32 points, and the region as a step of the launch.
-/
module

public import proofs.«01_k».proof.Proof.RouterBody
public import Idealize.ShloMosaic.Lib.Pipeline.FrameBody
public import Idealize.ShloMosaic.Lib.Pipeline.RegionsLoop

@[expose] public section

noncomputable section

namespace Cert.KernelIdeal.Sort

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal
open Cert.KernelIdeal.Gen (k0_pay2 k0_pay3 k0_pay4 k0_pay5 k0_pay6 k0_pay7 k0_pay9 k0_pay10 k0_pay11 k0_pay12)
open Facts₀ Facts

variable {F : FTy → Type} [FloatOps F]

local notation "𝕄" => MT nD τ sig (HIx 1) (Elt F) ℕ UU ℕ

variable (V : (c : Dev nD) → (b : Ref sig .tc) → Buf (Elt F) ((c : Thread nD τ).loc b)) (c : Dev nD)

/-! ## The blocks, the counts and the running sum along the grid -/

/-- The grid's point number `n`. -/
def pt (n : ℕ) : Fin cfg0.N := ⟨n % 32, by rw [show cfg0.N = 32 from Gen.N_0]; exact Nat.mod_lt _ (by omega)⟩

theorem pt_val (t : Fin cfg0.N) : pt t.val = t :=
  Fin.ext (Nat.mod_eq_of_lt (lt_of_lt_of_eq t.isLt Gen.N_0))

def blkX (t : Fin cfg0.N) : Vec F S1024x4096 .f32 := ((cfg0.win 0).blk t).view.read (Elt F) (V c main_arg0)
def blkW (t : Fin cfg0.N) : Vec F S512x4096 .f32 := ((cfg0.win 1).blk t).view.read (Elt F) (V c main_arg1)
def blkG (t : Fin cfg0.N) : Vec F S64x512 .f32 := ((cfg0.win 2).blk t).view.read (Elt F) (V c main_arg2)
def blkB (t : Fin cfg0.N) : Vec F S1x1 .f32 := ((cfg0.win 3).blk t).view.read (Elt F) (V c main_v0)

/-- The expert of each token of a block, spread along the row. -/
def choice (t : Fin cfg0.N) : IVec S1024x64 32 := k0_pay7 (blkX V c t) (blkW V c t) (blkG V c t) (blkB V c t)

def cntAt : ℕ → Vec F S1x64 .i32
  | 0 => k0_pay4
  | n + 1 => k0_pay11 cols (choice V c (pt n)) (cntAt n)
def accAt : ℕ → Vec F S1x64 .f32
  | 0 => k0_pay5 (F := F)
  | n + 1 => k0_pay12 (k0_pay6 (blkX V c (pt n)) (blkW V c (pt n)) (blkG V c (pt n))) (accAt n)

theorem cond1_iff (t : Fin cfg0.N) : k0_cond1 (grid0.coords t) = 1#1 ↔ t.val = 0 := by
  have h : ∀ t : Fin grid0.N, k0_cond1 (grid0.coords t) = 1#1 ↔ t.val = 0 := by decide +kernel
  exact h t
theorem cond2_iff (t : Fin cfg0.N) : k0_cond2 (grid0.coords t) = 1#1 ↔ t.val = 31 := by
  have h : ∀ t : Fin grid0.N, k0_cond2 (grid0.coords t) = 1#1 ↔ t.val = 31 := by decide +kernel
  exact h t

theorem cntIn_eq (t : Fin cfg0.N) {Y : Vec F S1x64 .i32} (h : t.val ≠ 0 → Y = cntAt V c t.val) : cntIn (grid0.coords t) Y = cntAt V c t.val := by
  unfold cntIn
  by_cases h0 : t.val = 0
  · rw [if_pos ((cond1_iff t).mpr h0), h0]; rfl
  · rw [if_neg fun hc => h0 ((cond1_iff t).mp hc), h h0]
theorem accIn_eq (t : Fin cfg0.N) {Y : Vec F S1x64 .f32} (h : t.val ≠ 0 → Y = accAt V c t.val) : accIn (grid0.coords t) Y = accAt V c t.val := by
  unfold accIn
  by_cases h0 : t.val = 0
  · rw [if_pos ((cond1_iff t).mpr h0), h0]; rfl
  · rw [if_neg fun hc => h0 ((cond1_iff t).mp hc), h h0]

theorem cntOut_eq (t : Fin cfg0.N) {Y : Vec F S1x64 .i32} (h : t.val ≠ 0 → Y = cntAt V c t.val) :
    cntOut (grid0.coords t) (blkX V c t) (blkW V c t) (blkG V c t) (blkB V c t) Y = cntAt V c (t.val + 1) := by
  unfold cntOut
  rw [cntIn_eq V c t h]
  show _ = k0_pay11 cols (choice V c (pt t.val)) (cntAt V c t.val)
  rw [pt_val]; rfl
theorem accOut_eq (t : Fin cfg0.N) {Y : Vec F S1x64 .f32} (h : t.val ≠ 0 → Y = accAt V c t.val) :
    accOut (grid0.coords t) (blkX V c t) (blkW V c t) (blkG V c t) Y = accAt V c (t.val + 1) := by
  unfold accOut
  rw [accIn_eq V c t h]
  show _ = k0_pay12 (k0_pay6 (blkX V c (pt t.val)) (blkW V c (pt t.val)) (blkG V c (pt t.val))) (accAt V c t.val)
  rw [pt_val]

/-! ## The region's data -/

/-- The scratch sum before point `t`: at the first point anything. -/
def scr (n : ℕ) : sProp 𝕄 :=
  iprop(∃ Y, ⌜n ≠ 0 → Y = accAt V c n⌝ ∗ ow c (Memref.whole cc0_scratch0 : Memref sig .tc .vmem S1x64 .f32) Y)

/-- What the core owes before the sort's call: what it did at the launch. -/
abbrev due : CellTallies nD τ sig (HIx 1) := (K (F := F)).Otc (N := 1) c 0

def dat : Dat τ (Elt F) (HIx 1) ℕ UU ℕ cfg0 c where
  A w := V c (Pipeline.arrRef spec0 w)
  after w t := match w with
    | ⟨0, _⟩ => blkX V c t
    | ⟨1, _⟩ => blkW V c t
    | ⟨2, _⟩ => blkG V c t
    | ⟨3, _⟩ => blkB V c t
    | ⟨4, _⟩ => k0_pay9 (choice V c t)
    | ⟨5, _⟩ => k0_pay10 (cntAt V c t.val)
    | ⟨6, _⟩ => cntAt V c (t.val + 1)
    | ⟨7, _⟩ => k0_pay2 (cntAt V c (t.val + 1))
    | ⟨8, _⟩ => k0_pay3 (cntAt V c (t.val + 1)) (accAt V c (t.val + 1))
  Φ t := scr V c t.val
  q _ := fullShare
  owed _ := due (F := F) c
  recorded _ := {p | (K (F := F)).lev ((c : Thread nD τ), p.1) p.2 ≤ 0}

theorem before_0 (t : Fin cfg0.N) (d) : (dat V c).before 0 t d = blkX V c t :=
  ((dat V c).before_in_eq_fetched 0 rfl (fun _ => rfl) (fun _ _ _ => rfl) (fun _ => rfl) t d).trans rfl
theorem before_1 (t : Fin cfg0.N) (d) : (dat V c).before 1 t d = blkW V c t :=
  ((dat V c).before_in_eq_fetched 1 rfl (fun _ => rfl) (fun _ _ _ => rfl) (fun _ => rfl) t d).trans rfl
theorem before_2 (t : Fin cfg0.N) (d) : (dat V c).before 2 t d = blkG V c t :=
  ((dat V c).before_in_eq_fetched 2 rfl (fun _ => rfl) (fun _ _ _ => rfl) (fun _ => rfl) t d).trans rfl
theorem before_3 (t : Fin cfg0.N) (d) : (dat V c).before 3 t d = blkB V c t :=
  ((dat V c).before_in_eq_fetched 3 rfl (fun _ => rfl) (fun _ _ _ => rfl) (fun _ => rfl) t d).trans rfl

theorem before_6 (t : Fin cfg0.N) (d) (ht : t.val ≠ 0) : (dat V c).before 6 t d = cntAt V c t.val := by
  have hN : t.val < 32 := lt_of_lt_of_eq t.isLt Gen.N_0
  rw [(dat V c).before_out_kept 6 rfl t ht
    (by
      rw [← Bool.not_eq_true]
      intro h
      have := (Gen.flush0_6 _).mp h
      dsimp only at this
      omega)
    (fun _ => rfl) (fun _ _ => rfl) d]
  dsimp only [dat]
  rw [show t.val - 1 + 1 = t.val by omega]

theorem idle_7 (t : Fin cfg0.N) : idle0 7 (grid0.coords t) = !decide (t.val = 31) := by
  show (!(k0_cond2 (grid0.coords t) == 1#1)) = _
  congr 1
  by_cases h : t.val = 31
  · rw [(cond2_iff t).mpr h]; simp [h]
  · have := fun hc => h ((cond2_iff t).mp hc)
    simp only [h, decide_false]; exact beq_eq_false_iff_ne.mpr this

theorem after_0 (t : Fin cfg0.N) : (dat V c).after 0 t = blkX V c t := by dsimp only [dat]
theorem after_1 (t : Fin cfg0.N) : (dat V c).after 1 t = blkW V c t := by dsimp only [dat]
theorem after_2 (t : Fin cfg0.N) : (dat V c).after 2 t = blkG V c t := by dsimp only [dat]
theorem after_3 (t : Fin cfg0.N) : (dat V c).after 3 t = blkB V c t := by dsimp only [dat]
theorem after_4 (t : Fin cfg0.N) : (dat V c).after 4 t = k0_pay9 (choice V c t) := by dsimp only [dat]
theorem after_5 (t : Fin cfg0.N) : (dat V c).after 5 t = k0_pay10 (cntAt V c t.val) := by dsimp only [dat]
theorem after_6 (t : Fin cfg0.N) : (dat V c).after 6 t = cntAt V c (t.val + 1) := by dsimp only [dat]
theorem after_7 (t : Fin cfg0.N) : (dat V c).after 7 t = k0_pay2 (cntAt V c (t.val + 1)) := by dsimp only [dat]
theorem after_8 (t : Fin cfg0.N) : (dat V c).after 8 t = k0_pay3 (cntAt V c (t.val + 1)) (accAt V c (t.val + 1)) := by dsimp only [dat]

theorem body_obligation : BodyObligation (dat V c) (defs₀ (F := F)) 𝒱₀ (none : HIx 1) Set.univ := fun t => by
  have hN : t.val < 32 := lt_of_lt_of_eq t.isLt Gen.N_0
  rw [Gen.bigSep_W0, Gen.bigSep_W0]
  rw [show (dat V c).Φ t.castSucc = scr V c t.val from rfl, show (dat V c).Φ t.succ = scr V c (t.val + 1) from rfl,
    show (dat V c).owesAt (none : HIx 1) t.succ = (dat V c).owesAt (none : HIx 1) t.castSucc from rfl]
  simp only [before_0, before_1, before_2, before_3, after_0, after_1, after_2, after_3, after_4, after_5, after_6, after_7, after_8]
  unfold scr
  iintro ⟨⟨%Y10, %hY10, H10⟩, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have h6 : t.val ≠ 0 → (dat V c).before 6 t d6 = cntAt V c t.val := before_6 V c t d6
  iapply (wp_router c (grid0.coords t)) $$ [H0 H1 H2 H3 H4 H5 H6 H7 H8 H10]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H10
  rw [show k0_pay7 (blkX V c t) (blkW V c t) (blkG V c t) (blkB V c t) = choice V c t from rfl, cntOut_eq V c t h6, accOut_eq V c t hY10, cntIn_eq V c t h6]
  iintro ⟨H0, H1, H2, H3, H4, H5, H6, H7, H8, H10⟩
  isplitl [H10]
  · iexists _
    isplitr; · ipureintro; exact fun _ => rfl
    iexact H10
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  by_cases ht : t.val = 31
  · have i7 := idle_7 t
    simp only [ht, decide_true, Bool.not_true] at i7
    rw [i7]
    dsimp only
    rw [if_pos ((cond2_iff t).mpr ht), if_pos ((cond2_iff t).mpr ht)]
    isplitl [H7]; · iexact H7
    iexact H8
  · have f7 : (win0 7).flush t = false := by
      rw [← Bool.not_eq_true]; intro h; have := (Gen.flush0_7 t).mp h; omega
    have f8 : (win0 8).flush t = false := by
      rw [← Bool.not_eq_true]; intro h; have := (Gen.flush0_8 t).mp h; omega
    have i7 := idle_7 t
    simp only [ht, decide_false, Bool.not_false] at i7
    rw [i7, f7, f8]
    dsimp only
    rw [if_neg fun h => ht ((cond2_iff t).mp h), if_neg fun h => ht ((cond2_iff t).mp h)]
    isplitl [H7]; · iexists d7; iexact H7
    iexists d8; iexact H8

/-! ## The region -/

variable (adm : (p : Fin 1) → (pcfgs (F := F) p).Adm)

def pdats : (p : Fin 1) → (c : Dev nD) → Dat τ (Elt F) (HIx 1) ℕ UU ℕ (Pipeline.pin (pcfgs (F := F)) adm p) c
  | ⟨0, _⟩ => fun c => dat V c

theorem due_none (g : GSem nD τ sig) : due (F := F) c g none = 0 := by
  unfold due
  rw [SparseCore.Cfg.Otc_zero]
  simp only [SparseCore.Cfg.OtcAt, Finset.sum_apply, Finsupp.coe_finset_sum, tallyAt, tallyOn]
  refine Finset.sum_eq_zero fun q _ => Finset.sum_eq_zero fun x _ => ?_
  simp [Pi.single_apply]
  split <;> simp

/-- The core's debt, the waits it has recorded all below the protocol's. -/
abbrev debt : sProp 𝕄 := iprop(∃ W, ⌜(K (F := F)).WBelow (c : Thread nD τ) W 0⌝ ∗ owes (c : Thread nD τ) (due (F := F) c) W)

variable (Vp : (c : Dev nD) → (b : Ref sig .tc) → Buf (Elt F) ((c : Thread nD τ).loc b))

set_option backward.isDefEq.respectTransparency.types false in
/-- The region from every array held whole at `V` to every array held whole at `Vp`, which is `V` but at the five results. -/
def reg (hVp : ∀ c (w : Fin 9), Vp c (Pipeline.arrRef spec0 w) = (dat V c).arrAt w cfg0.N)
    (hne : ∀ c (b : Ref sig .tc), b ∉ Finset.univ.image (Pipeline.arrRef spec0) → Vp c b = V c b) :
    Pipeline.RegionSeg (pcfgs (F := F)) adm (pdats V adm) (none : HIx 1) defs₀ 𝒱₀ (K (F := F)).L (K (F := F)).lev 0 where
  win := Gen.launch0.win.to₀
  block_pos := Gen.launch0.block_pos
  stage_whole := Gen.launch0.stage_whole
  K := PEmpty
  osem k := k.elim
  ho := Pipeline.OwnSemFacts.none _
  hbody c := (body_obligation V c).loose
  hwaits c := Pipeline.cellsWaits_intro _ _ _ _ c fun w s t =>
    (K (F := F)).mayWait_none _ (fun g => due_none c g)
  pre c := iprop(unscopedBufs c (V c) ∗ debt (F := F) c)
  post c := iprop(unscopedBufs c (Vp c) ∗ debt (F := F) c)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (pdats V adm) Gen.launch0.win Gen.launch0.arr_whole c
      ((pdats V adm 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V adm 0 c).Φ 0 = scr V c 0 from rfl]
    rw [Gen.scopedRest0_eq]
    unfold scr ow
    simp only [owns_whole_eq]
    iintro ⟨-, -, ⟨%f, H⟩⟩
    iexists f
    isplitr; · ipureintro; exact fun h => absurd rfl h
    iexists f
    isplitr; · ipureintro; rfl
    iexact H
  hout c := by
    rw [Pipeline.ownSems0_none, show (pdats V adm 0 c).Φ (Fin.last _) = scr V c (Fin.last cfg0.N).val from rfl]
    rw [Gen.scopedRest0_eq]
    unfold scr ow
    simp only [owns_whole_eq]
    iintro ⟨%Y, -, ⟨%f, -, H⟩⟩
    isplitr; · iempintro
    isplitr; · iempintro
    iexists f; iexact H
  hexit c := by
    have hjoin := Pipeline.unscopedBufs_of_arrays (p := 0) (pcfgs (F := F)) adm (Ix := HIx 1) (Name := ℕ) (U := UU) (Lvl := ℕ) Gen.launch0.win Gen.launch0.arr_whole c
      (pdats V adm) ((pdats V adm 0 c).share_full fun _ => rfl) (V c) (Vp c) ((pdats V adm 0 c).arrAt · cfg0.N)
      (fun w => (hVp c w).symm)
      (fun b hb => hne c b hb)
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      rcases hW hp with h | ⟨w, s, h⟩
      · exact h
      · rw [h]; exact le_rfl
    iexact HO

end Cert.KernelIdeal.Sort

end
-- ==== Proof.Launch.lean ====
/-
  The program on the TensorCore: the router's region, the tables made from its results, the sort's call; and the launch
  of all the threads.
-/
module

public import proofs.«01_k».proof.Proof.Router

@[expose] public section

noncomputable section

namespace Cert.KernelIdeal.Sort

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held_sub_split held_congr wp_hlo_within)
open Cert.KernelIdeal
open Facts₀ Facts

variable {F : FTy → Type} [FloatOps F]

local notation "𝕄" => MT nD τ sig (HIx 1) (Elt F) ℕ UU ℕ

/-! ## The ghost state -/

/-- The router's staging cells. -/
abbrev EP : Emb UP (MT nD τ sig (HIx 1) (Elt F) ℕ UU ℕ) := (Emb.inl : Emb UP (UP × Counters)).trans embR

def adm : (p : Fin 1) → (pcfgs (F := F) p).Adm := fun p => (cfgs p).toPCfg_adm

abbrev pcell_inj : Function.Injective (Pipeline.cellOf (nD := nD) (τ := τ) (Pipeline.pin (pcfgs (F := F)) adm)) := Gen.cellOf_inj

def u₀ : UU :=
  (initOf (K (F := F)).hsCells (K (F := F)).hsToks,
    initOf (Pipeline.cells (Pipeline.pin (pcfgs (F := F)) adm) pcell_inj) (Pipeline.launchToks (Pipeline.pin (pcfgs (F := F)) adm) pcell_inj), 1)

/-- What a core has for its router's cells. -/
abbrev G (c : Dev nD) : sProp 𝕄 :=
  iprop(Pipeline.cellsGhost (Pipeline.pin (pcfgs (F := F)) adm) EP 0 c ∗ Pipeline.toksInit (Pipeline.pin (pcfgs (F := F)) adm) EP 0 c)

variable (e : Dev nD → ℕ → BitVec 32) (f9 : (d : Dev nD) → Buf (Elt F) (loc9 d))

theorem ghost : (ownU (u₀ (F := F)) : sProp 𝕄)
    ⊢ |={Set.univ}=> iprop(BI.own (EH (initOf (K (F := F)).hsCells (K (F := F)).hsToks)) ∗ bigSep Finset.univ (G (F := F))
        ∗ bigSep Finset.univ fun thr : Thread nD τ => bigSep Finset.univ fun q : Fin 1 => (P e f9).x q thr) := by
  unfold u₀
  iintro Hu
  ihave H := (ownU_pair _ _) $$ Hu
  icases H with ⟨HH, HP⟩
  ihave H := (own_pair_emb _ _ _) $$ HP
  icases H with ⟨HP, -⟩
  imod (Pipeline.fund_ghost (Pipeline.pin (pcfgs (F := F)) adm) EP pcell_inj) $$ HP with ⟨Hg, Ht⟩
  imodintro
  isplitl [HH]; · iexact HH
  isplitl [Hg Ht]
  · unfold G
    rw [bigSep_sep']
    isplitl [Hg]
    · ihave H := (BIBase.Entails.of_eq (congrArg (bigSep Finset.univ) (funext fun c => bigSep_univ_of_subsingleton (0 : Fin 1)))) $$ Hg
      iexact H
    · ihave H := (BIBase.Entails.of_eq (congrArg (bigSep Finset.univ) (funext fun c => bigSep_univ_of_subsingleton (0 : Fin 1)))) $$ Ht
      iexact H
  rw [show (fun thr : Thread nD τ => bigSep Finset.univ fun q : Fin 1 => (P (F := F) e f9).x q thr) = fun _ => (iprop(emp) : sProp 𝕄) from
    funext fun thr => bigSep_univ_of_subsingleton (0 : Fin 1)]
  rw [show (bigSep Finset.univ fun _ : Thread nD τ => (iprop(emp) : sProp 𝕄)) = iprop(emp) from bigSep_emp_const _]
  iempintro

/-! ## The arrays along the program -/

/-- The TensorCore's arrays. -/
def arrs : Finset (DevRef τ sig) := (StableHlo.tcRefs τ sig).filter fun b => ¬ b.isScoped

theorem unscoped_eq (c : Dev nD) (W : Valuation τ sig (Elt F)) :
    (unscopedBufs c (fun b => W (Proc.devRef .tc b)) : sProp 𝕄) = StableHlo.held (c : Thread nD τ) arrs W := by
  unfold unscopedBufs StableHlo.held arrs StableHlo.tcRefs
  rw [Finset.filter_map, bigSep_map]
  rfl

abbrev r0 : DevRef τ sig := Proc.devRef .tc (main_v0 : Ref sig .tc)
abbrev r2 : DevRef τ sig := Proc.devRef .tc (main_v2 : Ref sig .tc)
abbrev r8 : DevRef τ sig := Proc.devRef .tc (main_v8 : Ref sig .tc)
abbrev r9 : DevRef τ sig := Proc.devRef .tc (main_v9 : Ref sig .tc)
abbrev q0 : DevRef τ sig := Proc.devRef .tc (main_v1_0 : Ref sig .tc)
abbrev q1 : DevRef τ sig := Proc.devRef .tc (main_v1_1 : Ref sig .tc)
abbrev q2 : DevRef τ sig := Proc.devRef .tc (main_v1_2 : Ref sig .tc)
abbrev q3 : DevRef τ sig := Proc.devRef .tc (main_v1_3 : Ref sig .tc)
abbrev q4 : DevRef τ sig := Proc.devRef .tc (main_v1_4 : Ref sig .tc)

abbrev op0 : HloOp τ sig (Elt F) := StableHlo.reshape main_arg3 main_v0 (rfl : (.f32 : EltTy) = .f32) shapeCasts_S1_S1x1
abbrev op2 : HloOp τ sig (Elt F) := StableHlo.reshape main_v1_0 main_v2 (rfl : (.i32 : EltTy) = .i32) shapeCasts_S32x8x128_S256x128
abbrev op3 : HloOp τ sig (Elt F) := StableHlo.reshape main_v1_1 main_v3 (rfl : (.i32 : EltTy) = .i32) shapeCasts_S32x1x64_S32x64
abbrev op4 : HloOp τ sig (Elt F) := StableHlo.unary main_v1_3 main_v4 (broadcastInDim S32x64 ![0, 1] bcast_S1x64_S32x64_0_1)
abbrev op5 : HloOp τ sig (Elt F) := StableHlo.binary main_v3 main_v4 main_v5 addi
abbrev opc : HloOp τ sig (Elt F) := StableHlo.nullary main_c (constantI S_ 32 0#32)
abbrev op6 : HloOp τ sig (Elt F) := StableHlo.unary main_c main_v6 (broadcastInDim S32x128 ![] bcast_S_S32x128)
abbrev opd : HloOp τ sig (Elt F) := StableHlo.nullary main_c_0 (constantI S_ 32 0#32)
abbrev op7 : HloOp τ sig (Elt F) := StableHlo.unary main_c_0 main_v7 (broadcastInDim S1 ![] bcast_S_S1)
abbrev op8 : HloOp τ sig (Elt F) := StableHlo.ternary main_v6 main_v7 main_v5 main_v8
  (fun x i u => Host.scatter scatter_S32x128_S1_S32x64_01_n_1_0 (fun _ b => b) x i u)
abbrev op10 : HloOp τ sig (Elt F) := StableHlo.reshape main_v1_4 main_v10 (rfl : (.f32 : EltTy) = .f32) shapeCasts_S1x1_S_

variable (m : (ℓ : Loc nD τ sig) → Buf (Elt F) ℓ) (ρ : Dev nD → PrngReg)

def W0 (d : Dev nD) : Valuation τ sig (Elt F) := fun b => m (d, b)
/-- Before the router. -/
def W1 (d : Dev nD) : Valuation τ sig (Elt F) := (op0 (F := F)).result (W0 m d)
def V1 (c : Dev nD) (b : Ref sig .tc) : Buf (Elt F) ((c : Thread nD τ).loc b) := W1 m c (Proc.devRef .tc b)
/-- After the router. -/
def W2 (d : Dev nD) : Valuation τ sig (Elt F) :=
  Function.update (Function.update (Function.update (Function.update (Function.update (W1 m d)
    q0 ((dat (V1 m) d).arrAt 4 cfg0.N)) q1 ((dat (V1 m) d).arrAt 5 cfg0.N)) q2 ((dat (V1 m) d).arrAt 6 cfg0.N))
    q3 ((dat (V1 m) d).arrAt 7 cfg0.N)) q4 ((dat (V1 m) d).arrAt 8 cfg0.N)
def V2 (c : Dev nD) (b : Ref sig .tc) : Buf (Elt F) ((c : Thread nD τ).loc b) := W2 m c (Proc.devRef .tc b)
/-- Before the sort, -/
def W8 (d : Dev nD) : Valuation τ sig (Elt F) :=
  (op8 (F := F)).result ((op7 (F := F)).result ((opd (F := F)).result ((op6 (F := F)).result ((opc (F := F)).result
    ((op5 (F := F)).result ((op4 (F := F)).result ((op3 (F := F)).result ((op2 (F := F)).result (W2 m d)))))))))
/-- after it, -/
def W9 (d : Dev nD) : Valuation τ sig (Elt F) := Function.update (W8 m d) r9 (A9 (e d))
/-- and at the end. -/
def W10 (d : Dev nD) : Valuation τ sig (Elt F) := (op10 (F := F)).result (W9 e m d)

theorem V2_arr (c : Dev nD) (w : Fin 9) : V2 m c (Pipeline.arrRef spec0 w) = (dat (V1 m) c).arrAt w cfg0.N := by
  have hin (w : Fin 9) (h : (cfg0.win w).isOut = false) : V1 m c (Pipeline.arrRef spec0 w) = (dat (V1 m) c).arrAt w cfg0.N :=
    ((dat (V1 m) c).arrAt_in w h _).symm
  unfold V2 W2
  fin_cases w
  · exact (Function.update_of_ne (by decide) _ _).trans <| (Function.update_of_ne (by decide) _ _).trans <| (Function.update_of_ne (by decide) _ _).trans <|
      (Function.update_of_ne (by decide) _ _).trans <| (Function.update_of_ne (by decide) _ _).trans (hin 0 rfl)
  · exact (Function.update_of_ne (by decide) _ _).trans <| (Function.update_of_ne (by decide) _ _).trans <| (Function.update_of_ne (by decide) _ _).trans <|
      (Function.update_of_ne (by decide) _ _).trans <| (Function.update_of_ne (by decide) _ _).trans (hin 1 rfl)
  · exact (Function.update_of_ne (by decide) _ _).trans <| (Function.update_of_ne (by decide) _ _).trans <| (Function.update_of_ne (by decide) _ _).trans <|
      (Function.update_of_ne (by decide) _ _).trans <| (Function.update_of_ne (by decide) _ _).trans (hin 2 rfl)
  · exact (Function.update_of_ne (by decide) _ _).trans <| (Function.update_of_ne (by decide) _ _).trans <| (Function.update_of_ne (by decide) _ _).trans <|
      (Function.update_of_ne (by decide) _ _).trans <| (Function.update_of_ne (by decide) _ _).trans (hin 3 rfl)
  · exact (Function.update_of_ne (by decide) _ _).trans <| (Function.update_of_ne (by decide) _ _).trans <| (Function.update_of_ne (by decide) _ _).trans <|
      (Function.update_of_ne (by decide) _ _).trans (Function.update_self _ _ _)
  · exact (Function.update_of_ne (by decide) _ _).trans <| (Function.update_of_ne (by decide) _ _).trans <| (Function.update_of_ne (by decide) _ _).trans <|
      (Function.update_self _ _ _)
  · exact (Function.update_of_ne (by decide) _ _).trans <| (Function.update_of_ne (by decide) _ _).trans <| (Function.update_self _ _ _)
  · exact (Function.update_of_ne (by decide) _ _).trans <| (Function.update_self _ _ _)
  · exact Function.update_self _ _ _

theorem V2_ne (c : Dev nD) (b : Ref sig .tc) (hb : b ∉ Finset.univ.image (Pipeline.arrRef spec0)) : V2 m c b = V1 m c b := by
  have h (w : Fin 9) : (Proc.devRef .tc b : DevRef τ sig) ≠ Proc.devRef .tc (Pipeline.arrRef spec0 w) := fun he =>
    hb (Finset.mem_image.mpr ⟨w, Finset.mem_univ _, (Proc.devRef_injective _ he).symm⟩)
  unfold V2 W2
  exact (Function.update_of_ne (h 8) _ _).trans <| (Function.update_of_ne (h 7) _ _).trans <| (Function.update_of_ne (h 6) _ _).trans <|
      (Function.update_of_ne (h 5) _ _).trans (Function.update_of_ne (h 4) _ _)

theorem unscoped_before (d : Dev nD) : (unscopedBufs d (V1 m d) : sProp 𝕄) = StableHlo.held (SparseCore.T d) arrs ((op0 (F := F)).result (W0 m d)) :=
  unscoped_eq d (W1 m d)
theorem unscoped_after (d : Dev nD) : (unscopedBufs d (V2 m d) : sProp 𝕄) = StableHlo.held (SparseCore.T d) arrs (W2 m d) :=
  unscoped_eq d (W2 m d)

/-- The sort's operands, taken out of all the arrays. -/
theorem held_sort (d : Dev nD) (W : Valuation τ sig (Elt F)) :
    (StableHlo.held (SparseCore.T d) arrs W : sProp 𝕄)
      = iprop(((loc2 d ↦{fullShare} W r2) ∗ (loc8 d ↦{fullShare} W r8) ∗ loc9 d ↦{fullShare} W r9) ∗ StableHlo.held (SparseCore.T d) (arrs \ {r2, r8, r9}) W) := by
  rw [held_sub_split (SparseCore.T d) (show ({r2, r8, r9} : Finset (DevRef τ sig)) ⊆ arrs by decide)]
  congr 1
  unfold StableHlo.held
  rw [SparseCore.bigSep_insert' (by decide), SparseCore.bigSep_insert' (by decide), bigSep_singleton]

theorem W9_2 (d : Dev nD) : W9 e m d r2 = W8 m d r2 := Function.update_of_ne (by decide) _ _
theorem W9_8 (d : Dev nD) : W9 e m d r8 = W8 m d r8 := Function.update_of_ne (by decide) _ _
theorem W9_9 (d : Dev nD) : W9 e m d r9 = A9 (e d) := Function.update_self _ _ _
theorem W9_rest (d : Dev nD) :
    (StableHlo.held (SparseCore.T d) (arrs \ {r2, r8, r9}) (W8 m d) : sProp 𝕄) = StableHlo.held (SparseCore.T d) (arrs \ {r2, r8, r9}) (W9 e m d) :=
  held_congr _ fun b hb => (Function.update_of_ne (fun h => (Finset.mem_sdiff.mp hb).2 (by rw [h]; simp)) _ _).symm

/-! ## The program on the TensorCore -/

/-- The operations between the router and the sort. -/
abbrev tables : List (HloOp τ sig (Elt F)) := [op2, op3, op4, op5, opc, op6, opd, op7, op8]

theorem held_tables (d : Dev nD) :
    (StableHlo.held (d.tc : Thread nD τ) arrs (StableHlo.after tables (W2 m d)) : sProp 𝕄) = StableHlo.held (SparseCore.T d) arrs (W8 m d) := rfl

theorem tables_sub : ∀ op ∈ tables (F := F), op.bufs ⊆ arrs := by
  have h : (tables (F := F)).Forall fun op => op.bufs ⊆ arrs :=
    ⟨show ({_, _} : Finset (DevRef τ sig)) ⊆ arrs by decide, show ({_, _} : Finset (DevRef τ sig)) ⊆ arrs by decide,
      show ({_, _} : Finset (DevRef τ sig)) ⊆ arrs by decide, show ({_, _, _} : Finset (DevRef τ sig)) ⊆ arrs by decide,
      show ({_} : Finset (DevRef τ sig)) ⊆ arrs by decide, show ({_, _} : Finset (DevRef τ sig)) ⊆ arrs by decide,
      show ({_} : Finset (DevRef τ sig)) ⊆ arrs by decide, show ({_, _} : Finset (DevRef τ sig)) ⊆ arrs by decide,
      show ({_, _, _, _} : Finset (DevRef τ sig)) ⊆ arrs by decide⟩
  exact List.forall_iff_forall_mem.mp h

theorem tables_fresh : ∀ op ∈ tables (F := F), op.fresh = ∅ := by
  intro _ h; (repeat (cases h with | head => rfl | tail _ h => ?_)); exact nomatch h

/-- The core's part of the launch protocol but its debt. -/
def tcRest (d : Dev nD) : sProp 𝕄 :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom 0) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))

theorem start_open (d : Dev nD) : ((K (F := F)).tcSt EH d 0 : sProp 𝕄) = iprop(debt (F := F) d ∗ tcRest (F := F) d) := rfl

theorem main_eq (d : Dev nD) : main (F := F) d = (hlo rfl op0 fun _ => .ret (⟨⟩ : PUnit)) >>= fun _ =>
    SparseCore.liftProg (Prog.lift (.customCall (Pipeline.entry 0) ()) : Prog (TpuEff nD τ sig (Elt F) (ΛP (F := F)) .tc) PUnit) >>= fun _ =>
      (StableHlo.seq tables) >>= fun _ => (K (F := F)).run d 0 >>= fun _ => (hlo rfl op10 fun _ => .ret (⟨⟩ : PUnit)) := rfl

variable (he : ∀ d, ∀ t < toks, (e d t).toNat < 64) (h9 : ∀ d, f9 d = W8 m d r9) (h2 : ∀ d, W8 m d r2 = A2 (e d)) (h8 : ∀ d, W8 m d r8 = A8 (e d))

include he h9 h2 h8 in
set_option backward.isDefEq.respectTransparency.types false in
theorem hmain (κ : GSem nD τ sig → ℕ) (d : Dev nD) :
    iprop((K (F := F)).ctx EH (P e f9) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ StableHlo.held (SparseCore.T d) arrs (W10 e m d) ∗ (K (F := F)).tcEnd d) := by
  unfold SparseCore.Cfg.tcRes SparseCore.Cfg.tcEnd
  rw [show (unscopedBufs d (fun b => m ((SparseCore.T d).loc b)) : sProp 𝕄) = StableHlo.held (SparseCore.T d) arrs (W0 m d) from unscoped_eq d (W0 m d), main_eq]
  rw [wp_bind]
  iintro ⟨#Hctx, Hst, ⟨Hb, Hheld, Hts, -⟩, Hg, Ht⟩
  iapply (wp_hlo_within 𝒱 (SparseCore.T d) none Set.univ (op := op0) (S := arrs) (show ({_, _} : Finset (DevRef τ sig)) ⊆ arrs by decide) (V := W0 m d)) $$ [Hb Hheld]
  · isplitl [Hb] <;> iassumption
  iintro ⟨Hb, Hheld⟩
  rw [wp_ret]; imodintro
  rw [wp_bind]
  ihave Hst := (BIBase.Entails.of_eq (start_open d)) $$ Hst
  icases Hst with ⟨HO, Hrest⟩
  iapply ((K (F := F)).wp_liftProg (D (F := F)) 𝒱 (SparseCore.T d) Set.univ none _ _)
  iapply (Pipeline.RegionSeg.wp (pcfgs (F := F)) adm (pdats (V1 m) adm) (none : HIx 1) pcell_inj EP defs₀ 𝒱₀ (K (F := F)).L (K (F := F)).lev
    (reg (V1 m) adm (V2 m) (V2_arr m) (V2_ne m)) d none (fun _ h => nomatch h) _ _)
  rw [show (reg (V1 m) adm (V2 m) (V2_arr m) (V2_ne m)).pre d = iprop(unscopedBufs d (V1 m d) ∗ debt (F := F) d) from rfl,
    show (reg (V1 m) adm (V2 m) (V2_arr m) (V2_ne m)).post d = iprop(unscopedBufs d (V2 m d) ∗ debt (F := F) d) from rfl]
  isplitr [HO Hb Hheld Hg Ht]
  swap
  · isplitl [Hb]; · iexact Hb
    isplitl [HO Hheld]
    · isplitl [Hheld]
      · ihave H := (BIBase.Entails.of_eq (unscoped_before m d).symm) $$ Hheld
        iexact H
      iexact HO
    isplitr; · iapply (SparseCore.Cfg.ctx_levAts κ); iexact Hctx
    isplitl [Hg] <;> iassumption
  iintro ⟨Hb, Hub, HO⟩
  ihave Hheld := (BIBase.Entails.of_eq (unscoped_after m d)) $$ Hub
  rw [wp_ret]; imodintro
  iapply (StableHlo.wp_seq 𝒱 none Set.univ d arrs _ tables tables_sub tables_fresh (W2 m d)) $$ [Hb Hheld]
  · isplitl [Hb] <;> iassumption
  iintro ⟨Hb, Hheld⟩
  ihave Hheld := (BIBase.Entails.of_eq (held_tables m d)) $$ Hheld
  ihave Hh := (BIBase.Entails.of_eq (held_sort d (W8 m d))) $$ Hheld
  rw [h2, h8, ← h9]
  icases Hh with ⟨Hops, Hheld⟩
  rw [wp_bind]
  iapply ((K (F := F)).wp_run (D (F := F)) 𝒱 (EH := EH) (P := P e f9) κ d 0) $$ [Hrest HO Hops Hheld Hb Hts]
  isplitr; · iexact Hctx
  isplitl [Hrest HO]
  · ihave H := (BIBase.Entails.of_eq (start_open (F := F) d).symm) $$ [HO Hrest]
    · isplitl [HO]; · iexact HO
      iexact Hrest
    iexact H
  isplitl [Hops]
  · rw [st0_eq e f9 he]; iexact Hops
  iintro ⟨Hst, Hdn⟩
  ihave Hdn' := (BIBase.Entails.of_eq (dn0_eq e f9 he d)) $$ Hdn
  ihave Hh := (BIBase.Entails.of_eq (W9_rest e m d)) $$ Hheld
  iapply (wp_hlo_within 𝒱 (SparseCore.T d) none Set.univ (op := op10) (S := arrs) (show ({_, _} : Finset (DevRef τ sig)) ⊆ arrs by decide) (V := W9 e m d)) $$ [Hb Hdn' Hh]
  · isplitl [Hb]; · iexact Hb
    rw [held_sort, W9_2, W9_8, W9_9, h2, h8]
    isplitl [Hdn'] <;> iassumption
  iintro ⟨Hb, Hheld⟩
  rw [wp_ret]; imodintro
  isplitl [Hst]; · iexact Hst
  isplitl [Hheld]; · iexact Hheld
  isplitl [Hb] <;> iassumption

/-! ## The launch -/

/-- What a device's memory holds at the end. -/
def fq (d : Dev nD) (s' : Phys nD τ sig (Elt F)) : Prop := ∀ b ∈ arrs, s'.mem.mem (d, b) = W10 e m d b

theorem hfin (d : Dev nD) (s' : Phys nD τ sig (Elt F)) :
    iprop(StableHlo.held (SparseCore.T d) arrs (W10 e m d) ∗ SI s') ⊢ (⌜fq e m d s'⌝ : sProp 𝕄) := by
  iintro ⟨H, HSI⟩
  unfold StableHlo.held
  ihave %h := (SI_pointsTo_bufs_agree (qs := fun _ => fullShare) arrs) $$ [HSI H]
  · isplitl [HSI]; · iexact HSI
    iexact H
  ipureintro
  exact h

include he h2 h8 in
theorem run_main [∀ e, Nonempty (Elt F e)] :
    θ_run (Cert.KernelIdeal.defs (F := F)) (Cert.KernelIdeal.threads (F := F)) ⟨m, fun _ => 0, ρ⟩
      fun r => (∀ (d : Dev nD) (b : DevRef τ sig), b ∈ arrs → r.2.mem (d, b) = W10 e m d b) ∧ r.2.sem = fun _ => 0 :=
  SparseCore.Cfg.θ_run_sc_quiescent (K := K (F := F)) (D := D (F := F)) (𝒱 := 𝒱) (EH := EH) (P := P e fun d => W8 m d r9) (A := ∅) launchFacts v₀
    (fun q hq => match q with | 0 => nomatch hq)
    (fun q _ => match q with | 0 => tileObl e _ he)
    (fun q _ => match q with | 0 => SparseCore.Cfg.VecSplit.of_plain (vecSplit e _))
    m ρ main (G (F := F)) (fun d => StableHlo.held (SparseCore.T d) arrs (W10 e m d)) (u₀ (F := F)) (sep_elim_left.trans (ghost e _))
    (hmain e _ m ρ he (fun _ => rfl) h2 h8) (fq e m) (hfin e m) _ (fun _ h hz => ⟨h, hz⟩)

end Cert.KernelIdeal.Sort

end
-- ==== Proof.Spec.lean ====
/-
  The routing in plain mathematics over the extended reals: a token's logits, its gate, its expert, and its softmax row.
-/
module

public import Idealize.ShloMosaic.PureOps
public import Idealize.ShloMosaic.PureOps.Ideal.Laws
public import Idealize.ShloMosaic.Lib.IdealHost

@[expose] public section

noncomputable section

namespace Cert.Route

open Idealize.ShloMosaic

def small : EReal := Ideal.ofBits .f32 0x38D1B717#32
def heat : EReal := Ideal.ofBits .f32 0x3D8F5C29#32
def negInf : EReal := Ideal.ofBits .f32 0xFF800000#32

theorem negInf_eq : negInf = ⊥ := by
  simp [negInf, Ideal.ofBits, Ideal.ieee]

def proj (x : Fin 4096 → EReal) (w : Fin 512 → Fin 4096 → EReal) (k : Fin 512) : EReal := ∑ i, x i * w k i
def len (v : Fin 512 → EReal) : EReal := max (Ideal.sqrt (∑ k, v k * v k)) small
def logit (x : Fin 4096 → EReal) (w : Fin 512 → Fin 4096 → EReal) (g : Fin 64 → Fin 512 → EReal) (c : Fin 64) : EReal :=
  ∑ k, Ideal.div (proj x w k) (len (proj x w)) * Ideal.div (g c k) (len (g c))
def temp (b : EReal) : EReal := if b < small then small else b
def gate (l : Fin 64 → EReal) (b : EReal) (c : Fin 64) : EReal := Ideal.logistic (Ideal.div (l c) (temp b))
def top (v : Fin 64 → EReal) : EReal := Finset.univ.fold max negInf v
def soft (l : Fin 64 → EReal) (c : Fin 64) : EReal :=
  Ideal.div (Ideal.exp (Ideal.div (l c) heat - top fun c' => Ideal.div (l c') heat))
    (∑ c', Ideal.exp (Ideal.div (l c') heat - top fun c'' => Ideal.div (l c'') heat))

/-- `c` is the first place of the greatest entry. -/
def IsFirst (v : Fin 64 → EReal) (c : Fin 64) : Prop := (∀ c', v c' ≤ v c) ∧ ∀ c' < c, v c' < v c

theorem exists_first (v : Fin 64 → EReal) : ∃ c, IsFirst v c := by
  classical
  obtain ⟨a, -, ha⟩ := Finset.exists_max_image (Finset.univ : Finset (Fin 64)) v ⟨0, Finset.mem_univ _⟩
  have hne : (Finset.univ.filter fun c => ∀ c', v c' ≤ v c).Nonempty := ⟨a, Finset.mem_filter.mpr ⟨Finset.mem_univ _, fun c' => ha c' (Finset.mem_univ _)⟩⟩
  refine ⟨_, (Finset.mem_filter.mp (Finset.min'_mem _ hne)).2, fun c' hc' => ?_⟩
  refine lt_of_le_of_ne ((Finset.mem_filter.mp (Finset.min'_mem _ hne)).2 c') fun heq => ?_
  refine absurd hc' (not_lt.mpr (Finset.min'_le _ _ (Finset.mem_filter.mpr ⟨Finset.mem_univ _, fun c'' => ?_⟩)))
  rw [heq]
  exact (Finset.mem_filter.mp (Finset.min'_mem _ hne)).2 c''

def first (v : Fin 64 → EReal) : Fin 64 := (exists_first v).choose
theorem first_spec (v : Fin 64 → EReal) : IsFirst v (first v) := (exists_first v).choose_spec

theorem top_first (v : Fin 64 → EReal) : top v = v (first v) := by
  unfold top
  rw [← Finset.insert_erase (Finset.mem_univ (first v)), Finset.fold_insert (Finset.notMem_erase _ _)]
  refine max_eq_left (Finset.fold_max_le _ |>.mpr ⟨?_, fun c _ => (first_spec v).1 c⟩)
  rw [negInf_eq]; exact bot_le

/-- A word below all the others, found among them, is their signed minimum. -/
theorem minsi_le {a b : BitVec 32} (h : a.toInt ≤ b.toInt) : IntOp.minsi a b = a := by
  unfold IntOp.minsi
  by_cases h' : a.slt b = true
  · simp [h']
  · have : ¬ a.toInt < b.toInt := by simpa [BitVec.slt] using h'
    have : a = b := BitVec.eq_of_toInt_eq (by omega)
    simp [this]

theorem le_minsi {a b c : BitVec 32} (h : a.toInt ≤ b.toInt) (h' : a.toInt ≤ c.toInt) : a.toInt ≤ (IntOp.minsi b c).toInt := by
  unfold IntOp.minsi
  split <;> assumption

theorem fold_minsi {n : ℕ} (f : Fin n → BitVec 32) (b : BitVec 32) (k : Fin n) (hb : (f k).toInt ≤ b.toInt) (h : ∀ i, (f k).toInt ≤ (f i).toInt) :
    Finset.univ.fold IntOp.minsi b f = f k := by
  classical
  have aux (s : Finset (Fin n)) : (f k).toInt ≤ (s.fold IntOp.minsi b f).toInt := by
    induction s using Finset.induction_on with
    | empty => simpa using hb
    | insert i s hi ih => rw [Finset.fold_insert hi]; exact le_minsi (h i) ih
  rw [← Finset.insert_erase (Finset.mem_univ k), Finset.fold_insert (Finset.notMem_erase _ _)]
  exact minsi_le (aux _)

theorem toInt_small {c : ℕ} (h : c ≤ 64) : (BitVec.ofNat 32 c).toInt = c := by
  rw [BitVec.toInt_eq_toNat_of_lt] <;> rw [BitVec.toNat_ofNat] <;> omega

/-- The least place at which an entry is the greatest one, found by a signed minimum. -/
theorem minsi_first (v : Fin 64 → EReal) :
    Finset.univ.fold IntOp.minsi 2147483647#32 (fun c => if v c = top v then BitVec.ofNat 32 c.val else 64#32) = BitVec.ofNat 32 (first v).val := by
  have h1 : (if v (first v) = top v then BitVec.ofNat 32 (first v).val else 64#32) = BitVec.ofNat 32 (first v).val := if_pos (top_first v).symm
  have hlt := (first v).isLt
  rw [fold_minsi (fun c => if v c = top v then BitVec.ofNat 32 c.val else 64#32) _ (first v)]
  · exact h1
  · rw [h1, toInt_small (by omega), show (2147483647#32 : BitVec 32).toInt = 2147483647 from by decide]
    omega
  · intro c
    rw [h1, toInt_small (by omega)]
    split
    · rename_i hc
      rw [toInt_small (by omega)]
      by_contra hlt'
      have := (first_spec v).2 c (Fin.lt_def.mpr (by omega))
      rw [hc, top_first] at this
      exact lt_irrefl _ this
    · rw [show (64#32 : BitVec 32).toInt = 64 from by decide]; omega

/-- How often a word occurs, by adding up the bits. -/
theorem fold_count {n : ℕ} (f : Fin n → BitVec 32) (v : BitVec 32) (s : Finset (Fin n)) :
    s.fold IntOp.addi 0#32 (fun x => BitVec.setWidth 32 (IntOp.cmpi .eq (f x) v)) = BitVec.ofNat 32 (s.filter fun x => f x = v).card := by
  classical
  induction s using Finset.induction_on with
  | empty => rfl
  | insert i s hi ih =>
    rw [Finset.fold_insert hi, ih, Finset.filter_insert]
    by_cases h : f i = v
    · rw [if_pos h, Finset.card_insert_of_notMem (fun h' => hi (Finset.mem_filter.mp h').1), h,
        show IntOp.cmpi .eq v v = 1#1 from by simp [IntOp.cmpi], Nat.add_comm, BitVec.ofNat_add]
      rfl
    · rw [if_neg h, show IntOp.cmpi .eq (f i) v = 0#1 from by simp only [IntOp.cmpi, beq_eq_false_iff_ne.mpr h]; rfl]
      exact BitVec.zero_add _

theorem card_fin_range (n : ℕ) (p : ℕ → Prop) [DecidablePred p] : (Finset.univ.filter fun r : Fin n => p r.val).card = ((Finset.range n).filter p).card := by
  rw [Finset.card_filter, Finset.card_filter, Finset.sum_range]

/-- A word of a small number, as an extended real; and back. -/
theorem sitofp_nat {n : ℕ} (h : n < 2 ^ 31) : FloatOps.sitofp (F := Ideal) .f32 (BitVec.ofNat 32 n) = ((n : ℝ) : EReal) := by
  show (((BitVec.ofNat 32 n).toInt : ℝ) : EReal) = _
  rw [BitVec.toInt_eq_toNat_of_lt (by rw [BitVec.toNat_ofNat]; omega), BitVec.toNat_ofNat, Nat.mod_eq_of_lt (by omega)]
  norm_cast

theorem fptosi_nat {n : ℕ} (h : n < 2 ^ 31) : FloatOps.fptosi (F := Ideal) (φ := .f32) 32 ((n : ℝ) : EReal) = BitVec.ofNat 32 n := by
  show Ideal.fptosi 32 ((n : ℝ) : EReal) = _
  unfold Ideal.fptosi
  rw [Ideal.toIntClamped_coe, if_pos (Nat.cast_nonneg n), Int.floor_natCast]
  rw [min_eq_right (by omega), max_eq_right (by omega)]
  exact BitVec.ofInt_natCast 32 n

theorem sum_nat {ι : Type} (s : Finset ι) (f : ι → ℕ) : ∑ i ∈ s, (((f i : ℕ) : ℝ) : EReal) = (((∑ i ∈ s, f i : ℕ) : ℝ) : EReal) := by
  classical
  induction s using Finset.induction_on with
  | empty => simp
  | insert i s hi ih => rw [Finset.sum_insert hi, Finset.sum_insert hi, ih, Nat.cast_add, EReal.coe_add]

/-- The starts of the bins: the counts of the lower ones, added up. -/
theorem fptosi_below (f : Fin 64 → ℕ) (hf : ∀ x, f x ≤ 32768) (k : Fin 64) :
    FloatOps.fptosi (F := Ideal) (φ := .f32) 32 (∑ x : Fin 64, FloatOps.sitofp (F := Ideal) .f32 (BitVec.ofNat 32 (f x)) *
        FloatOps.sitofp (F := Ideal) .f32 (BitVec.setWidth 32 (IntOp.cmpi .slt (BitVec.ofNat 32 x.val) (BitVec.ofNat 32 k.val))))
      = BitVec.ofNat 32 (∑ x : Fin 64, if x.val < k.val then f x else 0) := by
  have hx (x : Fin 64) : FloatOps.sitofp (F := Ideal) .f32 (BitVec.ofNat 32 (f x)) *
      FloatOps.sitofp (F := Ideal) .f32 (BitVec.setWidth 32 (IntOp.cmpi .slt (BitVec.ofNat 32 x.val) (BitVec.ofNat 32 k.val)))
      = (((if x.val < k.val then f x else 0 : ℕ) : ℝ) : EReal) := by
    rw [sitofp_nat (by have := hf x; omega)]
    have hc : (IntOp.cmpi .slt (BitVec.ofNat 32 x.val) (BitVec.ofNat 32 k.val)) = BitVec.ofBool (decide (x.val < k.val)) := by
      show BitVec.ofBool ((BitVec.ofNat 32 x.val).slt (BitVec.ofNat 32 k.val)) = _
      rw [BitVec.slt, toInt_small (by omega), toInt_small (by omega)]
      congr 1
      simp
    rw [hc]
    by_cases h : x.val < k.val
    · rw [if_pos h, decide_eq_true h, show BitVec.setWidth 32 (BitVec.ofBool true) = BitVec.ofNat 32 1 from rfl, sitofp_nat (by omega), Nat.cast_one, EReal.coe_one, mul_one]
    · rw [if_neg h, decide_eq_false h, show BitVec.setWidth 32 (BitVec.ofBool false) = BitVec.ofNat 32 0 from rfl, sitofp_nat (by omega), Nat.cast_zero, EReal.coe_zero, mul_zero]
  rw [Finset.sum_congr rfl fun x _ => hx x, sum_nat]
  refine fptosi_nat (lt_of_le_of_lt (Finset.sum_le_card_nsmul _ _ 32768 fun x _ => ?_) (by simp))
  have := hf x
  split <;> omega

/-- The balance term, from the experts' summed softmax rows and the counts. -/
def balance (S : Fin 64 → EReal) (n : Fin 64 → ℕ) : EReal :=
  (∑ x : Fin 64, S x * (Ideal.div ((n x : ℝ) : EReal) (∑ x : Fin 64, ((n x : ℝ) : EReal)) + Ideal.ofBits .f32 897988541#32)) * Ideal.ofBits .f32 1115684864#32

/-! ## The tokens -/

variable (X : Fin 32768 → Fin 4096 → EReal) (W : Fin 512 → Fin 4096 → EReal) (G : Fin 64 → Fin 512 → EReal) (b : EReal)

/-- A token's number as an index. -/
def tok (t : ℕ) : Fin 32768 := ⟨t % 32768, Nat.mod_lt _ (by omega)⟩

/-- Token `t`'s logits, -/
def lg (t : ℕ) : Fin 64 → EReal := logit (X (tok t)) W G
/-- its expert, -/
def ex (t : ℕ) : Fin 64 := first (gate (lg X W G t) b)
/-- and that as a word. -/
def eid (t : ℕ) : BitVec 32 := BitVec.ofNat 32 (ex X W G b t).val

theorem eid_toNat (t : ℕ) : (eid X W G b t).toNat = (ex X W G b t).val := by
  unfold eid
  rw [BitVec.toNat_ofNat]
  exact Nat.mod_eq_of_lt (by have := (ex X W G b t).isLt; omega)

theorem eid_lt (t : ℕ) : (eid X W G b t).toNat < 64 := by
  rw [eid_toNat]; exact (ex X W G b t).isLt

end Cert.Route
-- ==== Proof.Pays.lean ====
/-
  What the router computes at a point, read at an element over the extended reals.
-/
module

public import proofs.«01_k».proof.Proof.RouterBody
public import proofs.«01_k».proof.Proof.Spec
public import Idealize.ShloMosaic.Lib.Pointwise

@[expose] public section

set_option maxRecDepth 16384

noncomputable section

namespace Cert.KernelIdeal.Sort

open Idealize.ShloMosaic
open Cert.KernelIdeal
open Cert.KernelIdeal.Gen (k0_pay1 k0_pay2 k0_pay3 k0_pay4 k0_pay5 k0_pay6 k0_pay7 k0_pay8 k0_pay9 k0_pay10 k0_pay11 k0_pay12)
open Cert.Route
open Facts₀ Facts

/-- A block's row of logits. -/
def lrow (x : Vec Ideal S1024x4096 .f32) (w : Vec Ideal S512x4096 .f32) (g : Vec Ideal S64x512 .f32) (r : Fin 1024) : Fin 64 → EReal :=
  logit (fun i => x (ix2 r i)) (fun k i => w (ix2 k i)) fun c k => g (ix2 c k)

theorem pay6_at (x : Vec Ideal S1024x4096 .f32) (w : Vec Ideal S512x4096 .f32) (g : Vec Ideal S64x512 .f32) (r : Fin 1024) (c : Fin 64) :
    k0_pay6 x w g (ix2 r c) = lrow x w g r c := by
  pointwise [k0_pay6]
  rfl

theorem pay7_at (x : Vec Ideal S1024x4096 .f32) (w : Vec Ideal S512x4096 .f32) (g : Vec Ideal S64x512 .f32) (b : Vec Ideal S1x1 .f32)
    (r : Fin 1024) (c : Fin 64) :
    k0_pay7 x w g b (ix2 r c)
      = if gate (lrow x w g r) (b (ix2 0 0)) c = top (gate (lrow x w g r) (b (ix2 0 0))) then BitVec.ofNat 32 c.val else 64#32 := by
  pointwise [k0_pay7]
  simp only [pay6_at]
  unfold gate top temp small negInf
  congr

theorem pay8_at (v : IVec S1024x64 32) (r : Fin 1024) :
    k0_pay8 v (ix2 r 0) = Finset.univ.fold IntOp.minsi 2147483647#32 fun c => v (ix2 r c) := by
  pointwise [k0_pay8]

/-- The expert of a row of a block. -/
def erow (x : Vec Ideal S1024x4096 .f32) (w : Vec Ideal S512x4096 .f32) (g : Vec Ideal S64x512 .f32) (b : Vec Ideal S1x1 .f32) (r : Fin 1024) :
    BitVec 32 := BitVec.ofNat 32 (first (gate (lrow x w g r) (b (ix2 0 0)))).val

theorem pay8_pay7 (x : Vec Ideal S1024x4096 .f32) (w : Vec Ideal S512x4096 .f32) (g : Vec Ideal S64x512 .f32) (b : Vec Ideal S1x1 .f32)
    (r : Fin 1024) : k0_pay8 (k0_pay7 x w g b) (ix2 r 0) = erow x w g b r := by
  rw [pay8_at]
  simp only [pay7_at]
  exact minsi_first _

theorem pay9_at (v : IVec S1024x64 32) (r : Fin 1) (a : Fin 8) (c : Fin 128) :
    k0_pay9 v (ix3 r a c) = k0_pay8 v (ix2 ⟨a.val * 128 + c.val, by omega⟩ 0) := by
  pointwise [k0_pay9]

theorem pay11_at (v : IVec S1024x64 32) (a : Vec Ideal S1x64 .i32) (c : Fin 64) :
    k0_pay11 cols v a (ix2 0 c)
      = IntOp.addi (a (ix2 0 c)) (BitVec.ofNat 32 (Finset.univ.filter fun r : Fin 1024 => k0_pay8 v (ix2 r 0) = BitVec.ofNat 32 c.val).card) := by
  pointwise [k0_pay11, cols]
  rw [← fold_count]

theorem pay12_at (v : FVec Ideal S1024x64 .f32) (a : Vec Ideal S1x64 .f32) (c : Fin 64) :
    k0_pay12 v a (ix2 0 c) = a (ix2 0 c) + ∑ r : Fin 1024, soft (fun c => v (ix2 r c)) c := by
  pointwise [k0_pay12]
  rfl

theorem pay10_at (a : Vec Ideal S1x64 .i32) (r : Fin 1) (c : Fin 1) (d : Fin 64) : k0_pay10 (F := Ideal) a (ix3 r c d) = a (ix2 0 d) := by
  pointwise [k0_pay10]

theorem pay4_at (c : Fin 64) : k0_pay4 (ix2 0 c) = 0#32 := by
  pointwise [k0_pay4]

theorem pay5_at (c : Fin 64) : (k0_pay5 (F := Ideal)) (ix2 0 c) = 0 := by
  pointwise [k0_pay5]

theorem pay2_at (a : Vec Ideal S1x64 .i32) (c : Fin 64) :
    k0_pay2 (F := Ideal) a (ix2 0 c)
      = FloatOps.fptosi (F := Ideal) (φ := .f32) 32 (∑ x : Fin 64, FloatOps.sitofp (F := Ideal) .f32 (a (ix2 0 x)) *
          FloatOps.sitofp (F := Ideal) .f32 (BitVec.setWidth 32 (IntOp.cmpi .slt (BitVec.ofNat 32 x.val) (BitVec.ofNat 32 c.val)))) := by
  pointwise [k0_pay2, k0_pay1]

theorem pay3_at (v : Vec Ideal S1x64 .i32) (a : Vec Ideal S1x64 .f32) :
    k0_pay3 v a (ix2 0 0)
      = (∑ x : Fin 64, a (ix2 0 x) * (Ideal.div (FloatOps.sitofp (F := Ideal) .f32 (v (ix2 0 x))) (∑ x : Fin 64, FloatOps.sitofp (F := Ideal) .f32 (v (ix2 0 x)))
          + Ideal.ofBits .f32 897988541#32)) * Ideal.ofBits .f32 1115684864#32 := by
  pointwise [k0_pay3, k0_pay1]
  simp only [Fin.sum_univ_one, Finset.univ_unique, Finset.sum_singleton]

end Cert.KernelIdeal.Sort
-- ==== Proof.Blocks.lean ====
/-
  The router's arrays after its run, from what its points leave; its blocks read at an element.
-/
module

public import proofs.«01_k».proof.Proof.Launch
public import proofs.«01_k».proof.Proof.Pays
public import Idealize.ShloMosaic.Lib.Pointwise
public import Idealize.ShloMosaic.Lib.Pipeline.ValueKit

@[expose] public section

set_option maxRecDepth 16384

noncomputable section

namespace Cert.KernelIdeal.Sort

open Idealize.ShloMosaic
open Idealize.ShloMosaic.TcCoe
open Cert.KernelIdeal
open Cert.KernelIdeal.Gen (k0_pay2 k0_pay3 k0_pay6 k0_pay7 k0_pay8 k0_pay9 k0_pay10)
open Cert.Route
open Facts₀ Facts

variable (V : (c : Dev nD) → (b : Ref sig .tc) → Buf (Elt Ideal) ((c : Thread nD τ).loc b)) (c : Dev nD)

theorem blkX_at (t : Fin cfg0.N) (r : Fin 1024) (i : Fin 4096) (n : Fin 32768) (h : n.val = 1024 * t.val + r.val) :
    blkX V c t (ix2 r i) = V c main_arg0 (ix2 n i) := by
  have hi : ∀ t : Fin grid0.N, (cfg0.win 0).index t 0 = t.val ∧ (cfg0.win 0).index t 1 = 0 := by decide +kernel
  have h0 := (hi t).1
  have h1 := (hi t).2
  unfold blkX
  blk_ext [h0, h1]

theorem blkW_at (t : Fin cfg0.N) (r : Fin 512) (i : Fin 4096) : blkW V c t (ix2 r i) = V c main_arg1 (ix2 r i) := by
  have hi : ∀ t : Fin grid0.N, (cfg0.win 1).index t 0 = 0 ∧ (cfg0.win 1).index t 1 = 0 := by decide +kernel
  have h0 := (hi t).1
  have h1 := (hi t).2
  unfold blkW
  blk_ext [h0, h1]

theorem blkG_at (t : Fin cfg0.N) (r : Fin 64) (i : Fin 512) : blkG V c t (ix2 r i) = V c main_arg2 (ix2 r i) := by
  have hi : ∀ t : Fin grid0.N, (cfg0.win 2).index t 0 = 0 ∧ (cfg0.win 2).index t 1 = 0 := by decide +kernel
  have h0 := (hi t).1
  have h1 := (hi t).2
  unfold blkG
  blk_ext [h0, h1]

theorem blkB_at (t : Fin cfg0.N) : blkB V c t (ix2 0 0) = V c main_v0 (ix2 0 0) := by
  have hi : ∀ t : Fin grid0.N, (cfg0.win 3).index t 0 = 0 ∧ (cfg0.win 3).index t 1 = 0 := by decide +kernel
  have h0 := (hi t).1
  have h1 := (hi t).2
  unfold blkB
  blk_ext [h0, h1]

theorem arr4 (B : S32x8x128.Idx → BitVec 32)
    (h : ∀ (t : Fin cfg0.N) (r : Fin 1) (a : Fin 8) (b : Fin 128) (x : Fin 32), x.val = t.val → k0_pay9 (choice V c t) (ix3 r a b) = B (ix3 x a b)) :
    (dat V c).arrAt 4 cfg0.N = B := by
  have hi : ∀ t : Fin grid0.N, (cfg0.win 4).index t 0 = t.val ∧ (cfg0.win 4).index t 1 = 0 ∧ (cfg0.win 4).index t 2 = 0 := by decide +kernel
  refine (dat V c).arrAt_eq_of_covers 4 _ (by decide +kernel) fun t hf y => ?_
  have h0 := (hi t).1
  have h1 := (hi t).2.1
  have h2 := (hi t).2.2
  have hN : t.val < 32 := lt_of_lt_of_eq t.isLt Gen.N_0
  blk_simp
  rw [after_4]
  refine (congrArg (k0_pay9 (choice V c t)) (?_ : y = ix3 (y 0) (y 1) (y 2))).trans ((h t (y 0) (y 1) (y 2) ⟨t.val, hN⟩ rfl).trans ?_)
  · exact eq_ix3 y
  · blk_ext [h0, h1, h2]

theorem arr5 (B : S32x1x64.Idx → BitVec 32)
    (h : ∀ (t : Fin cfg0.N) (r : Fin 1) (a : Fin 1) (b : Fin 64) (x : Fin 32), x.val = t.val → k0_pay10 (F := Ideal) (cntAt V c t.val) (ix3 r a b) = B (ix3 x a b)) :
    (dat V c).arrAt 5 cfg0.N = B := by
  have hi : ∀ t : Fin grid0.N, (cfg0.win 5).index t 0 = t.val ∧ (cfg0.win 5).index t 1 = 0 ∧ (cfg0.win 5).index t 2 = 0 := by decide +kernel
  refine (dat V c).arrAt_eq_of_covers 5 _ (by decide +kernel) fun t hf y => ?_
  have h0 := (hi t).1
  have h1 := (hi t).2.1
  have h2 := (hi t).2.2
  have hN : t.val < 32 := lt_of_lt_of_eq t.isLt Gen.N_0
  blk_simp
  rw [after_5]
  refine (congrArg (k0_pay10 (F := Ideal) (cntAt V c t.val)) (?_ : y = ix3 (y 0) (y 1) (y 2))).trans ((h t (y 0) (y 1) (y 2) ⟨t.val, hN⟩ rfl).trans ?_)
  · exact eq_ix3 y
  · blk_ext [h0, h1, h2]

theorem arr6 : (dat V c).arrAt 6 cfg0.N = cntAt V c 32 := by
  refine (dat V c).arrAt_eq_of_after_last 6 (pt 31) (by decide +kernel) _ fun j => ?_
  blk_simp
  rw [after_6]
  rfl

theorem arr7 : (dat V c).arrAt 7 cfg0.N = k0_pay2 (F := Ideal) (cntAt V c 32) := by
  refine (dat V c).arrAt_eq_of_after_last 7 (pt 31) (by decide +kernel) _ fun j => ?_
  blk_simp
  rw [after_7]
  rfl

theorem arr8 : (dat V c).arrAt 8 cfg0.N = k0_pay3 (cntAt V c 32) (accAt V c 32) := by
  refine (dat V c).arrAt_eq_of_after_last 8 (pt 31) (by decide +kernel) _ fun j => ?_
  blk_simp
  rw [after_8]
  rfl

end Cert.KernelIdeal.Sort
-- ==== Proof.Values.lean ====
/-
  The router's counts and sums along the grid, from the tokens' logits.
-/
module

public import proofs.«01_k».proof.Proof.Blocks

@[expose] public section

set_option maxRecDepth 16384

noncomputable section

namespace Cert.KernelIdeal.Sort

open Idealize.ShloMosaic
open Idealize.ShloMosaic.TcCoe
open Cert.KernelIdeal
open Cert.KernelIdeal.Gen (k0_pay2 k0_pay3 k0_pay6 k0_pay7 k0_pay8 k0_pay9 k0_pay10)
open Cert.Route Cert.Counting
open Facts₀ Facts

variable (V : (c : Dev nD) → (b : Ref sig .tc) → Buf (Elt Ideal) ((c : Thread nD τ).loc b)) (c : Dev nD)
variable {X : Fin 32768 → Fin 4096 → EReal} {W : Fin 512 → Fin 4096 → EReal} {G : Fin 64 → Fin 512 → EReal} {b : EReal}
  (hX : ∀ n i, V c main_arg0 (ix2 n i) = X n i) (hW : ∀ n i, V c main_arg1 (ix2 n i) = W n i)
  (hG : ∀ n i, V c main_arg2 (ix2 n i) = G n i) (hb : V c main_v0 (ix2 0 0) = b)

include hX hW hG

theorem lrow_eq (t : Fin cfg0.N) (r : Fin 1024) : lrow (blkX V c t) (blkW V c t) (blkG V c t) r = lg X W G (1024 * t.val + r.val) := by
  have hN : t.val < 32 := lt_of_lt_of_eq t.isLt Gen.N_0
  have hr := r.isLt
  have htok : (Route.tok (1024 * t.val + r.val)).val = 1024 * t.val + r.val := Nat.mod_eq_of_lt (by omega)
  unfold lrow lg
  simp only [blkW_at, blkG_at, hW, hG, blkX_at V c t r _ (Route.tok (1024 * t.val + r.val)) htok, hX]

theorem accAt_eq (n : ℕ) (hn : n ≤ 32) (k : Fin 64) : accAt V c n (ix2 0 k) = ∑ t ∈ Finset.range (1024 * n), soft (lg X W G t) k := by
  induction n with
  | zero => exact pay5_at k
  | succ n ih =>
    have hp : (pt n).val = n := Nat.mod_eq_of_lt (by omega)
    show Gen.k0_pay12 (k0_pay6 (blkX V c (pt n)) (blkW V c (pt n)) (blkG V c (pt n))) (accAt V c n) (ix2 0 k) = _
    rw [pay12_at, ih (by omega), Nat.mul_succ, Finset.sum_range_add, Finset.sum_range (n := 1024)]
    simp only [pay6_at, lrow_eq V c hX hW hG, hp]

include hb

theorem choice_at (t : Fin cfg0.N) (r : Fin 1024) : k0_pay8 (choice V c t) (ix2 r 0) = eid X W G b (1024 * t.val + r.val) := by
  unfold choice
  rw [pay8_pay7]
  unfold erow eid ex
  rw [lrow_eq V c hX hW hG, blkB_at, hb]

theorem cntAt_eq (n : ℕ) (hn : n ≤ 32) (k : Fin 64) :
    cntAt V c n (ix2 0 k) = BitVec.ofNat 32 (cnt (eid X W G b) (1024 * n) (BitVec.ofNat 32 k.val)) := by
  induction n with
  | zero => exact pay4_at k
  | succ n ih =>
    have hp : (pt n).val = n := Nat.mod_eq_of_lt (by omega)
    show Gen.k0_pay11 cols (choice V c (pt n)) (cntAt V c n) (ix2 0 k) = _
    rw [pay11_at, ih (by omega), Nat.mul_succ, cnt_add, BitVec.ofNat_add]
    simp only [choice_at V c hX hW hG hb, hp]
    rw [card_fin_range 1024 fun l => eid X W G b (1024 * n + l) = BitVec.ofNat 32 k.val]
    rfl

omit hX hW hG hb

/-- The tokens below a bin are those of the lower bins. -/
theorem below_sum (e : ℕ → BitVec 32) (T k : ℕ) (hk : k ≤ 64) :
    below T e k = ∑ x : Fin 64, if x.val < k then cnt e T (BitVec.ofNat 32 x.val) else 0 := by
  rw [Finset.sum_fin_eq_sum_range]
  have h1 : (∑ x ∈ Finset.range 64, if h : x < 64 then (if (⟨x, h⟩ : Fin 64).val < k then cnt e T (BitVec.ofNat 32 x) else 0) else 0)
      = ∑ x ∈ Finset.range k, cnt e T (BitVec.ofNat 32 x) := by
    rw [← Finset.sum_subset (Finset.range_subset_range.mpr hk)]
    · refine Finset.sum_congr rfl fun x hx => ?_
      have := Finset.mem_range.mp hx
      rw [dif_pos (by omega), if_pos this]
    · intro x hx hx'
      rw [dif_pos (Finset.mem_range.mp hx), if_neg fun h => hx' (Finset.mem_range.mpr h)]
  refine Eq.trans ?_ h1.symm
  clear h1
  induction k with
  | zero => simp [below]
  | succ k ih =>
    rw [Finset.sum_range_succ, ← ih (by omega)]
    unfold below cnt
    rw [← Finset.card_union_of_disjoint]
    · congr 1
      ext t
      simp only [Finset.mem_filter, Finset.mem_union]
      have hw : e t = BitVec.ofNat 32 k ↔ (e t).toNat = k := by
        rw [← BitVec.toNat_inj, BitVec.toNat_ofNat, Nat.mod_eq_of_lt (by omega)]
      rw [hw]
      constructor
      · rintro ⟨h, h'⟩
        rcases Nat.lt_or_ge (e t).toNat k with h2 | h2
        · exact Or.inl ⟨h, h2⟩
        · exact Or.inr ⟨h, by omega⟩
      · rintro (⟨h, h'⟩ | ⟨h, h'⟩)
        · exact ⟨h, by omega⟩
        · exact ⟨h, by omega⟩
    · refine Finset.disjoint_filter.mpr fun t _ h h' => ?_
      rw [h', BitVec.toNat_ofNat, Nat.mod_eq_of_lt (by omega)] at h
      exact lt_irrefl _ h

/-- The bins' starts, as the router leaves them. -/
theorem pay2_eq (e : ℕ → BitVec 32) (A : Vec Ideal S1x64 .i32) (hA : ∀ k : Fin 64, A (ix2 0 k) = BitVec.ofNat 32 (cnt e toks (BitVec.ofNat 32 k.val))) (k : Fin 64) :
    k0_pay2 (F := Ideal) A (ix2 0 k) = BitVec.ofNat 32 (below toks e k.val) := by
  rw [pay2_at, below_sum e toks k.val (by omega)]
  simp only [hA]
  exact fptosi_below (fun x => cnt e toks (BitVec.ofNat 32 x.val)) (fun x => (cnt_le _ _ _).trans_eq toks_eq) k

theorem pay3_eq (e : ℕ → BitVec 32) (A : Vec Ideal S1x64 .i32) (hA : ∀ k : Fin 64, A (ix2 0 k) = BitVec.ofNat 32 (cnt e toks (BitVec.ofNat 32 k.val)))
    (M : Vec Ideal S1x64 .f32) (S : Fin 64 → EReal) (hM : ∀ k, M (ix2 0 k) = S k) :
    k0_pay3 A M (ix2 0 0) = balance S fun x => cnt e toks (BitVec.ofNat 32 x.val) := by
  have h31 (x : Fin 64) : cnt e toks (BitVec.ofNat 32 x.val) < 2 ^ 31 := lt_of_le_of_lt ((cnt_le _ _ _).trans_eq toks_eq) (by omega)
  rw [pay3_at]
  simp only [hA, hM, sitofp_nat (h31 _)]
  rfl

end Cert.KernelIdeal.Sort
-- ==== Proof.Result.lean ====
/-
  The kernel's arrays over the extended reals: the sort's operands are those of the tokens' experts, and the results.
-/
module

public import proofs.«01_k».proof.Proof.Values
public import Idealize.ShloMosaic.Lib.Routing.OpsSet
public import Idealize.ShloMosaic.Lib.Routing.OpsPair

@[expose] public section

set_option maxRecDepth 16384

noncomputable section

namespace Cert.KernelIdeal.Sort

open Idealize.ShloMosaic
open Idealize.ShloMosaic.TcCoe
open Idealize.ShloMosaic.StableHlo
open Cert.KernelIdeal
open Cert.KernelIdeal.Gen (k0_pay2 k0_pay3 k0_pay6 k0_pay7 k0_pay8 k0_pay9 k0_pay10)
open Cert.Route Cert.Counting
open Facts₀ Facts

variable (m : (ℓ : Loc nD τ sig) → Buf (Elt Ideal) ℓ) (d : Dev nD)

/-! ## The arguments, by coordinates -/

def aX (n : Fin 32768) (i : Fin 4096) : EReal := (m (d, Proc.devRef .tc (main_arg0 : Ref sig .tc)) : Vec Ideal S32768x4096 .f32) (ix2 n i)
def aW (n : Fin 512) (i : Fin 4096) : EReal := (m (d, Proc.devRef .tc (main_arg1 : Ref sig .tc)) : Vec Ideal S512x4096 .f32) (ix2 n i)
def aG (n : Fin 64) (i : Fin 512) : EReal := (m (d, Proc.devRef .tc (main_arg2 : Ref sig .tc)) : Vec Ideal S64x512 .f32) (ix2 n i)
def aB : EReal := (m (d, Proc.devRef .tc (main_arg3 : Ref sig .tc)) : Vec Ideal S1 .f32) (ix1 0)

/-- The tokens' experts. -/
def E (t : ℕ) : BitVec 32 := eid (aX m d) (aW m d) (aG m d) (aB m d) t

theorem E_lt : ∀ t < toks, (E m d t).toNat < 64 := fun t _ => eid_lt _ _ _ _ t

theorem W1_of_ne (b : DevRef τ sig) (h : b ≠ r0) : W1 m d b = m (d, b) := by
  unfold W1
  exact (op0 (F := Ideal)).result_of_not_mem _ (by simpa using h)

theorem hX (n : Fin 32768) (i : Fin 4096) : V1 m d main_arg0 (ix2 n i) = aX m d n i := congrFun (W1_of_ne m d (Proc.devRef .tc (main_arg0 : Ref sig .tc)) (by decide)) _
theorem hW (n : Fin 512) (i : Fin 4096) : V1 m d main_arg1 (ix2 n i) = aW m d n i := congrFun (W1_of_ne m d (Proc.devRef .tc (main_arg1 : Ref sig .tc)) (by decide)) _
theorem hG (n : Fin 64) (i : Fin 512) : V1 m d main_arg2 (ix2 n i) = aG m d n i := congrFun (W1_of_ne m d (Proc.devRef .tc (main_arg2 : Ref sig .tc)) (by decide)) _
theorem hB : V1 m d main_v0 (ix2 0 0) = aB m d := by
  have h : W1 m d r0 = shapeCast S1x1 (m (d, Proc.devRef .tc (main_arg3 : Ref sig .tc)) : Vec Ideal S1 .f32) shapeCasts_S1_S1x1 := by
    unfold W1 W0
    after_results_simp
    rfl
  refine (congrFun h _).trans ?_
  unfold aB
  pointwise

theorem cnt_at (n : ℕ) (hn : n ≤ 32) (k : Fin 64) : cntAt (V1 m) d n (ix2 0 k) = BitVec.ofNat 32 (cnt (E m d) (1024 * n) (BitVec.ofNat 32 k.val)) :=
  cntAt_eq (V1 m) d (hX m d) (hW m d) (hG m d) (hB m d) n hn k

/-! ## The router's results -/

def T2 : S32x8x128.Idx → BitVec 32 := fun x => E m d (1024 * (x 0).val + 128 * (x 1).val + (x 2).val)
def T3 : S32x1x64.Idx → BitVec 32 := fun x => BitVec.ofNat 32 (cnt (E m d) (1024 * (x 0).val) (BitVec.ofNat 32 (x 2).val))
def T6 : S1x64.Idx → BitVec 32 := fun x => BitVec.ofNat 32 (cnt (E m d) toks (BitVec.ofNat 32 (x 1).val))
def T7 : S1x64.Idx → BitVec 32 := fun x => BitVec.ofNat 32 (below toks (E m d) (x 1).val)

theorem T6_at (k : Fin 64) : T6 m d (ix2 0 k) = BitVec.ofNat 32 (cnt (E m d) toks (BitVec.ofNat 32 k.val)) := by
  unfold T6
  rfl

theorem arr4_eq : (dat (V1 m) d).arrAt 4 cfg0.N = T2 m d := by
  refine arr4 (V1 m) d _ fun t r a b x hx => ?_
  rw [pay9_at, choice_at (V1 m) d (hX m d) (hW m d) (hG m d) (hB m d)]
  show E m d _ = E m d (1024 * x.val + 128 * a.val + b.val)
  congr 1
  show 1024 * t.val + (a.val * 128 + b.val) = _
  omega

theorem arr5_eq : (dat (V1 m) d).arrAt 5 cfg0.N = T3 m d := by
  refine arr5 (V1 m) d _ fun t r a b x hx => ?_
  have hN : t.val < 32 := lt_of_lt_of_eq t.isLt Gen.N_0
  rw [pay10_at, cnt_at m d _ (by omega), ← hx]
  rfl

theorem idx_row {n : ℕ} (j : (⟨2, ![1, n]⟩ : Shape).Idx) : j = ix2 0 (j 1) := by
  refine (eq_ix2 j).trans (congrArg (fun a => ix2 a (j 1)) (Subsingleton.elim (α := Fin 1) _ _))

theorem cnt32 : cntAt (V1 m) d 32 = T6 m d := by
  funext j
  rw [idx_row j]
  exact cnt_at m d 32 (le_refl _) (j 1)

theorem arr6_eq : (dat (V1 m) d).arrAt 6 cfg0.N = T6 m d := (arr6 (V1 m) d).trans (cnt32 m d)

theorem arr7_eq : (dat (V1 m) d).arrAt 7 cfg0.N = T7 m d := by
  refine (arr7 (V1 m) d).trans (funext fun j => ?_)
  rw [idx_row j, cnt32]
  exact pay2_eq (E m d) (T6 m d) (T6_at m d) (j 1)

/-- The balance term. -/
def laux : EReal :=
  balance (fun k => ∑ t ∈ Finset.range toks, soft (lg (aX m d) (aW m d) (aG m d) t) k) fun x => cnt (E m d) toks (BitVec.ofNat 32 x.val)

theorem arr8_eq : (dat (V1 m) d).arrAt 8 cfg0.N = fun _ => laux m d := by
  refine (arr8 (V1 m) d).trans (funext fun j => ?_)
  rw [idx_row j, show j 1 = (0 : Fin 1) from Subsingleton.elim (α := Fin 1) _ _, cnt32]
  exact pay3_eq (E m d) (T6 m d) (T6_at m d) _ _ fun k => accAt_eq (V1 m) d (hX m d) (hW m d) (hG m d) 32 (le_refl _) k

/-! ## The host's tables -/

theorem W2_q0 : W2 m d q0 = T2 m d :=
  (Function.update_of_ne (by decide) _ _).trans <| (Function.update_of_ne (by decide) _ _).trans <| (Function.update_of_ne (by decide) _ _).trans <|
    (Function.update_of_ne (by decide) _ _).trans <| (Function.update_self _ _ _).trans (arr4_eq m d)
theorem W2_q1 : W2 m d q1 = T3 m d :=
  (Function.update_of_ne (by decide) _ _).trans <| (Function.update_of_ne (by decide) _ _).trans <| (Function.update_of_ne (by decide) _ _).trans <|
    (Function.update_self _ _ _).trans (arr5_eq m d)
theorem W2_q2 : W2 m d q2 = T6 m d :=
  (Function.update_of_ne (by decide) _ _).trans <| (Function.update_of_ne (by decide) _ _).trans <| (Function.update_self _ _ _).trans (arr6_eq m d)
theorem W2_q3 : W2 m d q3 = T7 m d :=
  (Function.update_of_ne (by decide) _ _).trans <| (Function.update_self _ _ _).trans (arr7_eq m d)
theorem W2_q4 : W2 m d q4 = fun _ => laux m d := (Function.update_self _ _ _).trans (arr8_eq m d)

theorem W8_2 : W8 m d r2 = A2 (E m d) := by
  have h : W8 m d r2 = shapeCast S256x128 (W2 m d q0 : IVec S32x8x128 32) shapeCasts_S32x8x128_S256x128 := by
    unfold W8
    after_results_simp
    rfl
  rw [h, W2_q0]
  funext j
  obtain ⟨a, c, rfl⟩ : ∃ (a : Fin 256) (c : Fin 128), j = ix2 a c := ⟨j 0, j 1, eq_ix2 j⟩
  show _ = E m d (128 * a.val + c.val)
  pointwise
  show E m d _ = _
  congr 1
  dsimp only [ix3]
  omega

/-- Where an update of the table of starts lands. -/
theorem lands (k : S32x64.Idx) (a : Fin 32) (c : Fin 128) :
    scatter_S32x128_S1_S32x64_01_n_1_0.resultIdx? k (fun _ => 0#32) = some (ix2 a c) ↔ (k 0).val = a.val ∧ (k 1).val = c.val := by
  have hs (q : Fin 2) : scatter_S32x128_S1_S32x64_01_n_1_0.start k (fun _ : S1.Idx => 0#32) q = 0 := by
    unfold ScatterDims.start
    split <;> rfl
  have h0 : scatter_S32x128_S1_S32x64_01_n_1_0.window k 0 = (k 0).val := rfl
  have h1 : scatter_S32x128_S1_S32x64_01_n_1_0.window k 1 = (k 1).val := rfl
  rw [Routing.resultIdx?_eq_some]
  constructor
  · intro h
    have e0 := h 0
    have e1 := h 1
    rw [hs, h0] at e0
    rw [hs, h1] at e1
    exact ⟨by simpa using e0, by simpa using e1⟩
  · rintro ⟨e0, e1⟩ q
    match q with
    | ⟨0, _⟩ => exact (congrArg₂ (· + ·) (hs 0) (congrArg Nat.cast (h0.trans e0))).trans (by simp)
    | ⟨1, _⟩ => exact (congrArg₂ (· + ·) (hs 1) (congrArg Nat.cast (h1.trans e1))).trans (by simp)

theorem W8_8 : W8 m d r8 = A8 (E m d) := by
  have h : W8 m d r8 = Host.scatter scatter_S32x128_S1_S32x64_01_n_1_0 (fun _ b => b) (fun _ : S32x128.Idx => 0#32) (fun _ : S1.Idx => 0#32)
      (addi (shapeCast S32x64 (W2 m d q1 : IVec S32x1x64 32) shapeCasts_S32x1x64_S32x64) (broadcastInDim S32x64 ![0, 1] bcast_S1x64_S32x64_0_1 (W2 m d q3 : IVec S1x64 32))) := by
    unfold W8
    after_results_simp
    rfl
  rw [h, W2_q1, W2_q3]
  funext j
  obtain ⟨a, c, rfl⟩ : ∃ (a : Fin 32) (c : Fin 128), j = ix2 a c := ⟨j 0, j 1, eq_ix2 j⟩
  show _ = bases (E m d) a.val c.val
  unfold bases
  by_cases hc : c.val < 64
  · rw [if_pos hc]
    have key : addi (shapeCast S32x64 (T3 m d) shapeCasts_S32x1x64_S32x64) (broadcastInDim S32x64 ![0, 1] bcast_S1x64_S32x64_0_1 (T7 m d)) (ix2 a ⟨c.val, hc⟩)
        = BitVec.ofNat 32 (below toks (E m d) c.val + cnt (E m d) (1024 * a.val) (BitVec.ofNat 32 c.val)) := by
      pointwise
      exact (BitVec.ofNat_add _ _).symm.trans (congrArg (BitVec.ofNat 32) (Nat.add_comm _ _))
    refine Routing.scatter_set_hit _ _ _ _ _ _ (fun k hk => ?_) (ix2 a ⟨c.val, hc⟩) ((lands _ a c).mpr ⟨rfl, rfl⟩)
    obtain ⟨e0, e1⟩ := (lands k a c).mp hk
    rw [← key]
    congr 1
    rw [eq_ix2 k]
    exact congrArg₂ ix2 (Fin.ext e0) (Fin.ext e1)
  · rw [if_neg hc]
    refine Routing.scatter_set_miss _ _ _ _ _ fun k hk => hc ?_
    rw [← ((lands k a c).mp hk).2]
    exact (k 1).isLt

/-! ## The run -/

abbrev r10 : DevRef τ sig := Proc.devRef .tc (main_v10 : Ref sig .tc)

variable (ρ : Dev nD → PrngReg)

theorem W10_of_ne (e : Dev nD → ℕ → BitVec 32) (b : DevRef τ sig) (h : b ≠ r10) : W10 e m d b = W9 e m d b := by
  unfold W10
  exact (op10 (F := Ideal)).result_of_not_mem _ (by simpa using h)

theorem W10_9 : W10 (E m) m d r9 = A9 (E m d) := (W10_of_ne m d _ r9 (by decide)).trans (W9_9 _ m d)

theorem W8_keep (b : DevRef τ sig) (hb : b ∈ ({q2, q4, Proc.devRef .tc (main_arg0 : Ref sig .tc), Proc.devRef .tc (main_arg1 : Ref sig .tc),
    Proc.devRef .tc (main_arg2 : Ref sig .tc), Proc.devRef .tc (main_arg3 : Ref sig .tc)} : Finset (DevRef τ sig))) : W8 m d b = W2 m d b := by
  unfold W8
  simp only [Finset.mem_insert, Finset.mem_singleton] at hb
  rcases hb with rfl | rfl | rfl | rfl | rfl | rfl <;> after_results_simp

theorem W10_q2 : W10 (E m) m d q2 = T6 m d :=
  (W10_of_ne m d _ q2 (by decide)).trans <| (Function.update_of_ne (by decide) _ _).trans <| (W8_keep m d q2 (by decide)).trans (W2_q2 m d)

theorem W10_10 : W10 (E m) m d r10 = fun _ => laux m d := by
  have h : W10 (E m) m d r10 = shapeCast S_ (W9 (E m) m d q4 : Vec Ideal S1x1 .f32) shapeCasts_S1x1_S_ := by
    unfold W10
    after_results_simp
    rfl
  rw [h, show W9 (E m) m d q4 = fun _ => laux m d from
    (Function.update_of_ne (by decide) _ _).trans <| (W8_keep m d q4 (by decide)).trans (W2_q4 m d)]
  rfl

theorem W10_arg (b : DevRef τ sig) (hb : b ∈ ({Proc.devRef .tc (main_arg0 : Ref sig .tc), Proc.devRef .tc (main_arg1 : Ref sig .tc),
    Proc.devRef .tc (main_arg2 : Ref sig .tc), Proc.devRef .tc (main_arg3 : Ref sig .tc)} : Finset (DevRef τ sig))) : W10 (E m) m d b = m (d, b) := by
  have h8 := W8_keep m d b (by simp only [Finset.mem_insert, Finset.mem_singleton] at hb ⊢; tauto)
  have h1 := W1_of_ne m d b (by rintro rfl; exact absurd hb (by decide))
  refine (W10_of_ne m d _ b (by rintro rfl; exact absurd hb (by decide))).trans <|
    (Function.update_of_ne (by rintro rfl; exact absurd hb (by decide)) _ _).trans <| h8.trans ?_
  rw [← h1]
  unfold W2
  simp only [Finset.mem_insert, Finset.mem_singleton] at hb
  rcases hb with rfl | rfl | rfl | rfl <;>
  exact (Function.update_of_ne (by decide) _ _).trans <| (Function.update_of_ne (by decide) _ _).trans <| (Function.update_of_ne (by decide) _ _).trans <|
    (Function.update_of_ne (by decide) _ _).trans (Function.update_of_ne (by decide) _ _)

/-- The kernel's run over the extended reals. -/
theorem run_ideal :
    θ_run (Cert.KernelIdeal.defs (F := Ideal)) (Cert.KernelIdeal.threads (F := Ideal)) ⟨m, fun _ => 0, ρ⟩
      fun r => (∀ (d : Dev nD) (b : DevRef τ sig), b ∈ arrs → r.2.mem (d, b) = W10 (E m) m d b) ∧ r.2.sem = fun _ => 0 :=
  run_main (E m) m ρ (E_lt m) (W8_2 m) (W8_8 m)

end Cert.KernelIdeal.Sort
-- ==== Proof.RefRun.lean ====
/-
  The reference: its operations in order, and the run that leaves each array at what they compute.
-/
module

public import proofs.«01_k».proof.ReferenceIdeal
public import proofs.«01_k».proof.Proof.Gen.ReferenceIdeal
public import Idealize.ShloMosaic.Lib.StableHlo
public import Idealize.ShloMosaic.Lib.StableHlo.Run
public import Idealize.ShloMosaic.Lib.Quiescent

@[expose] public section

noncomputable section

namespace Cert.ReferenceIdeal.Plain

open Idealize.ShloMosaic
open Idealize.ShloMosaic.TcCoe
open Idealize.SL Idealize.SL.RA Idealize.SL.BI Idealize.SL.Sem
open Idealize.ShloMosaic.StableHlo
open Cert.ReferenceIdeal
open Facts₀ Facts

variable {F : FTy → Type} [FloatOps F] [Facts]

/-! ## The operations, by stages -/

def opsLogit : List (HloOp τ sig (Elt F)) := [
  unary main_arg1 main_v0 ((transpose S4096x512 [1, 0] · transposes_S512x4096_S4096x512_1_0) : (⟨S512x4096, .f32⟩ : BufTy).Contents (Elt F) → (⟨S4096x512, .f32⟩ : BufTy).Contents (Elt F)),
  binary main_arg0 main_v0 main_v1 ((fun l r => Host.dotGeneral dot_S32768x4096_S4096x512_S32768x512_1_0_0_1_n_n none l r) : (⟨S32768x4096, .f32⟩ : BufTy).Contents (Elt F) → (⟨S4096x512, .f32⟩ : BufTy).Contents (Elt F) → (⟨S32768x512, .f32⟩ : BufTy).Contents (Elt F)),
  binary main_v1 main_v1 main_v2 (mulf : (⟨S32768x512, .f32⟩ : BufTy).Contents (Elt F) → (⟨S32768x512, .f32⟩ : BufTy).Contents (Elt F) → (⟨S32768x512, .f32⟩ : BufTy).Contents (Elt F)),
  nullary main_cst (constant S_ .f32 0x00000000#32),
  binary main_v2 main_cst main_v3 ((fun x v => Host.reduceAdd x v reducesTo_S32768x512_S32768_d1 h_S_) : (⟨S32768x512, .f32⟩ : BufTy).Contents (Elt F) → (⟨S_, .f32⟩ : BufTy).Contents (Elt F) → (⟨S32768, .f32⟩ : BufTy).Contents (Elt F)),
  unary main_v3 main_v4 (broadcastInDim S32768x1 ![0] bcast_S32768_S32768x1_0 : (⟨S32768, .f32⟩ : BufTy).Contents (Elt F) → (⟨S32768x1, .f32⟩ : BufTy).Contents (Elt F)),
  unary main_v4 main_v5 (Host.sqrt : (⟨S32768x1, .f32⟩ : BufTy).Contents (Elt F) → (⟨S32768x1, .f32⟩ : BufTy).Contents (Elt F)),
  binary main_arg2 main_arg2 main_v6 (mulf : (⟨S64x512, .f32⟩ : BufTy).Contents (Elt F) → (⟨S64x512, .f32⟩ : BufTy).Contents (Elt F) → (⟨S64x512, .f32⟩ : BufTy).Contents (Elt F)),
  nullary main_cst_0 (constant S_ .f32 0x00000000#32),
  binary main_v6 main_cst_0 main_v7 ((fun x v => Host.reduceAdd x v reducesTo_S64x512_S64_d1 h_S_) : (⟨S64x512, .f32⟩ : BufTy).Contents (Elt F) → (⟨S_, .f32⟩ : BufTy).Contents (Elt F) → (⟨S64, .f32⟩ : BufTy).Contents (Elt F)),
  unary main_v7 main_v8 (broadcastInDim S64x1 ![0] bcast_S64_S64x1_0 : (⟨S64, .f32⟩ : BufTy).Contents (Elt F) → (⟨S64x1, .f32⟩ : BufTy).Contents (Elt F)),
  unary main_v8 main_v9 (Host.sqrt : (⟨S64x1, .f32⟩ : BufTy).Contents (Elt F) → (⟨S64x1, .f32⟩ : BufTy).Contents (Elt F)),
  nullary main_cst_1 (constant S_ .f32 0x38D1B717#32),
  unary main_cst_1 main_v10 (broadcastInDim S32768x1 ![] bcast_S_S32768x1 : (⟨S_, .f32⟩ : BufTy).Contents (Elt F) → (⟨S32768x1, .f32⟩ : BufTy).Contents (Elt F)),
  binary main_v5 main_v10 main_v11 (maximumf : (⟨S32768x1, .f32⟩ : BufTy).Contents (Elt F) → (⟨S32768x1, .f32⟩ : BufTy).Contents (Elt F) → (⟨S32768x1, .f32⟩ : BufTy).Contents (Elt F)),
  unary main_v11 main_v12 (broadcastInDim S32768x512 ![0, 1] bcast_S32768x1_S32768x512_0_1 : (⟨S32768x1, .f32⟩ : BufTy).Contents (Elt F) → (⟨S32768x512, .f32⟩ : BufTy).Contents (Elt F)),
  binary main_v1 main_v12 main_v13 (Host.divf : (⟨S32768x512, .f32⟩ : BufTy).Contents (Elt F) → (⟨S32768x512, .f32⟩ : BufTy).Contents (Elt F) → (⟨S32768x512, .f32⟩ : BufTy).Contents (Elt F)),
  nullary main_cst_2 (constant S_ .f32 0x38D1B717#32),
  unary main_cst_2 main_v14 (broadcastInDim S64x1 ![] bcast_S_S64x1 : (⟨S_, .f32⟩ : BufTy).Contents (Elt F) → (⟨S64x1, .f32⟩ : BufTy).Contents (Elt F)),
  binary main_v9 main_v14 main_v15 (maximumf : (⟨S64x1, .f32⟩ : BufTy).Contents (Elt F) → (⟨S64x1, .f32⟩ : BufTy).Contents (Elt F) → (⟨S64x1, .f32⟩ : BufTy).Contents (Elt F)),
  unary main_v15 main_v16 (broadcastInDim S64x512 ![0, 1] bcast_S64x1_S64x512_0_1 : (⟨S64x1, .f32⟩ : BufTy).Contents (Elt F) → (⟨S64x512, .f32⟩ : BufTy).Contents (Elt F)),
  binary main_arg2 main_v16 main_v17 (Host.divf : (⟨S64x512, .f32⟩ : BufTy).Contents (Elt F) → (⟨S64x512, .f32⟩ : BufTy).Contents (Elt F) → (⟨S64x512, .f32⟩ : BufTy).Contents (Elt F)),
  unary main_v17 main_v18 ((transpose S512x64 [1, 0] · transposes_S64x512_S512x64_1_0) : (⟨S64x512, .f32⟩ : BufTy).Contents (Elt F) → (⟨S512x64, .f32⟩ : BufTy).Contents (Elt F)),
  binary main_v13 main_v18 main_v19 ((fun l r => Host.dotGeneral dot_S32768x512_S512x64_S32768x64_1_0_0_1_n_n none l r) : (⟨S32768x512, .f32⟩ : BufTy).Contents (Elt F) → (⟨S512x64, .f32⟩ : BufTy).Contents (Elt F) → (⟨S32768x64, .f32⟩ : BufTy).Contents (Elt F))]

def opsKeep : List (HloOp τ sig (Elt F)) := [
  unary main_v19 main_v20 (Host.absf : (⟨S32768x64, .f32⟩ : BufTy).Contents (Elt F) → (⟨S32768x64, .f32⟩ : BufTy).Contents (Elt F)),
  nullary main_cst_3 (constant S_ .f32 0x7F800000#32),
  unary main_cst_3 main_v21 (broadcastInDim S32768x64 ![] bcast_S_S32768x64 : (⟨S_, .f32⟩ : BufTy).Contents (Elt F) → (⟨S32768x64, .f32⟩ : BufTy).Contents (Elt F)),
  binary main_v20 main_v21 main_v22 (cmpf .olt : (⟨S32768x64, .f32⟩ : BufTy).Contents (Elt F) → (⟨S32768x64, .f32⟩ : BufTy).Contents (Elt F) → (⟨S32768x64, .i1⟩ : BufTy).Contents (Elt F)),
  nullary main_cst_4 (constant S_ .f32 0x7F800000#32),
  TRef.unary (.of main_cst_4) main_call0.v0 id,
  TRef.unary main_call0.v0 main_call0.v1 (broadcastInDim S32768x64 ![] bcast_S_S32768x64),
  TRef.ternary (.of main_v22) (.of main_v19) main_call0.v1 main_call0.v2 select,
  nullary main_cst_5 (constant S_ .f32 0x7F800000#32),
  binary main_v23 main_cst_5 main_v24 ((fun x v => Host.reduce FloatOps.minimumf x v reducesTo_S32768x64_S_d0_1 h_S_) : (⟨S32768x64, .f32⟩ : BufTy).Contents (Elt F) → (⟨S_, .f32⟩ : BufTy).Contents (Elt F) → (⟨S_, .f32⟩ : BufTy).Contents (Elt F)),
  TRef.unary (.of main_v24 : TRef sig ⟨S_, .f32⟩) main_call1.v0 (broadcastInDim S32768x64 ![] bcast_S_S32768x64),
  TRef.ternary (.of main_v22) (.of main_v19) main_call1.v0 main_call1.v1 select]

def opsGate : List (HloOp τ sig (Elt F)) := [
  reshape main_arg3 main_v26 (rfl : (.f32 : EltTy) = .f32) shapeCasts_S1_S_,
  nullary main_cst_6 (constant S_ .f32 0x38D1B717#32),
  binary main_v26 main_cst_6 main_v27 (cmpf .olt : (⟨S_, .f32⟩ : BufTy).Contents (Elt F) → (⟨S_, .f32⟩ : BufTy).Contents (Elt F) → (⟨S_, .i1⟩ : BufTy).Contents (Elt F)),
  reshape main_arg3 main_v28 (rfl : (.f32 : EltTy) = .f32) shapeCasts_S1_S_,
  nullary main_cst_7 (constant S_ .f32 0x38D1B717#32),
  TRef.ternary (.of main_v27) (.of main_cst_7) (.of main_v28) main_call2.v0 select,
  unary main_v29 main_v30 (broadcastInDim S32768x64 ![] bcast_S_S32768x64 : (⟨S_, .f32⟩ : BufTy).Contents (Elt F) → (⟨S32768x64, .f32⟩ : BufTy).Contents (Elt F)),
  binary main_v25 main_v30 main_v31 (Host.divf : (⟨S32768x64, .f32⟩ : BufTy).Contents (Elt F) → (⟨S32768x64, .f32⟩ : BufTy).Contents (Elt F) → (⟨S32768x64, .f32⟩ : BufTy).Contents (Elt F)),
  unary main_v31 main_v32 (Host.negf : (⟨S32768x64, .f32⟩ : BufTy).Contents (Elt F) → (⟨S32768x64, .f32⟩ : BufTy).Contents (Elt F)),
  unary main_v32 main_v33 (Host.exp : (⟨S32768x64, .f32⟩ : BufTy).Contents (Elt F) → (⟨S32768x64, .f32⟩ : BufTy).Contents (Elt F)),
  nullary main_cst_8 (constant S_ .f32 0x3F800000#32),
  unary main_cst_8 main_v34 (broadcastInDim S32768x64 ![] bcast_S_S32768x64 : (⟨S_, .f32⟩ : BufTy).Contents (Elt F) → (⟨S32768x64, .f32⟩ : BufTy).Contents (Elt F)),
  binary main_v34 main_v33 main_v35 (addf : (⟨S32768x64, .f32⟩ : BufTy).Contents (Elt F) → (⟨S32768x64, .f32⟩ : BufTy).Contents (Elt F) → (⟨S32768x64, .f32⟩ : BufTy).Contents (Elt F)),
  nullary main_cst_9 (constant S_ .f32 0x3F800000#32),
  unary main_cst_9 main_v36 (broadcastInDim S32768x64 ![] bcast_S_S32768x64 : (⟨S_, .f32⟩ : BufTy).Contents (Elt F) → (⟨S32768x64, .f32⟩ : BufTy).Contents (Elt F)),
  binary main_v36 main_v35 main_v37 (Host.divf : (⟨S32768x64, .f32⟩ : BufTy).Contents (Elt F) → (⟨S32768x64, .f32⟩ : BufTy).Contents (Elt F) → (⟨S32768x64, .f32⟩ : BufTy).Contents (Elt F))]

def opsArg : List (HloOp τ sig (Elt F)) := [
  TRef.nullary main_call3.v0 (iotaInDim S32768x64 32 1),
  TRef.nullary main_call3.cst (constant S_ .f32 0xFF800000#32),
  TRef.nullary main_call3.c (constantI S_ 32 0#32),
  TRef.quaternary (.of main_v37) main_call3.v0 main_call3.cst main_call3.c main_call3.v1_0 (fun x y u v j => (Host.argReduce reducer_argmax_f32_i32 x y u v reducesTo_S32768x64_S32768_d1 h_S_ j).1),
  TRef.quaternary (.of main_v37) main_call3.v0 main_call3.cst main_call3.c main_call3.v1_1 (fun x y u v j => (Host.argReduce reducer_argmax_f32_i32 x y u v reducesTo_S32768x64_S32768_d1 h_S_ j).2)]

def opsSort : List (HloOp τ sig (Elt F)) := [
  TRef.nullary main_call4.v0 (iotaInDim S32768 32 0),
  TRef.binary (.of main_v38) main_call4.v0 main_call4.v1_0 (fun x y => (Host.sort2 S32768 0 comparator_i32_i32_d0 x y).1),
  TRef.binary (.of main_v38) main_call4.v0 main_call4.v1_1 (fun x y => (Host.sort2 S32768 0 comparator_i32_i32_d0 x y).2)]

def opsHist : List (HloOp τ sig (Elt F)) := [
  nullary main_c (constantI S_ 32 0#32),
  unary main_c main_v40 (broadcastInDim S64 ![] bcast_S_S64 : (⟨S_, .i32⟩ : BufTy).Contents (Elt F) → (⟨S64, .i32⟩ : BufTy).Contents (Elt F)),
  nullary main_c_10 (constantI S_ 32 0#32),
  TRef.unary (.of main_c_10) main_call5.v0 id,
  TRef.unary main_call5.v0 main_call5.v1 (broadcastInDim S32768 ![] bcast_S_S32768),
  TRef.binary main_call5.v1 (.of main_v38) main_call5.v2 maxsi,
  nullary main_c_11 (constantI S_ 32 0#32),
  unary main_c_11 main_v42 (broadcastInDim S32768 ![] bcast_S_S32768 : (⟨S_, .i32⟩ : BufTy).Contents (Elt F) → (⟨S32768, .i32⟩ : BufTy).Contents (Elt F)),
  binary main_v41 main_v42 main_v43 (cmpi .slt : (⟨S32768, .i32⟩ : BufTy).Contents (Elt F) → (⟨S32768, .i32⟩ : BufTy).Contents (Elt F) → (⟨S32768, .i1⟩ : BufTy).Contents (Elt F)),
  nullary main_c_12 (constantI S_ 32 64#32),
  unary main_c_12 main_v44 (broadcastInDim S32768 ![] bcast_S_S32768 : (⟨S_, .i32⟩ : BufTy).Contents (Elt F) → (⟨S32768, .i32⟩ : BufTy).Contents (Elt F)),
  binary main_v41 main_v44 main_v45 (addi : (⟨S32768, .i32⟩ : BufTy).Contents (Elt F) → (⟨S32768, .i32⟩ : BufTy).Contents (Elt F) → (⟨S32768, .i32⟩ : BufTy).Contents (Elt F)),
  ternary main_v43 main_v45 main_v41 main_v46 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
  unary main_v46 main_v47 (broadcastInDim S32768x1 ![0] bcast_S32768_S32768x1_0 : (⟨S32768, .i32⟩ : BufTy).Contents (Elt F) → (⟨S32768x1, .i32⟩ : BufTy).Contents (Elt F)),
  nullary main_c_13 (constantI S_ 32 1#32),
  unary main_c_13 main_v48 (broadcastInDim S32768 ![] bcast_S_S32768 : (⟨S_, .i32⟩ : BufTy).Contents (Elt F) → (⟨S32768, .i32⟩ : BufTy).Contents (Elt F)),
  ternary main_v40 main_v47 main_v48 main_v49 ((fun x i u => Host.scatter scatter_S64_S32768x1_S32768_n_0_0_1 IntOp.addi x i u) : (⟨S64, .i32⟩ : BufTy).Contents (Elt F) → (⟨S32768x1, .i32⟩ : BufTy).Contents (Elt F) → (⟨S32768, .i32⟩ : BufTy).Contents (Elt F) → (⟨S64, .i32⟩ : BufTy).Contents (Elt F))]

def opsAux : List (HloOp τ sig (Elt F)) := [
  unary main_v49 main_v50 (sitofp .f32 : (⟨S64, .i32⟩ : BufTy).Contents (Elt F) → (⟨S64, .f32⟩ : BufTy).Contents (Elt F)),
  nullary main_c_14 (constantI S_ 32 0#32),
  binary main_v49 main_c_14 main_v51 ((fun x v => Host.reduce IntOp.addi x v reducesTo_S64_S_d0 h_S_) : (⟨S64, .i32⟩ : BufTy).Contents (Elt F) → (⟨S_, .i32⟩ : BufTy).Contents (Elt F) → (⟨S_, .i32⟩ : BufTy).Contents (Elt F)),
  unary main_v51 main_v52 (sitofp .f32 : (⟨S_, .i32⟩ : BufTy).Contents (Elt F) → (⟨S_, .f32⟩ : BufTy).Contents (Elt F)),
  unary main_v52 main_v53 (broadcastInDim S64 ![] bcast_S_S64 : (⟨S_, .f32⟩ : BufTy).Contents (Elt F) → (⟨S64, .f32⟩ : BufTy).Contents (Elt F)),
  binary main_v50 main_v53 main_v54 (Host.divf : (⟨S64, .f32⟩ : BufTy).Contents (Elt F) → (⟨S64, .f32⟩ : BufTy).Contents (Elt F) → (⟨S64, .f32⟩ : BufTy).Contents (Elt F)),
  nullary main_cst_15 (constant S_ .f32 0x358637BD#32),
  unary main_cst_15 main_v55 (broadcastInDim S64 ![] bcast_S_S64 : (⟨S_, .f32⟩ : BufTy).Contents (Elt F) → (⟨S64, .f32⟩ : BufTy).Contents (Elt F)),
  binary main_v54 main_v55 main_v56 (addf : (⟨S64, .f32⟩ : BufTy).Contents (Elt F) → (⟨S64, .f32⟩ : BufTy).Contents (Elt F) → (⟨S64, .f32⟩ : BufTy).Contents (Elt F)),
  nullary main_cst_16 (constant S_ .f32 0x3D8F5C29#32),
  unary main_cst_16 main_v57 (broadcastInDim S32768x64 ![] bcast_S_S32768x64 : (⟨S_, .f32⟩ : BufTy).Contents (Elt F) → (⟨S32768x64, .f32⟩ : BufTy).Contents (Elt F)),
  binary main_v25 main_v57 main_v58 (Host.divf : (⟨S32768x64, .f32⟩ : BufTy).Contents (Elt F) → (⟨S32768x64, .f32⟩ : BufTy).Contents (Elt F) → (⟨S32768x64, .f32⟩ : BufTy).Contents (Elt F)),
  nullary main_cst_17 (constant S_ .f32 0xFF800000#32),
  binary main_v58 main_cst_17 main_v59 ((fun x v => Host.reduce FloatOps.maximumf x v reducesTo_S32768x64_S32768_d1 h_S_) : (⟨S32768x64, .f32⟩ : BufTy).Contents (Elt F) → (⟨S_, .f32⟩ : BufTy).Contents (Elt F) → (⟨S32768, .f32⟩ : BufTy).Contents (Elt F)),
  nullary main_cst_18 (constant S_ .f32 0xFF800000#32),
  unary main_cst_18 main_v60 (broadcastInDim S32768 ![] bcast_S_S32768 : (⟨S_, .f32⟩ : BufTy).Contents (Elt F) → (⟨S32768, .f32⟩ : BufTy).Contents (Elt F)),
  binary main_v60 main_v59 main_v61 (maximumf : (⟨S32768, .f32⟩ : BufTy).Contents (Elt F) → (⟨S32768, .f32⟩ : BufTy).Contents (Elt F) → (⟨S32768, .f32⟩ : BufTy).Contents (Elt F)),
  unary main_v61 main_v62 (broadcastInDim S32768x1 ![0] bcast_S32768_S32768x1_0 : (⟨S32768, .f32⟩ : BufTy).Contents (Elt F) → (⟨S32768x1, .f32⟩ : BufTy).Contents (Elt F)),
  unary main_v62 main_v63 (broadcastInDim S32768x64 ![0, 1] bcast_S32768x1_S32768x64_0_1 : (⟨S32768x1, .f32⟩ : BufTy).Contents (Elt F) → (⟨S32768x64, .f32⟩ : BufTy).Contents (Elt F)),
  binary main_v58 main_v63 main_v64 (subf : (⟨S32768x64, .f32⟩ : BufTy).Contents (Elt F) → (⟨S32768x64, .f32⟩ : BufTy).Contents (Elt F) → (⟨S32768x64, .f32⟩ : BufTy).Contents (Elt F)),
  unary main_v64 main_v65 (Host.exp : (⟨S32768x64, .f32⟩ : BufTy).Contents (Elt F) → (⟨S32768x64, .f32⟩ : BufTy).Contents (Elt F)),
  nullary main_cst_19 (constant S_ .f32 0x00000000#32),
  binary main_v65 main_cst_19 main_v66 ((fun x v => Host.reduceAdd x v reducesTo_S32768x64_S32768_d1 h_S_) : (⟨S32768x64, .f32⟩ : BufTy).Contents (Elt F) → (⟨S_, .f32⟩ : BufTy).Contents (Elt F) → (⟨S32768, .f32⟩ : BufTy).Contents (Elt F)),
  unary main_v66 main_v67 (broadcastInDim S32768x1 ![0] bcast_S32768_S32768x1_0 : (⟨S32768, .f32⟩ : BufTy).Contents (Elt F) → (⟨S32768x1, .f32⟩ : BufTy).Contents (Elt F)),
  unary main_v67 main_v68 (broadcastInDim S32768x64 ![0, 1] bcast_S32768x1_S32768x64_0_1 : (⟨S32768x1, .f32⟩ : BufTy).Contents (Elt F) → (⟨S32768x64, .f32⟩ : BufTy).Contents (Elt F)),
  binary main_v65 main_v68 main_v69 (Host.divf : (⟨S32768x64, .f32⟩ : BufTy).Contents (Elt F) → (⟨S32768x64, .f32⟩ : BufTy).Contents (Elt F) → (⟨S32768x64, .f32⟩ : BufTy).Contents (Elt F)),
  nullary main_cst_20 (constant S_ .f32 0x00000000#32),
  binary main_v69 main_cst_20 main_v70 ((fun x v => Host.reduceAdd x v reducesTo_S32768x64_S64_d0 h_S_) : (⟨S32768x64, .f32⟩ : BufTy).Contents (Elt F) → (⟨S_, .f32⟩ : BufTy).Contents (Elt F) → (⟨S64, .f32⟩ : BufTy).Contents (Elt F)),
  binary main_v70 main_v56 main_v71 (mulf : (⟨S64, .f32⟩ : BufTy).Contents (Elt F) → (⟨S64, .f32⟩ : BufTy).Contents (Elt F) → (⟨S64, .f32⟩ : BufTy).Contents (Elt F)),
  nullary main_cst_21 (constant S_ .f32 0x00000000#32),
  binary main_v71 main_cst_21 main_v72 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
  nullary main_cst_22 (constant S_ .f32 0x42800000#32),
  binary main_v72 main_cst_22 main_v73 (mulf : (⟨S_, .f32⟩ : BufTy).Contents (Elt F) → (⟨S_, .f32⟩ : BufTy).Contents (Elt F) → (⟨S_, .f32⟩ : BufTy).Contents (Elt F)),
  reshape main_v49 main_v74 (rfl : (.i32 : EltTy) = .i32) shapeCasts_S64_S1x64,
  reshape main_v49 main_v75 (rfl : (.i32 : EltTy) = .i32) shapeCasts_S64_S1x64]

def ops : List (HloOp τ sig (Elt F)) :=
  opsLogit ++ (opsKeep ++ (opsGate ++ (opsArg ++ (opsSort ++ (opsHist ++ opsAux)))))

set_option maxHeartbeats 8000000 in
set_option maxRecDepth 100000 in
theorem main_eq (d : Dev nD) : main (F := F) d = seq ops := rfl

end Cert.ReferenceIdeal.Plain
-- ==== Proof.RefStages.lean ====
/-
  What each stage of the reference leaves, as a function of the arrays before it.
-/
module

public import proofs.«01_k».proof.Proof.RefRun

@[expose] public section

noncomputable section

namespace Cert.ReferenceIdeal.Plain

open Idealize.ShloMosaic
open Idealize.ShloMosaic.TcCoe
open Idealize.ShloMosaic.StableHlo
open Cert.ReferenceIdeal
open Facts₀ Facts

variable {F : FTy → Type} [FloatOps F] [Facts]

def logitH (x : FVec F S32768x4096 .f32) (w : FVec F S512x4096 .f32) (g : FVec F S64x512 .f32) : FVec F S32768x64 .f32 :=
  let p : FVec F S32768x512 .f32 := Host.dotGeneral dot_S32768x4096_S4096x512_S32768x512_1_0_0_1_n_n none x (transpose S4096x512 [1, 0] w transposes_S512x4096_S4096x512_1_0)
  let n : FVec F S32768x1 .f32 := maximumf (Host.sqrt (broadcastInDim S32768x1 ![0] bcast_S32768_S32768x1_0
    (Host.reduceAdd (mulf p p) (constant S_ .f32 0x00000000#32) reducesTo_S32768x512_S32768_d1 h_S_)))
    (broadcastInDim S32768x1 ![] bcast_S_S32768x1 (constant S_ .f32 0x38D1B717#32))
  let k : FVec F S64x1 .f32 := maximumf (Host.sqrt (broadcastInDim S64x1 ![0] bcast_S64_S64x1_0
    (Host.reduceAdd (mulf g g) (constant S_ .f32 0x00000000#32) reducesTo_S64x512_S64_d1 h_S_)))
    (broadcastInDim S64x1 ![] bcast_S_S64x1 (constant S_ .f32 0x38D1B717#32))
  Host.dotGeneral dot_S32768x512_S512x64_S32768x64_1_0_0_1_n_n none
    (Host.divf p (broadcastInDim S32768x512 ![0, 1] bcast_S32768x1_S32768x512_0_1 n))
    (transpose S512x64 [1, 0] (Host.divf g (broadcastInDim S64x512 ![0, 1] bcast_S64x1_S64x512_0_1 k)) transposes_S64x512_S512x64_1_0)

theorem logit_stage (V : Valuation τ sig (Elt F)) :
    after opsLogit V (main_v19 : DevRef τ sig) = logitH (V (main_arg0 : DevRef τ sig)) (V (main_arg1 : DevRef τ sig)) (V (main_arg2 : DevRef τ sig)) := by
  unfold opsLogit logitH
  after_results_simp

/-- A logit is kept where its magnitude is below infinity. -/
theorem keep_stage (V : Valuation τ sig (Elt F)) : ∃ z : FVec F S32768x64 .f32, after opsKeep V (main_v25 : DevRef τ sig)
    = (select (cmpf .olt (Host.absf (V (main_v19 : DevRef τ sig))) (broadcastInDim S32768x64 ![] bcast_S_S32768x64 (constant S_ .f32 0x7F800000#32)))
      (V (main_v19 : DevRef τ sig)) z : FVec F S32768x64 .f32) := by
  unfold opsKeep
  after_results_simp
  exact ⟨_, rfl⟩

def gateH (l : FVec F S32768x64 .f32) (b : FVec F S1 .f32) : FVec F S32768x64 .f32 :=
  let t : FVec F S_ .f32 := select (cmpf .olt (shapeCast S_ b shapeCasts_S1_S_) (constant S_ .f32 0x38D1B717#32))
    (constant S_ .f32 0x38D1B717#32) (shapeCast S_ b shapeCasts_S1_S_)
  Host.divf (broadcastInDim S32768x64 ![] bcast_S_S32768x64 (constant S_ .f32 0x3F800000#32))
    (addf (broadcastInDim S32768x64 ![] bcast_S_S32768x64 (constant S_ .f32 0x3F800000#32))
      (Host.exp (Host.negf (Host.divf l (broadcastInDim S32768x64 ![] bcast_S_S32768x64 t)))))

theorem gate_stage (V : Valuation τ sig (Elt F)) :
    after opsGate V (main_v37 : DevRef τ sig) = gateH (V (main_v25 : DevRef τ sig)) (V (main_arg3 : DevRef τ sig)) := by
  unfold opsGate gateH
  after_results_simp
  rfl

def argH (s : FVec F S32768x64 .f32) : IVec S32768 32 := fun j =>
  (Host.argReduce reducer_argmax_f32_i32 s (iotaInDim S32768x64 32 1) (constant S_ .f32 0xFF800000#32) (constantI S_ 32 0#32) reducesTo_S32768x64_S32768_d1 h_S_ j).2

theorem arg_stage (V : Valuation τ sig (Elt F)) : after opsArg V (main_v38 : DevRef τ sig) = argH (V (main_v37 : DevRef τ sig)) := by
  unfold opsArg argH
  after_results_simp
  rfl

def sortH (e : IVec S32768 32) : IVec S32768 32 := (Host.sort2 S32768 0 comparator_i32_i32_d0 e (iotaInDim S32768 32 0)).2

theorem sort_stage (V : Valuation τ sig (Elt F)) : after opsSort V (main_v39 : DevRef τ sig) = sortH (V (main_v38 : DevRef τ sig)) := by
  unfold opsSort sortH
  after_results_simp
  rfl

def histH (e : IVec S32768 32) : IVec S64 32 :=
  let c : IVec S32768 32 := maxsi (broadcastInDim S32768 ![] bcast_S_S32768 (constantI S_ 32 0#32)) e
  Host.scatter scatter_S64_S32768x1_S32768_n_0_0_1 IntOp.addi (broadcastInDim S64 ![] bcast_S_S64 (constantI S_ 32 0#32))
    (broadcastInDim S32768x1 ![0] bcast_S32768_S32768x1_0
      (select (cmpi .slt c (broadcastInDim S32768 ![] bcast_S_S32768 (constantI S_ 32 0#32)))
        (addi c (broadcastInDim S32768 ![] bcast_S_S32768 (constantI S_ 32 64#32))) c))
    (broadcastInDim S32768 ![] bcast_S_S32768 (constantI S_ 32 1#32))

theorem hist_stage (V : Valuation τ sig (Elt F)) : after opsHist V (main_v49 : DevRef τ sig) = histH (V (main_v38 : DevRef τ sig)) := by
  unfold opsHist histH
  after_results_simp
  rfl

def softH (l : FVec F S32768x64 .f32) : FVec F S32768x64 .f32 :=
  let h : FVec F S32768x64 .f32 := Host.divf l (broadcastInDim S32768x64 ![] bcast_S_S32768x64 (constant S_ .f32 0x3D8F5C29#32))
  let x : FVec F S32768x64 .f32 := Host.exp (subf h (broadcastInDim S32768x64 ![0, 1] bcast_S32768x1_S32768x64_0_1 (broadcastInDim S32768x1 ![0] bcast_S32768_S32768x1_0
    (maximumf (broadcastInDim S32768 ![] bcast_S_S32768 (constant S_ .f32 0xFF800000#32))
      (Host.reduce FloatOps.maximumf h (constant S_ .f32 0xFF800000#32) reducesTo_S32768x64_S32768_d1 h_S_)))))
  Host.divf x (broadcastInDim S32768x64 ![0, 1] bcast_S32768x1_S32768x64_0_1 (broadcastInDim S32768x1 ![0] bcast_S32768_S32768x1_0
    (Host.reduceAdd x (constant S_ .f32 0x00000000#32) reducesTo_S32768x64_S32768_d1 h_S_)))

def auxH (l : FVec F S32768x64 .f32) (n : IVec S64 32) : FVec F S_ .f32 :=
  mulf (Host.reduceAdd (mulf (Host.reduceAdd (softH l) (constant S_ .f32 0x00000000#32) reducesTo_S32768x64_S64_d0 h_S_)
    (addf (Host.divf (sitofp .f32 n) (broadcastInDim S64 ![] bcast_S_S64 (sitofp .f32 (Host.reduce IntOp.addi n (constantI S_ 32 0#32) reducesTo_S64_S_d0 h_S_))))
      (broadcastInDim S64 ![] bcast_S_S64 (constant S_ .f32 0x358637BD#32)))) (constant S_ .f32 0x00000000#32) reducesTo_S64_S_d0 h_S_)
    (constant S_ .f32 0x42800000#32)

theorem aux_stage (V : Valuation τ sig (Elt F)) :
    after opsAux V (main_v73 : DevRef τ sig) = auxH (V (main_v25 : DevRef τ sig)) (V (main_v49 : DevRef τ sig)) := by
  unfold opsAux auxH softH
  after_results_simp

theorem out_stage (V : Valuation τ sig (Elt F)) :
    after opsAux V (main_v74 : DevRef τ sig) = shapeCast S1x64 (V (main_v49 : DevRef τ sig) : IVec S64 32) shapeCasts_S64_S1x64
      ∧ after opsAux V (main_v75 : DevRef τ sig) = shapeCast S1x64 (V (main_v49 : DevRef τ sig) : IVec S64 32) shapeCasts_S64_S1x64 := by
  unfold opsAux
  constructor <;> after_results_simp <;> rfl

end Cert.ReferenceIdeal.Plain
-- ==== Proof.RefFlow.lean ====
/-
  The reference's run: its results, and that its arguments are not written.
-/
module

public import proofs.«01_k».proof.Proof.RefStages

@[expose] public section

noncomputable section

namespace Cert.ReferenceIdeal.Plain

open Idealize.ShloMosaic
open Idealize.ShloMosaic.TcCoe
open Idealize.ShloMosaic.StableHlo
open Idealize.SL.Sem
open Cert.ReferenceIdeal
open Facts₀ Facts

variable {F : FTy → Type} [FloatOps F] [Facts]

theorem after_app (l₁ l₂ : List (HloOp τ sig (Elt F))) (V : Valuation τ sig (Elt F)) : after (l₁ ++ l₂) V = after l₂ (after l₁ V) := by
  induction l₁ generalizing V with
  | nil => rfl
  | cons op l ih => exact ih _

/-! ## What the stages leave alone -/

/-- The arguments. -/
def args : List (Ref sig .tc) := [main_arg0, main_arg1, main_arg2, main_arg3]

theorem keep_args (l : List (HloOp τ sig (Elt F))) (h : l ∈ [opsLogit, opsKeep, opsGate, opsArg, opsSort, opsHist, opsAux]) (V : Valuation τ sig (Elt F))
    (r : Ref sig .tc) (hr : r ∈ args) : after l V (Proc.devRef .tc r) = V (Proc.devRef .tc r) := by
  unfold args at hr
  simp only [List.mem_cons, List.not_mem_nil, or_false] at h hr
  rcases h with rfl | rfl | rfl | rfl | rfl | rfl | rfl <;>
  rcases hr with rfl | rfl | rfl | rfl <;>
  first
  | (unfold opsLogit; after_results_simp; done) | (unfold opsKeep; after_results_simp; done) | (unfold opsGate; after_results_simp; done)
  | (unfold opsArg; after_results_simp; done) | (unfold opsSort; after_results_simp; done) | (unfold opsHist; after_results_simp; done)
  | (unfold opsAux; after_results_simp; done)

theorem gate_25 (V : Valuation τ sig (Elt F)) : after opsGate V (main_v25 : DevRef τ sig) = V (main_v25 : DevRef τ sig) := by
  unfold opsGate; after_results_simp
theorem arg_25 (V : Valuation τ sig (Elt F)) : after opsArg V (main_v25 : DevRef τ sig) = V (main_v25 : DevRef τ sig) := by
  unfold opsArg; after_results_simp
theorem sort_25 (V : Valuation τ sig (Elt F)) : after opsSort V (main_v25 : DevRef τ sig) = V (main_v25 : DevRef τ sig) := by
  unfold opsSort; after_results_simp
theorem hist_25 (V : Valuation τ sig (Elt F)) : after opsHist V (main_v25 : DevRef τ sig) = V (main_v25 : DevRef τ sig) := by
  unfold opsHist; after_results_simp
theorem sort_38 (V : Valuation τ sig (Elt F)) : after opsSort V (main_v38 : DevRef τ sig) = V (main_v38 : DevRef τ sig) := by
  unfold opsSort; after_results_simp
theorem hist_39 (V : Valuation τ sig (Elt F)) : after opsHist V (main_v39 : DevRef τ sig) = V (main_v39 : DevRef τ sig) := by
  unfold opsHist; after_results_simp
theorem aux_39 (V : Valuation τ sig (Elt F)) : after opsAux V (main_v39 : DevRef τ sig) = V (main_v39 : DevRef τ sig) := by
  unfold opsAux; after_results_simp

theorem args_eq (V : Valuation τ sig (Elt F)) (r : Ref sig .tc) (hr : r ∈ args) : after ops V (Proc.devRef .tc r) = V (Proc.devRef .tc r) := by
  unfold ops
  simp only [after_app]
  rw [keep_args opsAux (by simp) _ r hr, keep_args opsHist (by simp) _ r hr, keep_args opsSort (by simp) _ r hr, keep_args opsArg (by simp) _ r hr,
    keep_args opsGate (by simp) _ r hr, keep_args opsKeep (by simp) _ r hr, keep_args opsLogit (by simp) _ r hr]

/-! ## The results -/

/-- The logits kept, in terms of the arguments. -/
def Kept (V : Valuation τ sig (Elt F)) (l : FVec F S32768x64 .f32) : Prop :=
  ∃ z : FVec F S32768x64 .f32,
    l = select (cmpf .olt (Host.absf (logitH (V (main_arg0 : DevRef τ sig)) (V (main_arg1 : DevRef τ sig)) (V (main_arg2 : DevRef τ sig))))
        (broadcastInDim S32768x64 ![] bcast_S_S32768x64 (constant S_ .f32 0x7F800000#32)))
      (logitH (V (main_arg0 : DevRef τ sig)) (V (main_arg1 : DevRef τ sig)) (V (main_arg2 : DevRef τ sig))) z

theorem results (V : Valuation τ sig (Elt F)) : ∃ l : FVec F S32768x64 .f32, Kept V l ∧
    after ops V (main_v73 : DevRef τ sig) = auxH l (histH (argH (gateH l (V (main_arg3 : DevRef τ sig)))))
    ∧ after ops V (main_v39 : DevRef τ sig) = sortH (argH (gateH l (V (main_arg3 : DevRef τ sig))))
    ∧ after ops V (main_v74 : DevRef τ sig) = shapeCast S1x64 (histH (argH (gateH l (V (main_arg3 : DevRef τ sig))))) shapeCasts_S64_S1x64
    ∧ after ops V (main_v75 : DevRef τ sig) = shapeCast S1x64 (histH (argH (gateH l (V (main_arg3 : DevRef τ sig))))) shapeCasts_S64_S1x64 := by
  obtain ⟨z, hz⟩ := keep_stage (after opsLogit V)
  rw [logit_stage] at hz
  have h3 : after opsKeep (after opsLogit V) (main_arg3 : DevRef τ sig) = V (main_arg3 : DevRef τ sig) := by
    rw [keep_args opsKeep (by simp) _ main_arg3 (by simp [args]), keep_args opsLogit (by simp) _ main_arg3 (by simp [args])]
  refine ⟨after opsKeep (after opsLogit V) (main_v25 : DevRef τ sig), ⟨z, hz⟩, ?_⟩
  unfold ops
  simp only [after_app]
  rw [aux_stage, aux_39, hist_39, sort_stage, arg_stage, gate_stage, (out_stage _).1, (out_stage _).2, hist_stage, hist_25, sort_25, arg_25, gate_25,
    sort_38, arg_stage, gate_stage, h3]
  exact ⟨rfl, rfl, rfl, rfl⟩

/-! ## The run -/

theorem scopedRefs_eq : (Finset.univ.filter fun b : Ref sig .tc => b.isScoped) = ∅ := by decide +kernel
theorem scopedSems_eq : (Finset.univ.filter fun sm : SemLoc sig => sm.isScoped .tc) = ∅ := by decide +kernel

/-- The operations work on the TensorCore's arrays, and each determines its result. -/
theorem ops_ok (l : List (HloOp τ sig (Elt F))) (h : l ∈ [opsLogit, opsKeep, opsGate, opsArg, opsSort, opsHist, opsAux]) :
    ∀ op ∈ l, op.bufs ⊆ tcRefs τ sig ∧ op.fresh = ∅ := by
  simp only [List.mem_cons, List.not_mem_nil, or_false] at h
  rcases h with rfl | rfl | rfl | rfl | rfl | rfl | rfl <;>
  simp only [opsLogit, opsKeep, opsGate, opsArg, opsSort, opsHist, opsAux, List.forall_mem_cons, TRef.nullary, TRef.unary, TRef.binary, TRef.ternary,
    TRef.quaternary, nullary_bufs_sub, unary_bufs_sub, binary_bufs_sub, ternary_bufs_sub, quaternary_bufs_sub, reshape_bufs_sub, true_and,
    List.not_mem_nil, false_imp_iff, implies_true, and_true] <;>
  simp only [nullary, unary, binary, ternary, quaternary, reshape, and_self]

theorem all_ok : ∀ op ∈ (ops : List (HloOp τ sig (Elt F))), op.bufs ⊆ tcRefs τ sig ∧ op.fresh = ∅ := by
  unfold ops
  simp only [List.forall_mem_append]
  exact ⟨ops_ok _ (by simp), ops_ok _ (by simp), ops_ok _ (by simp), ops_ok _ (by simp), ops_ok _ (by simp), ops_ok _ (by simp), ops_ok _ (by simp)⟩

theorem run_main (m : (ℓ : Loc nD τ sig) → Buf (Elt F) ℓ) (ρ : Dev nD → PrngReg) :
    θ_run defs (onTc (τ := τ) (main (F := F))) ⟨m, fun _ => 0, ρ⟩ fun r =>
      (∀ (c : Dev nD) (b : Ref sig .tc), r.2.mem ((c.tc : Thread nD τ).loc b) = after ops (launchContents m c) (b : DevRef τ sig)) ∧ r.2.sem = fun _ => 0 :=
  (θ_run _ _ _).mono (fun r h => ⟨h, sem_eq_zero_of_no_sems (by decide) _⟩)
    (run_seq scopedRefs_eq scopedSems_eq defs main (fun _ => ops) main_eq (fun _ => List.forall_iff_forall_mem.mpr fun op h => (all_ok op h).1) m ρ
      (fun _ op h => (all_ok op h).2))

end Cert.ReferenceIdeal.Plain
-- ==== Proof.RefFloats.lean ====
/-
  The reference's floats read at an element over the extended reals: logits, gates, softmax rows, balance term.
-/
module

public import proofs.«01_k».proof.Proof.RefFlow
public import proofs.«01_k».proof.Proof.Spec
public import Idealize.ShloMosaic.Lib.Pointwise

@[expose] public section

set_option maxRecDepth 16384

noncomputable section

namespace Cert.ReferenceIdeal.Plain

open Idealize.ShloMosaic
open Idealize.ShloMosaic.TcCoe
open Cert.ReferenceIdeal
open Cert.Route
open Facts₀ Facts

variable [Facts]

theorem logitH_at (x : FVec Ideal S32768x4096 .f32) (w : FVec Ideal S512x4096 .f32) (g : FVec Ideal S64x512 .f32) (t : Fin 32768) (c : Fin 64) :
    logitH x w g (ix2 t c) = logit (fun i => x (ix2 t i)) (fun k i => w (ix2 k i)) (fun c k => g (ix2 c k)) c := by
  pointwise [logitH]
  rfl

/-! ## A logit is a real number -/

theorem small_pos : ∃ s : ℝ, small = (s : EReal) ∧ 0 < s := by
  refine ⟨_, by simp [small, Ideal.ofBits, Ideal.ieee]; rfl, by norm_num⟩

theorem real_of {a : EReal} (h : a ≠ ⊤) (h' : a ≠ ⊥) : ∃ r : ℝ, a = (r : EReal) := ⟨a.toReal, (EReal.coe_toReal h h').symm⟩

theorem sq_nonneg' (a : EReal) : 0 ≤ a * a := by
  rcases le_total 0 a with h | h
  · exact EReal.mul_nonneg h h
  · rw [← neg_mul_neg]
    have : 0 ≤ -a := by rwa [EReal.neg_nonneg]
    exact EReal.mul_nonneg this this

/-- A vector over its length has real entries. -/
theorem unit_real (v : Fin 512 → EReal) (k : Fin 512) : ∃ r : ℝ, Ideal.div (v k) (len v) = (r : EReal) := by
  obtain ⟨s, hs, hs0⟩ := small_pos
  have hpos : 0 < len v := lt_of_lt_of_le (by rw [hs]; exact_mod_cast hs0) (le_max_right _ _)
  unfold Ideal.div
  rw [if_neg hpos.ne']
  by_cases ht : len v = ⊤
  · exact ⟨0, by rw [ht, EReal.inv_top, mul_zero]; rfl⟩
  · obtain ⟨n, hn⟩ := real_of ht (ne_of_gt (lt_trans EReal.bot_lt_zero hpos))
    have hsum : ∑ k, v k * v k ≠ ⊤ := fun h => ht (by unfold len; rw [h]; exact max_eq_left le_top)
    have hk : v k * v k ≠ ⊤ := fun h => hsum (top_le_iff.mp (h ▸ Finset.single_le_sum (f := fun k => v k * v k) (fun i _ => sq_nonneg' (v i)) (Finset.mem_univ k)))
    obtain ⟨a, ha⟩ := real_of (a := v k) (fun h => hk (by rw [h]; rfl)) (fun h => hk (by rw [h]; rfl))
    exact ⟨a * n⁻¹, by rw [ha, hn, EReal.coe_mul, EReal.coe_inv]⟩

theorem logit_real (x : Fin 4096 → EReal) (w : Fin 512 → Fin 4096 → EReal) (g : Fin 64 → Fin 512 → EReal) (c : Fin 64) :
    ∃ r : ℝ, logit x w g c = (r : EReal) := by
  choose p hp using unit_real (proj x w)
  choose q hq using unit_real (g c)
  refine ⟨∑ k, p k * q k, ?_⟩
  unfold logit
  simp only [hp, hq, ← EReal.coe_mul]
  exact (map_sum (⟨⟨fun r : ℝ => (r : EReal), EReal.coe_zero⟩, EReal.coe_add⟩ : ℝ →+ EReal) _ _).symm

theorem posInf_eq : Ideal.ofBits .f32 0x7F800000#32 = ⊤ := by
  simp [Ideal.ofBits, Ideal.ieee]

/-- Every logit is kept. -/
theorem kept (V : Valuation τ sig (Elt Ideal)) (l : FVec Ideal S32768x64 .f32) (h : Kept V l) :
    l = logitH (V (main_arg0 : DevRef τ sig)) (V (main_arg1 : DevRef τ sig)) (V (main_arg2 : DevRef τ sig)) := by
  obtain ⟨z, rfl⟩ := h
  funext j
  obtain ⟨t, c, rfl⟩ : ∃ (t : Fin 32768) (c : Fin 64), j = ix2 t c := ⟨j 0, j 1, eq_ix2 j⟩
  obtain ⟨r, hr⟩ := logit_real (fun i => (V (main_arg0 : DevRef τ sig) : FVec Ideal S32768x4096 .f32) (ix2 t i))
    (fun k i => (V (main_arg1 : DevRef τ sig) : FVec Ideal S512x4096 .f32) (ix2 k i)) (fun c k => (V (main_arg2 : DevRef τ sig) : FVec Ideal S64x512 .f32) (ix2 c k)) c
  rw [← logitH_at] at hr
  generalize logitH (F := Ideal) _ _ _ = L at hr ⊢
  show Scalar.select (Ideal.cmp .olt (max (L (ix2 t c)) (-(L (ix2 t c)))) (Ideal.ofBits .f32 0x7F800000#32)) (L (ix2 t c)) (z (ix2 t c)) = L (ix2 t c)
  have hlt : max (L (ix2 t c)) (-(L (ix2 t c))) < ⊤ := by
    rw [hr, ← EReal.coe_neg]
    exact max_lt (EReal.coe_lt_top _) (EReal.coe_lt_top _)
  rw [posInf_eq]
  simp [Ideal.cmp, Scalar.select, hlt]

theorem one_eq : Ideal.ofBits .f32 0x3F800000#32 = 1 := by
  simp [Ideal.ofBits, Ideal.ieee]
  rw [← EReal.coe_mul]
  norm_num

theorem gateH_at (l : FVec Ideal S32768x64 .f32) (b : FVec Ideal S1 .f32) (t : Fin 32768) (c : Fin 64) :
    gateH l b (ix2 t c) = gate (fun c => l (ix2 t c)) (b (ix1 0)) c := by
  pointwise [gateH]
  unfold gate temp small Ideal.logistic
  congr

theorem softH_at (l : FVec Ideal S32768x64 .f32) (t : Fin 32768) (c : Fin 64) :
    softH l (ix2 t c) = soft (fun c => l (ix2 t c)) c := by
  have h (v : Fin 64 → EReal) : max negInf (top v) = top v := by rw [negInf_eq]; exact max_eq_right bot_le
  unfold soft
  rw [← h]
  pointwise [softH]
  rfl

/-- Adding up words of small numbers. -/
theorem fold_addi {n : ℕ} (f : Fin n → ℕ) (s : Finset (Fin n)) :
    s.fold IntOp.addi 0#32 (fun x => BitVec.ofNat 32 (f x)) = BitVec.ofNat 32 (∑ x ∈ s, f x) := by
  classical
  induction s using Finset.induction_on with
  | empty => rfl
  | insert i s hi ih => rw [Finset.fold_insert hi, ih, Finset.sum_insert hi, BitVec.ofNat_add]; rfl

theorem auxH_at (l : FVec Ideal S32768x64 .f32) (n : IVec S64 32) (f : Fin 64 → ℕ) (hf : ∀ x, f x ≤ 32768) (hn : ∀ x, n (ix1 x) = BitVec.ofNat 32 (f x)) :
    auxH l n ix0 = balance (fun k => ∑ t : Fin 32768, soft (fun c => l (ix2 t c)) k) f := by
  have hs : ∑ x : Fin 64, f x < 2 ^ 31 := lt_of_le_of_lt (Finset.sum_le_card_nsmul _ _ 32768 fun x _ => hf x) (by simp)
  pointwise [auxH]
  simp only [softH_at, hn, fold_addi, sitofp_nat hs, fun x => sitofp_nat (lt_of_le_of_lt (hf x) (by norm_num : 32768 < 2 ^ 31))]
  unfold balance
  rw [sum_nat]

end Cert.ReferenceIdeal.Plain
-- ==== Proof.RefArg.lean ====
/-
  The reference's experts.
-/
module

public import proofs.«01_k».proof.Proof.RefFlow
public import proofs.«01_k».proof.Proof.Spec
public import Idealize.ShloMosaic.Lib.Pointwise.Index

@[expose] public section

set_option maxRecDepth 16384

noncomputable section

namespace Cert.ReferenceIdeal.Plain

open Idealize.ShloMosaic
open Idealize.ShloMosaic.TcCoe
open Cert.ReferenceIdeal
open Cert.Route
open Facts₀ Facts

variable [Facts]

/-! ## The experts -/

/-- What a fold of the entries seen so far holds: the greatest of them, at its first place. -/
def Best (v : Fin 64 → EReal) (seen : Fin 64 → Prop) (p : EReal × BitVec 32) : Prop :=
  ∃ k : Fin 64, p.2 = BitVec.ofNat 32 k.val ∧ (p.1 = v k ∨ (p.1 = ⊥ ∧ k = 0)) ∧ ∀ c, seen c → v c ≤ p.1 ∧ (v c = p.1 → k ≤ c)

theorem slt_small {a b : ℕ} (ha : a ≤ 64) (hb : b ≤ 64) : IntOp.cmpi .slt (BitVec.ofNat 32 a) (BitVec.ofNat 32 b) = BitVec.ofBool (decide (a < b)) := by
  show BitVec.ofBool ((BitVec.ofNat 32 a).slt (BitVec.ofNat 32 b)) = _
  rw [BitVec.slt, toInt_small ha, toInt_small hb]
  congr 1
  simp

theorem best_step (v : Fin 64 → EReal) (seen : Fin 64 → Prop) (p : EReal × BitVec 32) (c : Fin 64) (h : Best v seen p) :
    Best v (fun c' => c' = c ∨ seen c') (reducer_argmax_f32_i32 (F := Ideal) p (v c, BitVec.ofNat 32 c.val)) := by
  obtain ⟨k, hk, hv, hs⟩ := h
  obtain ⟨a, i⟩ := p
  dsimp only at hk hv hs
  subst hk
  have hc := c.isLt
  have hk := k.isLt
  have key : reducer_argmax_f32_i32 (F := Ideal) (a, BitVec.ofNat 32 k.val) (v c, BitVec.ofNat 32 c.val)
      = (if v c < a then a else v c, if v c < a ∨ (a = v c ∧ k.val < c.val) then BitVec.ofNat 32 k.val else BitVec.ofNat 32 c.val) := by
    show (Scalar.select (IntOp.ori (Ideal.cmp .ogt a (v c)) (Ideal.cmp .une a a)) a (v c),
      Scalar.select (IntOp.ori (IntOp.ori (Ideal.cmp .ogt a (v c)) (Ideal.cmp .une a a))
        (IntOp.andi (Ideal.cmp .oeq a (v c)) (IntOp.cmpi .slt (BitVec.ofNat 32 k.val) (BitVec.ofNat 32 c.val)))) (BitVec.ofNat 32 k.val) (BitVec.ofNat 32 c.val)) = _
    rw [slt_small (Nat.le_of_lt hk) (Nat.le_of_lt hc)]
    unfold Ideal.cmp IntOp.ori IntOp.andi Scalar.select
    rcases lt_trichotomy (v c) a with h | h | h
    · simp [h, h.ne']
    · by_cases h3 : k.val < c.val <;> simp [h, h3]
    · simp [h.not_gt, h.ne]
  rw [key]
  rcases lt_trichotomy (v c) a with h | h | h
  · rw [if_pos h, if_pos (Or.inl h)]
    refine ⟨k, rfl, hv, ?_⟩
    rintro c' (rfl | hc')
    · exact ⟨h.le, fun e => absurd e h.ne⟩
    · exact hs c' hc'
  · subst h
    rw [if_neg (lt_irrefl _)]
    by_cases h3 : k.val < c.val
    · rw [if_pos (Or.inr ⟨rfl, h3⟩)]
      refine ⟨k, rfl, hv, ?_⟩
      rintro c' (rfl | hc')
      · exact ⟨le_rfl, fun _ => Fin.le_def.mpr h3.le⟩
      · exact hs c' hc'
    · rw [if_neg (by rintro (h | h); exacts [lt_irrefl _ h, h3 h.2])]
      refine ⟨c, rfl, Or.inl rfl, ?_⟩
      rintro c' (rfl | hc')
      · exact ⟨le_rfl, fun _ => le_rfl⟩
      · exact ⟨(hs c' hc').1, fun e => le_trans (Fin.le_def.mpr (Nat.le_of_not_lt h3)) ((hs c' hc').2 e)⟩
  · rw [if_neg h.not_gt, if_neg (by rintro (h' | h'); exacts [h.not_gt h', h.ne h'.1])]
    refine ⟨c, rfl, Or.inl rfl, ?_⟩
    rintro c' (rfl | hc')
    · exact ⟨le_rfl, fun _ => le_rfl⟩
    · exact ⟨(hs c' hc').1.trans h.le, fun e => absurd ((hs c' hc').1) (by rw [e]; exact h.not_ge)⟩

theorem best_fold (v : Fin 64 → EReal) (L : List (Fin 64)) (seen : Fin 64 → Prop) (p : EReal × BitVec 32) (h : Best v seen p) :
    Best v (fun c => c ∈ L ∨ seen c) ((L.map fun c => (v c, BitVec.ofNat 32 c.val)).foldl (reducer_argmax_f32_i32 (F := Ideal)) p) := by
  induction L generalizing seen p with
  | nil => simpa using h
  | cons c L ih =>
    have := ih _ _ (best_step v seen p c h)
    obtain ⟨k, h1, h2, h3⟩ := this
    exact ⟨k, h1, h2, fun c' hc' => h3 c' (by rcases hc' with hc' | hc' <;> simp_all [List.mem_cons]; tauto)⟩

theorem first_unique {v : Fin 64 → EReal} {c c' : Fin 64} (h : IsFirst v c) (h' : IsFirst v c') : c = c' := by
  rcases lt_trichotomy c c' with hl | hl | hl
  · exact absurd (h'.2 c hl) (h.1 c').not_gt
  · exact hl
  · exact absurd (h.2 c' hl) (h'.1 c).not_gt

theorem best_all (v : Fin 64 → EReal) (p : EReal × BitVec 32) (h : Best v (fun _ => True) p) : p.2 = BitVec.ofNat 32 (first v).val := by
  obtain ⟨k, hk, hv, hs⟩ := h
  have hv' : p.1 = v k := by
    rcases hv with hv | ⟨hv, rfl⟩
    · exact hv
    · exact le_antisymm (hv ▸ bot_le) (hs 0 trivial).1
  rw [hk, first_unique (first_spec v) (c' := k) ⟨fun c => hv' ▸ (hs c trivial).1, fun c hc => lt_of_le_of_ne (hv' ▸ (hs c trivial).1) fun e => ?_⟩]
  exact absurd ((hs c trivial).2 (e.trans hv'.symm)) (not_le.mpr hc)

/-- The column of a place in the array. -/
def col (n : Fin S32768x64.numel) : Fin 64 := S32768x64.rowMajor.symm n 1

theorem argH_at (s : FVec Ideal S32768x64 .f32) (t : Fin 32768) : argH s (ix1 t) = BitVec.ofNat 32 (first fun c => s (ix2 t c)).val := by
  have hd (n : Fin S32768x64.numel) : reducesTo_S32768x64_S32768_d1.drop (S32768x64.rowMajor.symm n) = ix1 t ↔ (S32768x64.rowMajor.symm n 0) = t := by
    have h0 : (reducesTo_S32768x64_S32768_d1.drop (S32768x64.rowMajor.symm n) 0 : ℕ) = (S32768x64.rowMajor.symm n) 0 := Shape.ReducesTo.drop_apply_val _ _ 0
    constructor
    · intro h
      rw [h] at h0
      exact Fin.ext h0.symm
    · intro h
      rw [eq_ix1 (reducesTo_S32768x64_S32768_d1.drop (S32768x64.rowMajor.symm n))]
      refine congrArg ix1 (Fin.ext (h0.trans ?_))
      rw [h]
  have hl : Host.argReduceFiber s (iotaInDim S32768x64 32 1) reducesTo_S32768x64_S32768_d1 (ix1 t)
      = ((((List.finRange S32768x64.numel).filter fun n => reducesTo_S32768x64_S32768_d1.drop (S32768x64.rowMajor.symm n) = ix1 t).map
          col).map fun c => (s (ix2 t c), BitVec.ofNat 32 c.val)) := by
    unfold Host.argReduceFiber
    rw [List.map_map]
    refine List.map_congr_left fun n hn => ?_
    have h0 := (hd n).mp (by simpa using (List.mem_filter.mp hn).2)
    have hi : S32768x64.rowMajor.symm n = ix2 t (col n) := (eq_ix2 _).trans (congrArg (fun a => ix2 a (col n)) h0)
    exact Prod.ext (congrArg s hi) rfl
  unfold argH
  rw [Ideal.argReduce_eq_reduce2, Host.reduce2_eq_foldl_fiber, hl]
  refine best_all _ _ ?_
  obtain ⟨k, h1, h2, h3⟩ := best_fold (fun c => s (ix2 t c)) ((((List.finRange S32768x64.numel).filter fun n => reducesTo_S32768x64_S32768_d1.drop (S32768x64.rowMajor.symm n) = ix1 t).map
          col)) (fun _ => False) (negInf, 0#32) ⟨0, rfl, Or.inr ⟨negInf_eq, rfl⟩, fun _ h => h.elim⟩
  refine ⟨k, h1, h2, fun c _ => h3 c (Or.inl (List.mem_map.mpr ⟨S32768x64.rowMajor (ix2 t c), List.mem_filter.mpr ⟨List.mem_finRange _, ?_⟩, ?_⟩))⟩
  · rw [decide_eq_true_eq, hd, Equiv.symm_apply_apply]
    exact rfl
  · unfold col
    rw [Equiv.symm_apply_apply]
    exact rfl

end Cert.ReferenceIdeal.Plain
-- ==== Proof.RefInts.lean ====
/-
  The reference's sort of the experts, and their counts.
-/
module

public import proofs.«01_k».proof.Proof.RefArg
public import proofs.«01_k».proof.Proof.Plan
public import Idealize.ShloMosaic.Lib.Pointwise
public import Idealize.ShloMosaic.Lib.Routing.OpsSet

@[expose] public section

set_option maxRecDepth 16384

noncomputable section

namespace Cert.ReferenceIdeal.Plain

open Idealize.ShloMosaic
open Idealize.ShloMosaic.TcCoe
open Cert.ReferenceIdeal
open Cert.Route Cert.Counting
open Cert.KernelIdeal.Sort (cnt toks toks_eq tokAt tokAt_pos A9 exists_pos)
open Facts₀ Facts

variable [Facts]

/-! ## The sort and the counts -/

variable (e : IVec S32768 32) (E : ℕ → BitVec 32) (he : ∀ t : Fin 32768, e (ix1 t) = E t.val) (hE : ∀ t, (E t).toNat < 64)

theorem cmpi_slt_small {a b : BitVec 32} (ha : a.toNat < 64) (hb : b.toNat < 64) :
    (IntOp.cmpi .slt a b == 1#1) = decide (a.toNat < b.toNat) := by
  have h := slt_small (Nat.le_of_lt ha) (Nat.le_of_lt hb)
  rw [BitVec.ofNat_toNat, BitVec.ofNat_toNat, BitVec.setWidth_eq, BitVec.setWidth_eq] at h
  rw [h]
  by_cases h : a.toNat < b.toNat <;> simp [h]

include he hE

theorem sortH_eq : sortH e = A9 E := by
  funext j
  have hj : (j 0).val < toks := (j 0).isLt
  obtain ⟨t, ht, hp⟩ := exists_pos (e := E) (fun t _ => hE t) hj
  unfold A9
  rw [← hp, tokAt_pos E ht]
  have ha (k : Fin 32768) : j.along (0 : Fin 1) k = ix1 k := (Shape.Idx.along_rank1 j k).trans (Routing.ofFin_eq_ix1 k)
  let R : Fin 32768 → Fin 32768 → Bool := fun k k' =>
    comparator_i32_i32_d0 (e (j.along (0 : Fin 1) k), iotaInDim S32768 32 0 (j.along (0 : Fin 1) k))
      (e (j.along (0 : Fin 1) k'), iotaInDim S32768 32 0 (j.along (0 : Fin 1) k')) == 1#1
  have hR (k k' : Fin 32768) : R k k' = decide ((E k.val).toNat < (E k'.val).toNat) := by
    show (IntOp.cmpi .slt (e (j.along (0 : Fin 1) k)) (e (j.along (0 : Fin 1) k')) == 1#1) = _
    rw [ha, ha, he, he]
    exact cmpi_slt_small (hE _) (hE _)
  have hs := sortedFrom_pos 32768 E (fun t _ => hE t) R hR ⟨t, ht⟩
  have hq : (⟨pos 32768 E t, pos_lt 32768 E ht⟩ : Fin 32768) = j 0 := Fin.ext hp
  rw [hq] at hs
  unfold sortH Host.sort2
  rw [dif_pos (by decide)]
  show iotaInDim S32768 32 0 (j.along (0 : Fin 1) (sortedFrom R (j 0))) = _
  refine (congrArg (fun k : Fin 32768 => iotaInDim S32768 32 0 (j.along (0 : Fin 1) k)) hs).trans ?_
  rw [ha]
  rfl

omit he hE in
/-- Where an update of the counts lands. -/
theorem lands (idx : IVec S32768x1 32) (i : Fin 32768) (c : Fin 64) :
    scatter_S64_S32768x1_S32768_n_0_0_1.resultIdx? (ix1 i) idx = some (ix1 c) ↔ (idx (ix2 i 0)).toInt = (c.val : Int) := by
  have hs : scatter_S64_S32768x1_S32768_n_0_0_1.start (ix1 i) idx 0 = (idx (ix2 i 0)).toInt := by
    unfold ScatterDims.start
    rw [dif_pos (by decide)]
    congr 2
    exact eq_ix2 _
  have hw : scatter_S64_S32768x1_S32768_n_0_0_1.window (ix1 i) 0 = 0 := rfl
  rw [Routing.resultIdx?_eq_some]
  constructor
  · intro h
    have h0 := h 0
    rw [hs, hw] at h0
    exact (Int.add_zero _).symm.trans h0
  · intro h q
    obtain rfl : q = 0 := Subsingleton.elim _ _
    rw [hs, hw]
    exact (Int.add_zero _).trans h

omit he hE in
theorem word_at (x : BitVec 32) (h : x.toNat < 64) :
    Scalar.select (IntOp.cmpi .slt (IntOp.maxsi 0#32 x) 0#32) (IntOp.addi (IntOp.maxsi 0#32 x) 64#32) (IntOp.maxsi 0#32 x) = x := by
  obtain ⟨k, rfl⟩ : ∃ k : Fin 64, x = BitVec.ofNat 32 k.val := ⟨⟨x.toNat, h⟩, by simp⟩
  revert k
  decide

omit he hE in
/-- The places the counts are added at. -/
def idxH : IVec S32768x1 32 :=
  let c : IVec S32768 32 := maxsi (broadcastInDim S32768 ![] bcast_S_S32768 (constantI S_ 32 0#32)) e
  broadcastInDim S32768x1 ![0] bcast_S32768_S32768x1_0
    (select (cmpi .slt c (broadcastInDim S32768 ![] bcast_S_S32768 (constantI S_ 32 0#32)))
      (addi c (broadcastInDim S32768 ![] bcast_S_S32768 (constantI S_ 32 64#32))) c)

theorem histH_at (c : Fin 64) : histH e (ix1 c) = BitVec.ofNat 32 (cnt E toks (BitVec.ofNat 32 c.val)) := by
  have hidx (i : Fin 32768) : idxH e (ix2 i 0) = E i.val := by
    pointwise [idxH]
    rw [he]
    exact word_at _ (hE _)
  refine (Routing.scatter_at scatter_S64_S32768x1_S32768_n_0_0_1 IntOp.addi _ (idxH e) _ (ix1 c)).trans ?_
  generalize idxH e = idx at hidx ⊢
  have hc := c.isLt
  have key : ∀ (L : List (Fin S32768.numel)) (n : ℕ), L.foldl (fun a n =>
      if scatter_S64_S32768x1_S32768_n_0_0_1.resultIdx? (S32768.rowMajor.symm n) idx = some (ix1 c)
      then IntOp.addi a ((broadcastInDim S32768 ![] bcast_S_S32768 (constantI S_ 32 1#32) : IVec S32768 32) (S32768.rowMajor.symm n)) else a) (BitVec.ofNat 32 n)
      = BitVec.ofNat 32 (n + L.countP fun n => decide (E n.val = BitVec.ofNat 32 c.val)) := by
    intro L
    induction L with
    | nil => intro n; rfl
    | cons x L ih =>
      intro n
      rw [List.foldl_cons, List.countP_cons]
      have hx : scatter_S64_S32768x1_S32768_n_0_0_1.resultIdx? (S32768.rowMajor.symm x) idx = some (ix1 c) ↔ E x.val = BitVec.ofNat 32 c.val := by
        rw [show S32768.rowMajor.symm x = ix1 (x.cast (Routing.numel1 32768)) from Routing.symm1 x, lands, hidx]
        have h := hE x.val
        rw [BitVec.toInt_eq_toNat_of_lt (by show 2 * (E x.val).toNat < _; omega)]
        constructor
        · intro h'
          have h'' : (E x.val).toNat = c.val := by exact_mod_cast h'
          rw [← h'']
          simp
        · intro h'
          show ((E x.val).toNat : Int) = _
          rw [h', BitVec.toNat_ofNat, Nat.mod_eq_of_lt (by omega)]
      by_cases h : E x.val = BitVec.ofNat 32 c.val
      · rw [if_pos (hx.mpr h), if_pos (decide_eq_true h)]
        refine Eq.trans ?_ ((ih (n + 1)).trans (by rw [Nat.add_assoc, Nat.add_comm 1]))
        congr 1
        exact (BitVec.ofNat_add n 1).symm
      · rw [if_neg fun h' => h (hx.mp h'), if_neg (by simpa using h)]
        exact ih n
  refine (key (List.finRange S32768.numel) 0).trans ?_
  rw [Routing.countP_finRange _ fun n => E n = BitVec.ofNat 32 c.val, Nat.zero_add, Nat.count_eq_card_filter_range]
  rw [show S32768.numel = toks from Routing.numel1 32768]
  rfl

end Cert.ReferenceIdeal.Plain
-- ==== Proof.RefVals.lean ====
/-
  The reference's results, from its arguments.
-/
module

public import proofs.«01_k».proof.Proof.RefFloats
public import proofs.«01_k».proof.Proof.RefInts

@[expose] public section

set_option maxRecDepth 16384

noncomputable section

namespace Cert.ReferenceIdeal.Plain

open Idealize.ShloMosaic
open Idealize.ShloMosaic.TcCoe
open Idealize.ShloMosaic.StableHlo
open Cert.ReferenceIdeal
open Cert.Route
open Cert.KernelIdeal.Sort (cnt toks toks_eq A9)
open Facts₀ Facts

variable [Facts]
variable (V : Valuation τ sig (Elt Ideal))
variable {X : Fin 32768 → Fin 4096 → EReal} {W : Fin 512 → Fin 4096 → EReal} {G : Fin 64 → Fin 512 → EReal} {b : EReal}
  (hX : ∀ n i, (V (main_arg0 : DevRef τ sig) : FVec Ideal S32768x4096 .f32) (ix2 n i) = X n i)
  (hW : ∀ n i, (V (main_arg1 : DevRef τ sig) : FVec Ideal S512x4096 .f32) (ix2 n i) = W n i)
  (hG : ∀ n i, (V (main_arg2 : DevRef τ sig) : FVec Ideal S64x512 .f32) (ix2 n i) = G n i)
  (hb : (V (main_arg3 : DevRef τ sig) : FVec Ideal S1 .f32) (ix1 0) = b)

include hX hW hG

theorem logit_row (t : Fin 32768) :
    (fun c => logitH (F := Ideal) (V (main_arg0 : DevRef τ sig)) (V (main_arg1 : DevRef τ sig)) (V (main_arg2 : DevRef τ sig)) (ix2 t c)) = lg X W G t.val := by
  have ht : Route.tok t.val = t := Fin.ext (Nat.mod_eq_of_lt t.isLt)
  funext c
  rw [logitH_at]
  unfold lg
  simp only [hX, hW, hG, ht]

include hb

theorem expert_at (t : Fin 32768) :
    argH (gateH (F := Ideal) (logitH (F := Ideal) (V (main_arg0 : DevRef τ sig)) (V (main_arg1 : DevRef τ sig)) (V (main_arg2 : DevRef τ sig))) (V (main_arg3 : DevRef τ sig))) (ix1 t)
      = eid X W G b t.val := by
  rw [argH_at]
  simp only [gateH_at, logit_row V hX hW hG, hb]
  rfl

omit hX hW hG hb in
/-- The number of tokens of an expert is at most that of all. -/
theorem cnt_le (e : ℕ → BitVec 32) (v : BitVec 32) : cnt e toks v ≤ 32768 :=
  le_trans (Finset.card_filter_le _ _) (le_of_eq ((Finset.card_range _).trans toks_eq))

theorem values :
    after ops V (main_v73 : DevRef τ sig) = (fun _ => balance (fun k => ∑ t ∈ Finset.range toks, soft (lg X W G t) k)
        fun x => cnt (eid X W G b) toks (BitVec.ofNat 32 x.val) : S_.Idx → EReal)
    ∧ after ops V (main_v39 : DevRef τ sig) = A9 (eid X W G b)
    ∧ after ops V (main_v74 : DevRef τ sig) = (fun x => BitVec.ofNat 32 (cnt (eid X W G b) toks (BitVec.ofNat 32 (x 1).val)) : S1x64.Idx → BitVec 32)
    ∧ after ops V (main_v75 : DevRef τ sig) = (fun x => BitVec.ofNat 32 (cnt (eid X W G b) toks (BitVec.ofNat 32 (x 1).val)) : S1x64.Idx → BitVec 32) := by
  obtain ⟨l, hl, h1, h2, h3, h4⟩ := results V
  obtain rfl := kept V l hl
  rw [h1, h2, h3, h4]
  have he := expert_at V hX hW hG hb
  have hE := eid_lt X W G b
  have hr := logit_row V hX hW hG
  generalize logitH (F := Ideal) _ _ _ = L at he hr ⊢
  generalize argH (gateH L _) = e at he ⊢
  have hn := histH_at e _ he hE
  have hout : (shapeCast S1x64 (histH e) shapeCasts_S64_S1x64 : S1x64.Idx → BitVec 32)
      = fun x => BitVec.ofNat 32 (cnt (eid X W G b) toks (BitVec.ofNat 32 (x 1).val)) := by
    funext x
    obtain ⟨a, c, rfl⟩ : ∃ (a : Fin 1) (c : Fin 64), x = ix2 a c := ⟨x 0, x 1, eq_ix2 x⟩
    pointwise
    exact hn c
  refine ⟨?_, sortH_eq e _ he hE, hout, hout⟩
  funext j
  obtain rfl : j = ix0 := funext fun a => a.elim0
  rw [auxH_at L _ (fun x => cnt (eid X W G b) toks (BitVec.ofNat 32 x.val)) (fun x => cnt_le _ _) hn]
  simp only [hr]
  refine congrArg (fun S => balance S _) (funext fun k => ?_)
  exact (Finset.sum_range fun t => soft (lg X W G t) k).symm.trans (by rw [toks_eq])

end Cert.ReferenceIdeal.Plain
-- ==== Proof.lean ====
module

public import proofs.«01_k».proof.Defs
public import proofs.«01_k».proof.Proof.Result
public import proofs.«01_k».proof.Proof.RefVals

@[expose] public section

noncomputable section

namespace Cert.Proof

open Idealize.ShloMosaic Idealize.SL.Sem

section
open Cert.KernelIdeal Cert.KernelIdeal.Sort

variable [Cert.KernelIdeal.Facts] (m : (ℓ : Loc nD τ sig) → Buf (Elt Ideal) ℓ) (g : Dev nD → PrngReg)

/-- What the kernel leaves: its results and its arguments. -/
theorem kernel_run : θ_run (Cert.KernelIdeal.defs (F := Ideal)) (Cert.KernelIdeal.threads (F := Ideal)) ⟨m, fun _ => 0, g⟩ fun r =>
    (∀ c : Dev nD, r.2.mem ((c.tc : Thread nD τ).loc main_v10) = (fun _ => laux m c)
      ∧ r.2.mem ((c.tc : Thread nD τ).loc main_v9) = A9 (E m c)
      ∧ r.2.mem ((c.tc : Thread nD τ).loc main_v1_2) = T6 m c
      ∧ ∀ b ∈ [main_arg0, main_arg1, main_arg2, main_arg3], r.2.mem ((c.tc : Thread nD τ).loc b) = m ((c.tc : Thread nD τ).loc b))
    ∧ r.2.sem = fun _ => 0 := by
  refine (θ_run _ _ _).mono (fun r h => ⟨fun c => ⟨?_, ?_, ?_, ?_⟩, h.2⟩) (run_ideal m g)
  · exact (h.1 c (Proc.devRef .tc main_v10) (by decide)).trans (W10_10 m c)
  · exact (h.1 c (Proc.devRef .tc main_v9) (by decide)).trans (W10_9 m c)
  · exact (h.1 c (Proc.devRef .tc main_v1_2) (by decide)).trans (W10_q2 m c)
  · intro b hb
    refine (h.1 c (Proc.devRef .tc b) ?_).trans (W10_arg m c _ ?_) <;>
    · simp only [List.mem_cons, List.not_mem_nil, or_false] at hb
      rcases hb with rfl | rfl | rfl | rfl <;> decide

end

section
open Cert.ReferenceIdeal Cert.ReferenceIdeal.Plain

variable [Cert.ReferenceIdeal.Facts] (m : (ℓ : Loc nD τ sig) → Buf (Elt Ideal) ℓ) (c : Dev nD)

theorem launch_at (b : Ref sig .tc) : StableHlo.launchContents m c (Proc.devRef .tc b) = m ((c.tc : Thread nD τ).loc b) := rfl

end

theorem claim : Cert.Claim := ⟨Cert.KernelIdeal.Gen.facts, Cert.ReferenceIdeal.Gen.facts, by
  letI := Cert.KernelIdeal.Gen.facts
  letI := Cert.ReferenceIdeal.Gen.facts
  refine ⟨fun m g _ => ?_, fun m g _ => ?_, fun m g m' g' _ h => ?_⟩
  · refine (θ_run _ _ _).mono (fun r hr => ⟨fun c => ?_, hr.2⟩) (kernel_run m g)
    obtain ⟨-, -, -, ha⟩ := hr.1 c
    exact ⟨ha _ (by simp), ha _ (by simp), ha _ (by simp), ha _ (by simp)⟩
  · refine (θ_run _ _ _).mono (fun r hr => ⟨fun c => ?_, hr.2⟩) (Cert.ReferenceIdeal.Plain.run_main m g)
    have ha (b : Ref Cert.ReferenceIdeal.sig .tc) (hb : b ∈ Cert.ReferenceIdeal.Plain.args) := (hr.1 c b).trans (Cert.ReferenceIdeal.Plain.args_eq _ b hb)
    exact ⟨ha _ (by simp [Cert.ReferenceIdeal.Plain.args]), ha _ (by simp [Cert.ReferenceIdeal.Plain.args]), ha _ (by simp [Cert.ReferenceIdeal.Plain.args]),
      ha _ (by simp [Cert.ReferenceIdeal.Plain.args])⟩
  · refine ⟨fun c _ => Cert.KernelIdeal.Sort.laux m c, fun c => Cert.KernelIdeal.Sort.A9 (Cert.KernelIdeal.Sort.E m c), fun c => Cert.KernelIdeal.Sort.T6 m c,
      fun c => Cert.KernelIdeal.Sort.T6 m c, ?_, ?_⟩
    · refine (θ_run _ _ _).mono (fun r hr c => ?_) (kernel_run m g)
      obtain ⟨h0, h1, h2, ha⟩ := hr.1 c
      exact ⟨h0, h1, h2, h2, ha _ (by simp), ha _ (by simp), ha _ (by simp), ha _ (by simp)⟩
    · refine (θ_run _ _ _).mono (fun r hr c => ?_) (Cert.ReferenceIdeal.Plain.run_main m' g')
      obtain ⟨e0, e1, e2, e3⟩ := h c
      have ha (b : Ref Cert.ReferenceIdeal.sig .tc) (hb : b ∈ Cert.ReferenceIdeal.Plain.args) := (hr.1 c b).trans (Cert.ReferenceIdeal.Plain.args_eq _ b hb)
      obtain ⟨h0, h1, h2, h3⟩ := Cert.ReferenceIdeal.Plain.values (StableHlo.launchContents m' c) (X := Cert.KernelIdeal.Sort.aX m c)
        (W := Cert.KernelIdeal.Sort.aW m c) (G := Cert.KernelIdeal.Sort.aG m c) (b := Cert.KernelIdeal.Sort.aB m c)
        (fun n i => congrFun e0 (ix2 n i)) (fun n i => congrFun e1 (ix2 n i)) (fun n i => congrFun e2 (ix2 n i)) (congrFun e3 (ix1 0))
      exact ⟨(hr.1 c _).trans h0, (hr.1 c _).trans h1, (hr.1 c _).trans h2, (hr.1 c _).trans h3,
        ha _ (by simp [Cert.ReferenceIdeal.Plain.args]), ha _ (by simp [Cert.ReferenceIdeal.Plain.args]), ha _ (by simp [Cert.ReferenceIdeal.Plain.args]),
        ha _ (by simp [Cert.ReferenceIdeal.Plain.args])⟩⟩

end Cert.Proof

end
